-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![1024]⟩ ⟨1, ![2048]⟩ (Layout.meshBlock [2, 2] ![[1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 1024, 2048]⟩ ⟨3, ![4, 1024, 2048]⟩ (Layout.meshBlock [2, 2] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 2048, 1024]⟩ ⟨3, ![4, 2048, 1024]⟩ (Layout.meshBlock [2, 2] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![1024, 1024]⟩ ⟨2, ![2048, 1024]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024 : Shape := ⟨1, ![1024]⟩
abbrev S2x1024x2048 : Shape := ⟨3, ![2, 1024, 2048]⟩
abbrev S2x2048x1024 : Shape := ⟨3, ![2, 2048, 1024]⟩
abbrev S1024x1 : Shape := ⟨2, ![1024, 1]⟩
abbrev S1x1024x1024 : Shape := ⟨3, ![1, 1024, 1024]⟩
abbrev S512x1024 : Shape := ⟨2, ![512, 1024]⟩
abbrev S512x1 : Shape := ⟨2, ![512, 1]⟩
abbrev S256x2048 : Shape := ⟨2, ![256, 2048]⟩
abbrev S8 : Shape := ⟨1, ![8]⟩
abbrev S_ : Shape := ⟨0, ![]⟩
abbrev S1 : Shape := ⟨1, ![1]⟩
abbrev S256x1024 : Shape := ⟨2, ![256, 1024]⟩
abbrev S256x1 : Shape := ⟨2, ![256, 1]⟩
abbrev S1x2048x1024 : Shape := ⟨3, ![1, 2048, 1024]⟩
abbrev S2048x1024 : Shape := ⟨2, ![2048, 1024]⟩

abbrev nBuf : Space → Nat
  | .hbm => 6
  | .vmem => 20
  | .smem => 0
  | _ => 0

abbrev bufTy : (tb : Table) → Fin (tcTables nBuf tb) → BufTy
  | .hbm, ⟨0, _⟩ => ⟨S1024x1024, .f32⟩
  | .hbm, ⟨1, _⟩ => ⟨S1024, .i32⟩
  | .hbm, ⟨2, _⟩ => ⟨S2x1024x2048, .f32⟩
  | .hbm, ⟨3, _⟩ => ⟨S2x2048x1024, .f32⟩
  | .hbm, ⟨4, _⟩ => ⟨S1024x1, .i32⟩
  | .hbm, ⟨5, _⟩ => ⟨S1024x1024, .f32⟩
  | .local _ .vmem, ⟨0, _⟩ => ⟨S1024x1024, .f32⟩
  | .local _ .vmem, ⟨1, _⟩ => ⟨S1024x1, .i32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | .local _ .vmem, ⟨7, _⟩ => ⟨S512x1024, .bf16⟩
  | .local _ .vmem, ⟨8, _⟩ => ⟨S512x1024, .bf16⟩
  | .local _ .vmem, ⟨9, _⟩ => ⟨S512x1, .i32⟩
  | .local _ .vmem, ⟨10, _⟩ => ⟨S512x1, .i32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S2x1024x2048, .bf16⟩
  | .local _ .vmem, ⟨18, _⟩ => ⟨S2x2048x1024, .bf16⟩
  | .local _ .vmem, ⟨19, _⟩ => ⟨S256x2048, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_scratch10 : Ref sig .tc := ⟨.vmem, 17, rfl⟩
abbrev cc0_scratch11 : Ref sig .tc := ⟨.vmem, 18, rfl⟩
abbrev cc0_scratch12 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev barrier0 : Sem sig := 0

abbrev nD : Nat := 4
abbrev τ : Topo := Topo.v7x

variable {F : FTy → Type} [FloatOps F]

abbrev grid0 : Pipeline.Grid := ⟨4, ![2, 2, 2, 2], ![false, false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let arg3 : BitVec 32 := BitVec.ofNat 32 (i 3).val
  let c0_i32_2 : BitVec 32 := 0#32
  let v5 : BitVec 1 := Scalar.cmpi .eq arg3 c0_i32_2
  let v6 : BitVec 1 := Scalar.andi v4 v5
  let v27 : BitVec 32 := Scalar.extui v6
  let c0_i32_15 : BitVec 32 := 0#32
  let v28 : BitVec 1 := Scalar.cmpi .ne v27 c0_i32_15
  v28

def k0_dev1 (d14 : Dev nD) : Nat :=
  let c0_i32_29 : BitVec 32 := 0#32
  let c1_i32_9 : BitVec 32 := 1#32
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let v20 : BitVec 32 := Scalar.subi c1_i32_9 v16
  let c2_i32_28 : BitVec 32 := 2#32
  let v54 : BitVec 32 := Scalar.muli v20 c2_i32_28
  let v55 : BitVec 32 := Scalar.addi c0_i32_29 v54
  let v17 : BitVec 32 := Dev.word d14
  let c1_i32_8 : BitVec 32 := 1#32
  let v18 : BitVec 32 := Scalar.divsi v17 c1_i32_8
  let c2_i32_7 : BitVec 32 := 2#32
  let v19 : BitVec 32 := Scalar.remsi v18 c2_i32_7
  let c1_i32_30 : BitVec 32 := 1#32
  let v56 : BitVec 32 := Scalar.muli v19 c1_i32_30
  let v57 : BitVec 32 := Scalar.addi v55 v56
  v57.toNat
def k0_dev2 (d14 : Dev nD) : Nat :=
  let c0_i32_33 : BitVec 32 := 0#32
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let c2_i32_32 : BitVec 32 := 2#32
  let v58 : BitVec 32 := Scalar.muli v16 c2_i32_32
  let v59 : BitVec 32 := Scalar.addi c0_i32_33 v58
  let c1_i32_10 : BitVec 32 := 1#32
  let v17 : BitVec 32 := Dev.word d14
  let c1_i32_8 : BitVec 32 := 1#32
  let v18 : BitVec 32 := Scalar.divsi v17 c1_i32_8
  let c2_i32_7 : BitVec 32 := 2#32
  let v19 : BitVec 32 := Scalar.remsi v18 c2_i32_7
  let v21 : BitVec 32 := Scalar.subi c1_i32_10 v19
  let c1_i32_34 : BitVec 32 := 1#32
  let v60 : BitVec 32 := Scalar.muli v21 c1_i32_34
  let v61 : BitVec 32 := Scalar.addi v59 v60
  v61.toNat
def k0_dev3 (d14 : Dev nD) : Nat :=
  let c0_i32_37 : BitVec 32 := 0#32
  let c1_i32_11 : BitVec 32 := 1#32
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let v22 : BitVec 32 := Scalar.subi c1_i32_11 v16
  let c2_i32_36 : BitVec 32 := 2#32
  let v62 : BitVec 32 := Scalar.muli v22 c2_i32_36
  let v63 : BitVec 32 := Scalar.addi c0_i32_37 v62
  let c1_i32_12 : BitVec 32 := 1#32
  let v17 : BitVec 32 := Dev.word d14
  let c1_i32_8 : BitVec 32 := 1#32
  let v18 : BitVec 32 := Scalar.divsi v17 c1_i32_8
  let c2_i32_7 : BitVec 32 := 2#32
  let v19 : BitVec 32 := Scalar.remsi v18 c2_i32_7
  let v23 : BitVec 32 := Scalar.subi c1_i32_12 v19
  let c1_i32_38 : BitVec 32 := 1#32
  let v64 : BitVec 32 := Scalar.muli v23 c1_i32_38
  let v65 : BitVec 32 := Scalar.addi v63 v64
  v65.toNat
def k0_off1 (d14 : Dev nD) : Fin 2 → Nat :=
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let c512_i32 : BitVec 32 := 512#32
  let v24 : BitVec 32 := Scalar.muli v16 c512_i32
  let v66 : Index := Scalar.indexCast v24
  let c0_39 : Index := 0#32
  ![v66.toNat, 0]
def k0_off2 (d14 : Dev nD) : Fin 2 → Nat :=
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let c512_i32 : BitVec 32 := 512#32
  let v24 : BitVec 32 := Scalar.muli v16 c512_i32
  let v73 : Index := Scalar.indexCast v24
  let c0_42 : Index := 0#32
  ![v73.toNat, 0]
def k0_dev4 (d14 : Dev nD) : Nat :=
  let c0_i32_48 : BitVec 32 := 0#32
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let c2_i32_47 : BitVec 32 := 2#32
  let v79 : BitVec 32 := Scalar.muli v16 c2_i32_47
  let v80 : BitVec 32 := Scalar.addi c0_i32_48 v79
  let c1_i32_10 : BitVec 32 := 1#32
  let v17 : BitVec 32 := Dev.word d14
  let c1_i32_8 : BitVec 32 := 1#32
  let v18 : BitVec 32 := Scalar.divsi v17 c1_i32_8
  let c2_i32_7 : BitVec 32 := 2#32
  let v19 : BitVec 32 := Scalar.remsi v18 c2_i32_7
  let v21 : BitVec 32 := Scalar.subi c1_i32_10 v19
  let c1_i32_49 : BitVec 32 := 1#32
  let v81 : BitVec 32 := Scalar.muli v21 c1_i32_49
  let v82 : BitVec 32 := Scalar.addi v80 v81
  v82.toNat
def k0_dev5 (d14 : Dev nD) : Nat :=
  let c0_i32_53 : BitVec 32 := 0#32
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let c2_i32_52 : BitVec 32 := 2#32
  let v87 : BitVec 32 := Scalar.muli v16 c2_i32_52
  let v88 : BitVec 32 := Scalar.addi c0_i32_53 v87
  let c1_i32_10 : BitVec 32 := 1#32
  let v17 : BitVec 32 := Dev.word d14
  let c1_i32_8 : BitVec 32 := 1#32
  let v18 : BitVec 32 := Scalar.divsi v17 c1_i32_8
  let c2_i32_7 : BitVec 32 := 2#32
  let v19 : BitVec 32 := Scalar.remsi v18 c2_i32_7
  let v21 : BitVec 32 := Scalar.subi c1_i32_10 v19
  let c1_i32_54 : BitVec 32 := 1#32
  let v89 : BitVec 32 := Scalar.muli v21 c1_i32_54
  let v90 : BitVec 32 := Scalar.addi v88 v89
  v90.toNat
def k0_cond2 (i : grid0.Coords) : BitVec 1 :=
  let arg0 : BitVec 32 := BitVec.ofNat 32 (i 0).val
  let c0_i32_17 : BitVec 32 := 0#32
  let v32 : BitVec 1 := Scalar.cmpi .eq arg0 c0_i32_17
  let arg1 : BitVec 32 := BitVec.ofNat 32 (i 1).val
  let c0_i32_18 : BitVec 32 := 0#32
  let v33 : BitVec 1 := Scalar.cmpi .eq arg1 c0_i32_18
  let v34 : BitVec 1 := Scalar.andi v32 v33
  let v35 : BitVec 32 := Scalar.extui v34
  let c0_i32_19 : BitVec 32 := 0#32
  let v36 : BitVec 1 := Scalar.cmpi .ne v35 c0_i32_19
  v36

def k0_off3 (i : grid0.Coords) : Fin 3 → Nat :=
  let arg2 : BitVec 32 := BitVec.ofNat 32 (i 2).val
  let v56 : Index := Scalar.indexCast arg2
  let c0_30 : Index := 0#32
  let arg3 : BitVec 32 := BitVec.ofNat 32 (i 3).val
  let c1024_i32 : BitVec 32 := 1024#32
  let v31 : BitVec 32 := Scalar.muli arg3 c1024_i32
  let v57 : Index := Scalar.indexCast v31
  ![v56.toNat, 0, v57.toNat]
def k0_off4 (i : grid0.Coords) : Fin 3 → Nat :=
  let arg2 : BitVec 32 := BitVec.ofNat 32 (i 2).val
  let v64 : Index := Scalar.indexCast arg2
  let arg3 : BitVec 32 := BitVec.ofNat 32 (i 3).val
  let c1024_i32 : BitVec 32 := 1024#32
  let v31 : BitVec 32 := Scalar.muli arg3 c1024_i32
  let v65 : Index := Scalar.indexCast v31
  let c0_34 : Index := 0#32
  ![v64.toNat, v65.toNat, 0]
def k0_off5 (i : grid0.Coords) : Fin 3 → Nat :=
  let arg2 : BitVec 32 := BitVec.ofNat 32 (i 2).val
  let v37 : Index := Scalar.indexCast arg2
  let c0 : Index := 0#32
  let arg3 : BitVec 32 := BitVec.ofNat 32 (i 3).val
  let c1024_i32 : BitVec 32 := 1024#32
  let v31 : BitVec 32 := Scalar.muli arg3 c1024_i32
  let v38 : Index := Scalar.indexCast v31
  ![v37.toNat, 0, v38.toNat]
def k0_cond3 (i : grid0.Coords) : BitVec 1 :=
  let arg0 : BitVec 32 := BitVec.ofNat 32 (i 0).val
  let c0_i32_22 : BitVec 32 := 0#32
  let v45 : BitVec 1 := Scalar.cmpi .eq arg0 c0_i32_22
  let v46 : BitVec 32 := Scalar.extui v45
  let c0_i32_23 : BitVec 32 := 0#32
  let v47 : BitVec 1 := Scalar.cmpi .ne v46 c0_i32_23
  v47

def k0_off6 (i : grid0.Coords) : Fin 2 → Nat :=
  let arg1 : BitVec 32 := BitVec.ofNat 32 (i 1).val
  let c256_i32 : BitVec 32 := 256#32
  let v41 : BitVec 32 := Scalar.muli arg1 c256_i32
  let v53 : Index := Scalar.indexCast v41
  let c0_27 : Index := 0#32
  ![v53.toNat, 0]
def k0_off7 (i : grid0.Coords) (d14 : Dev nD) : Fin 2 → Nat :=
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let c512_i32_20 : BitVec 32 := 512#32
  let v42 : BitVec 32 := Scalar.muli v16 c512_i32_20
  let arg1 : BitVec 32 := BitVec.ofNat 32 (i 1).val
  let c256_i32_21 : BitVec 32 := 256#32
  let v43 : BitVec 32 := Scalar.muli arg1 c256_i32_21
  let v44 : BitVec 32 := Scalar.addi v42 v43
  let v55 : Index := Scalar.indexCast v44
  let c0_28 : Index := 0#32
  ![v55.toNat, 0]
def k0_off8 (i : grid0.Coords) : Fin 2 → Nat :=
  let c0_30 : Index := 0#32
  let arg3 : BitVec 32 := BitVec.ofNat 32 (i 3).val
  let c1024_i32 : BitVec 32 := 1024#32
  let v31 : BitVec 32 := Scalar.muli arg3 c1024_i32
  let v64 : Index := Scalar.indexCast v31
  ![0, v64.toNat]
def k0_cond4 (i : grid0.Coords) : BitVec 1 :=
  let arg3 : BitVec 32 := BitVec.ofNat 32 (i 3).val
  let c1_i32_31 : BitVec 32 := 1#32
  let v68 : BitVec 1 := Scalar.cmpi .eq arg3 c1_i32_31
  let v69 : BitVec 32 := Scalar.extui v68
  let c0_i32_32 : BitVec 32 := 0#32
  let v70 : BitVec 1 := Scalar.cmpi .ne v69 c0_i32_32
  v70

def k0_off9 (i : grid0.Coords) : Fin 3 → Nat :=
  let arg2 : BitVec 32 := BitVec.ofNat 32 (i 2).val
  let v74 : Index := Scalar.indexCast arg2
  let c0_36 : Index := 0#32
  let c0_37 : Index := 0#32
  ![v74.toNat, 0, 0]
def k0_cond5 (i : grid0.Coords) : BitVec 1 :=
  let arg2 : BitVec 32 := BitVec.ofNat 32 (i 2).val
  let c0_i32_40 : BitVec 32 := 0#32
  let v82 : BitVec 1 := Scalar.cmpi .eq arg2 c0_i32_40
  let v83 : BitVec 32 := Scalar.extui v82
  let c0_i32_41 : BitVec 32 := 0#32
  let v84 : BitVec 1 := Scalar.cmpi .ne v83 c0_i32_41
  v84

def k0_off10 (i : grid0.Coords) (d14 : Dev nD) : Fin 2 → Nat :=
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let c512_i32_20 : BitVec 32 := 512#32
  let v42 : BitVec 32 := Scalar.muli v16 c512_i32_20
  let arg1 : BitVec 32 := BitVec.ofNat 32 (i 1).val
  let c256_i32_21 : BitVec 32 := 256#32
  let v43 : BitVec 32 := Scalar.muli arg1 c256_i32_21
  let v44 : BitVec 32 := Scalar.addi v42 v43
  let v88 : Index := Scalar.indexCast v44
  let c0_44 : Index := 0#32
  ![v88.toNat, 0]
def k0_cond6 (i : grid0.Coords) : BitVec 1 :=
  let arg2 : BitVec 32 := BitVec.ofNat 32 (i 2).val
  let c0_i32_42 : BitVec 32 := 0#32
  let v85 : BitVec 1 := Scalar.cmpi .ne arg2 c0_i32_42
  let v86 : BitVec 32 := Scalar.extui v85
  let c0_i32_43 : BitVec 32 := 0#32
  let v87 : BitVec 1 := Scalar.cmpi .ne v86 c0_i32_43
  v87

def k0_off11 (i : grid0.Coords) (d14 : Dev nD) : Fin 2 → Nat :=
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let c512_i32_20 : BitVec 32 := 512#32
  let v42 : BitVec 32 := Scalar.muli v16 c512_i32_20
  let arg1 : BitVec 32 := BitVec.ofNat 32 (i 1).val
  let c256_i32_21 : BitVec 32 := 256#32
  let v43 : BitVec 32 := Scalar.muli arg1 c256_i32_21
  let v44 : BitVec 32 := Scalar.addi v42 v43
  let v88 : Index := Scalar.indexCast v44
  let c0_44 : Index := 0#32
  ![v88.toNat, 0]
def k0_cond7 (i : grid0.Coords) : BitVec 1 :=
  let arg2 : BitVec 32 := BitVec.ofNat 32 (i 2).val
  let c1_i32 : BitVec 32 := 1#32
  let v7 : BitVec 1 := Scalar.cmpi .eq arg2 c1_i32
  let arg3 : BitVec 32 := BitVec.ofNat 32 (i 3).val
  let c1_i32_3 : BitVec 32 := 1#32
  let v8 : BitVec 1 := Scalar.cmpi .eq arg3 c1_i32_3
  let v9 : BitVec 1 := Scalar.andi v7 v8
  let v71 : BitVec 32 := Scalar.extui v9
  let c0_i32_33 : BitVec 32 := 0#32
  let v72 : BitVec 1 := Scalar.cmpi .ne v71 c0_i32_33
  v72

def k0_off12 (i : grid0.Coords) (d14 : Dev nD) : Fin 2 → Nat :=
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let c512_i32_20 : BitVec 32 := 512#32
  let v42 : BitVec 32 := Scalar.muli v16 c512_i32_20
  let arg1 : BitVec 32 := BitVec.ofNat 32 (i 1).val
  let c256_i32_21 : BitVec 32 := 256#32
  let v43 : BitVec 32 := Scalar.muli arg1 c256_i32_21
  let v44 : BitVec 32 := Scalar.addi v42 v43
  let v73 : Index := Scalar.indexCast v44
  let c0_34 : Index := 0#32
  ![v73.toNat, 0]
def k0_off13 (i : grid0.Coords) : Fin 2 → Nat :=
  let arg1 : BitVec 32 := BitVec.ofNat 32 (i 1).val
  let c256_i32 : BitVec 32 := 256#32
  let v41 : BitVec 32 := Scalar.muli arg1 c256_i32
  let v77 : Index := Scalar.indexCast v41
  let c0_35 : Index := 0#32
  ![v77.toNat, 0]
def k0_cond8 (i : grid0.Coords) : BitVec 1 :=
  let arg1 : BitVec 32 := BitVec.ofNat 32 (i 1).val
  let c0_i32_36 : BitVec 32 := 0#32
  let v81 : BitVec 1 := Scalar.cmpi .eq arg1 c0_i32_36
  let v82 : BitVec 32 := Scalar.extui v81
  let c0_i32_37 : BitVec 32 := 0#32
  let v83 : BitVec 1 := Scalar.cmpi .ne v82 c0_i32_37
  v83

def k0_dev6 (d14 : Dev nD) : Nat :=
  let c0_i32_43 : BitVec 32 := 0#32
  let c1_i32_9 : BitVec 32 := 1#32
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let v20 : BitVec 32 := Scalar.subi c1_i32_9 v16
  let c2_i32_42 : BitVec 32 := 2#32
  let v87 : BitVec 32 := Scalar.muli v20 c2_i32_42
  let v88 : BitVec 32 := Scalar.addi c0_i32_43 v87
  let v17 : BitVec 32 := Dev.word d14
  let c1_i32_8 : BitVec 32 := 1#32
  let v18 : BitVec 32 := Scalar.divsi v17 c1_i32_8
  let c2_i32_7 : BitVec 32 := 2#32
  let v19 : BitVec 32 := Scalar.remsi v18 c2_i32_7
  let c1_i32_44 : BitVec 32 := 1#32
  let v89 : BitVec 32 := Scalar.muli v19 c1_i32_44
  let v90 : BitVec 32 := Scalar.addi v88 v89
  v90.toNat
def k0_cond9 (i : grid0.Coords) : BitVec 1 :=
  let arg1 : BitVec 32 := BitVec.ofNat 32 (i 1).val
  let c1_i32_38 : BitVec 32 := 1#32
  let v84 : BitVec 1 := Scalar.cmpi .eq arg1 c1_i32_38
  let v85 : BitVec 32 := Scalar.extui v84
  let c0_i32_39 : BitVec 32 := 0#32
  let v86 : BitVec 1 := Scalar.cmpi .ne v85 c0_i32_39
  v86

def k0_dev7 (d14 : Dev nD) : Nat :=
  let c0_i32_42 : BitVec 32 := 0#32
  let c1_i32_9 : BitVec 32 := 1#32
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let v20 : BitVec 32 := Scalar.subi c1_i32_9 v16
  let c2_i32_41 : BitVec 32 := 2#32
  let v87 : BitVec 32 := Scalar.muli v20 c2_i32_41
  let v88 : BitVec 32 := Scalar.addi c0_i32_42 v87
  let v17 : BitVec 32 := Dev.word d14
  let c1_i32_8 : BitVec 32 := 1#32
  let v18 : BitVec 32 := Scalar.divsi v17 c1_i32_8
  let c2_i32_7 : BitVec 32 := 2#32
  let v19 : BitVec 32 := Scalar.remsi v18 c2_i32_7
  let c1_i32_43 : BitVec 32 := 1#32
  let v89 : BitVec 32 := Scalar.muli v19 c1_i32_43
  let v90 : BitVec 32 := Scalar.addi v88 v89
  v90.toNat
def k0_cond10 (i : grid0.Coords) : BitVec 1 :=
  let arg0 : BitVec 32 := BitVec.ofNat 32 (i 0).val
  let c1_i32_24 : BitVec 32 := 1#32
  let v48 : BitVec 1 := Scalar.cmpi .eq arg0 c1_i32_24
  let v49 : BitVec 32 := Scalar.extui v48
  let c0_i32_25 : BitVec 32 := 0#32
  let v50 : BitVec 1 := Scalar.cmpi .ne v49 c0_i32_25
  v50

def k0_off14 (i : grid0.Coords) : Fin 2 → Nat :=
  let arg1 : BitVec 32 := BitVec.ofNat 32 (i 1).val
  let c256_i32 : BitVec 32 := 256#32
  let v41 : BitVec 32 := Scalar.muli arg1 c256_i32
  let v60 : Index := Scalar.indexCast v41
  let c0_31 : Index := 0#32
  ![v60.toNat, 0]
def k0_off15 (i : grid0.Coords) : Fin 2 → Nat :=
  let arg1 : BitVec 32 := BitVec.ofNat 32 (i 1).val
  let c256_i32 : BitVec 32 := 256#32
  let v41 : BitVec 32 := Scalar.muli arg1 c256_i32
  let v62 : Index := Scalar.indexCast v41
  let c0_32 : Index := 0#32
  ![v62.toNat, 0]
def k0_off16 (i : grid0.Coords) : Fin 2 → Nat :=
  let c0_34 : Index := 0#32
  let arg3 : BitVec 32 := BitVec.ofNat 32 (i 3).val
  let c1024_i32 : BitVec 32 := 1024#32
  let v31 : BitVec 32 := Scalar.muli arg3 c1024_i32
  let v70 : Index := Scalar.indexCast v31
  ![0, v70.toNat]
def k0_cond12 (i : grid0.Coords) : BitVec 1 :=
  let arg3 : BitVec 32 := BitVec.ofNat 32 (i 3).val
  let c1_i32_35 : BitVec 32 := 1#32
  let v74 : BitVec 1 := Scalar.cmpi .eq arg3 c1_i32_35
  let v75 : BitVec 32 := Scalar.extui v74
  let c0_i32_36 : BitVec 32 := 0#32
  let v76 : BitVec 1 := Scalar.cmpi .ne v75 c0_i32_36
  v76

def k0_off17 (i : grid0.Coords) : Fin 3 → Nat :=
  let arg2 : BitVec 32 := BitVec.ofNat 32 (i 2).val
  let v80 : Index := Scalar.indexCast arg2
  let c0_40 : Index := 0#32
  let c0_41 : Index := 0#32
  ![v80.toNat, 0, 0]
def k0_cond13 (i : grid0.Coords) : BitVec 1 :=
  let arg2 : BitVec 32 := BitVec.ofNat 32 (i 2).val
  let c0_i32_44 : BitVec 32 := 0#32
  let v88 : BitVec 1 := Scalar.cmpi .eq arg2 c0_i32_44
  let v89 : BitVec 32 := Scalar.extui v88
  let c0_i32_45 : BitVec 32 := 0#32
  let v90 : BitVec 1 := Scalar.cmpi .ne v89 c0_i32_45
  v90

def k0_off18 (i : grid0.Coords) : Fin 2 → Nat :=
  let arg1 : BitVec 32 := BitVec.ofNat 32 (i 1).val
  let c256_i32 : BitVec 32 := 256#32
  let v41 : BitVec 32 := Scalar.muli arg1 c256_i32
  let v94 : Index := Scalar.indexCast v41
  let c0_48 : Index := 0#32
  ![v94.toNat, 0]
def k0_cond14 (i : grid0.Coords) : BitVec 1 :=
  let arg2 : BitVec 32 := BitVec.ofNat 32 (i 2).val
  let c0_i32_46 : BitVec 32 := 0#32
  let v91 : BitVec 1 := Scalar.cmpi .ne arg2 c0_i32_46
  let v92 : BitVec 32 := Scalar.extui v91
  let c0_i32_47 : BitVec 32 := 0#32
  let v93 : BitVec 1 := Scalar.cmpi .ne v92 c0_i32_47
  v93

def k0_off19 (i : grid0.Coords) : Fin 2 → Nat :=
  let arg1 : BitVec 32 := BitVec.ofNat 32 (i 1).val
  let c256_i32 : BitVec 32 := 256#32
  let v41 : BitVec 32 := Scalar.muli arg1 c256_i32
  let v94 : Index := Scalar.indexCast v41
  let c0_48 : Index := 0#32
  ![v94.toNat, 0]
def k0_cond15 (i : grid0.Coords) : BitVec 1 :=
  let arg2 : BitVec 32 := BitVec.ofNat 32 (i 2).val
  let c1_i32 : BitVec 32 := 1#32
  let v7 : BitVec 1 := Scalar.cmpi .eq arg2 c1_i32
  let arg3 : BitVec 32 := BitVec.ofNat 32 (i 3).val
  let c1_i32_3 : BitVec 32 := 1#32
  let v8 : BitVec 1 := Scalar.cmpi .eq arg3 c1_i32_3
  let v9 : BitVec 1 := Scalar.andi v7 v8
  let v77 : BitVec 32 := Scalar.extui v9
  let c0_i32_37 : BitVec 32 := 0#32
  let v78 : BitVec 1 := Scalar.cmpi .ne v77 c0_i32_37
  v78

def k0_off20 (i : grid0.Coords) : Fin 2 → Nat :=
  let arg1 : BitVec 32 := BitVec.ofNat 32 (i 1).val
  let c256_i32 : BitVec 32 := 256#32
  let v41 : BitVec 32 := Scalar.muli arg1 c256_i32
  let v79 : Index := Scalar.indexCast v41
  let c0_38 : Index := 0#32
  ![v79.toNat, 0]
def k0_cond16 (i : grid0.Coords) : BitVec 1 :=
  let arg1 : BitVec 32 := BitVec.ofNat 32 (i 1).val
  let c0_i32_40 : BitVec 32 := 0#32
  let v86 : BitVec 1 := Scalar.cmpi .eq arg1 c0_i32_40
  let v87 : BitVec 32 := Scalar.extui v86
  let c0_i32_41 : BitVec 32 := 0#32
  let v88 : BitVec 1 := Scalar.cmpi .ne v87 c0_i32_41
  v88

def k0_dev8 (d14 : Dev nD) : Nat :=
  let c0_i32_46 : BitVec 32 := 0#32
  let c1_i32_11 : BitVec 32 := 1#32
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let v22 : BitVec 32 := Scalar.subi c1_i32_11 v16
  let c2_i32_45 : BitVec 32 := 2#32
  let v92 : BitVec 32 := Scalar.muli v22 c2_i32_45
  let v93 : BitVec 32 := Scalar.addi c0_i32_46 v92
  let c1_i32_12 : BitVec 32 := 1#32
  let v17 : BitVec 32 := Dev.word d14
  let c1_i32_8 : BitVec 32 := 1#32
  let v18 : BitVec 32 := Scalar.divsi v17 c1_i32_8
  let c2_i32_7 : BitVec 32 := 2#32
  let v19 : BitVec 32 := Scalar.remsi v18 c2_i32_7
  let v23 : BitVec 32 := Scalar.subi c1_i32_12 v19
  let c1_i32_47 : BitVec 32 := 1#32
  let v94 : BitVec 32 := Scalar.muli v23 c1_i32_47
  let v95 : BitVec 32 := Scalar.addi v93 v94
  v95.toNat
def k0_dev9 (d14 : Dev nD) : Nat :=
  let c0_i32_54 : BitVec 32 := 0#32
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let c2_i32_53 : BitVec 32 := 2#32
  let v102 : BitVec 32 := Scalar.muli v16 c2_i32_53
  let v103 : BitVec 32 := Scalar.addi c0_i32_54 v102
  let c1_i32_10 : BitVec 32 := 1#32
  let v17 : BitVec 32 := Dev.word d14
  let c1_i32_8 : BitVec 32 := 1#32
  let v18 : BitVec 32 := Scalar.divsi v17 c1_i32_8
  let c2_i32_7 : BitVec 32 := 2#32
  let v19 : BitVec 32 := Scalar.remsi v18 c2_i32_7
  let v21 : BitVec 32 := Scalar.subi c1_i32_10 v19
  let c1_i32_55 : BitVec 32 := 1#32
  let v104 : BitVec 32 := Scalar.muli v21 c1_i32_55
  let v105 : BitVec 32 := Scalar.addi v103 v104
  v105.toNat
def k0_cond17 (i : grid0.Coords) : BitVec 1 :=
  let arg1 : BitVec 32 := BitVec.ofNat 32 (i 1).val
  let c1_i32_42 : BitVec 32 := 1#32
  let v89 : BitVec 1 := Scalar.cmpi .eq arg1 c1_i32_42
  let v90 : BitVec 32 := Scalar.extui v89
  let c0_i32_43 : BitVec 32 := 0#32
  let v91 : BitVec 1 := Scalar.cmpi .ne v90 c0_i32_43
  v91

def k0_dev10 (d14 : Dev nD) : Nat :=
  let c0_i32_46 : BitVec 32 := 0#32
  let c1_i32_11 : BitVec 32 := 1#32
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let v22 : BitVec 32 := Scalar.subi c1_i32_11 v16
  let c2_i32_45 : BitVec 32 := 2#32
  let v92 : BitVec 32 := Scalar.muli v22 c2_i32_45
  let v93 : BitVec 32 := Scalar.addi c0_i32_46 v92
  let c1_i32_12 : BitVec 32 := 1#32
  let v17 : BitVec 32 := Dev.word d14
  let c1_i32_8 : BitVec 32 := 1#32
  let v18 : BitVec 32 := Scalar.divsi v17 c1_i32_8
  let c2_i32_7 : BitVec 32 := 2#32
  let v19 : BitVec 32 := Scalar.remsi v18 c2_i32_7
  let v23 : BitVec 32 := Scalar.subi c1_i32_12 v19
  let c1_i32_47 : BitVec 32 := 1#32
  let v94 : BitVec 32 := Scalar.muli v23 c1_i32_47
  let v95 : BitVec 32 := Scalar.addi v93 v94
  v95.toNat
def k0_dev11 (d14 : Dev nD) : Nat :=
  let c0_i32_54 : BitVec 32 := 0#32
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let c2_i32_53 : BitVec 32 := 2#32
  let v102 : BitVec 32 := Scalar.muli v16 c2_i32_53
  let v103 : BitVec 32 := Scalar.addi c0_i32_54 v102
  let c1_i32_10 : BitVec 32 := 1#32
  let v17 : BitVec 32 := Dev.word d14
  let c1_i32_8 : BitVec 32 := 1#32
  let v18 : BitVec 32 := Scalar.divsi v17 c1_i32_8
  let c2_i32_7 : BitVec 32 := 2#32
  let v19 : BitVec 32 := Scalar.remsi v18 c2_i32_7
  let v21 : BitVec 32 := Scalar.subi c1_i32_10 v19
  let c1_i32_55 : BitVec 32 := 1#32
  let v104 : BitVec 32 := Scalar.muli v21 c1_i32_55
  let v105 : BitVec 32 := Scalar.addi v103 v104
  v105.toNat
def k0_cond18 (i : grid0.Coords) : BitVec 1 :=
  let arg0 : BitVec 32 := BitVec.ofNat 32 (i 0).val
  let c1_i32_4 : BitVec 32 := 1#32
  let v10 : BitVec 1 := Scalar.cmpi .eq arg0 c1_i32_4
  let arg1 : BitVec 32 := BitVec.ofNat 32 (i 1).val
  let c1_i32_5 : BitVec 32 := 1#32
  let v11 : BitVec 1 := Scalar.cmpi .eq arg1 c1_i32_5
  let v12 : BitVec 1 := Scalar.andi v10 v11
  let arg2 : BitVec 32 := BitVec.ofNat 32 (i 2).val
  let c1_i32 : BitVec 32 := 1#32
  let v7 : BitVec 1 := Scalar.cmpi .eq arg2 c1_i32
  let arg3 : BitVec 32 := BitVec.ofNat 32 (i 3).val
  let c1_i32_3 : BitVec 32 := 1#32
  let v8 : BitVec 1 := Scalar.cmpi .eq arg3 c1_i32_3
  let v9 : BitVec 1 := Scalar.andi v7 v8
  let v13 : BitVec 1 := Scalar.andi v12 v9
  let v51 : BitVec 32 := Scalar.extui v13
  let c0_i32_26 : BitVec 32 := 0#32
  let v52 : BitVec 1 := Scalar.cmpi .ne v51 c0_i32_26
  v52

def k0_off21 (d14 : Dev nD) : Fin 2 → Nat :=
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let c512_i32 : BitVec 32 := 512#32
  let v24 : BitVec 32 := Scalar.muli v16 c512_i32
  let v125 : Index := Scalar.indexCast v24
  let c0_118 : Index := 0#32
  ![v125.toNat, 0]
def k0_off22 (d14 : Dev nD) : Fin 2 → Nat :=
  let c1_i32_13 : BitVec 32 := 1#32
  let v14 : BitVec 32 := Dev.word d14
  let c2_i32_6 : BitVec 32 := 2#32
  let v15 : BitVec 32 := Scalar.divsi v14 c2_i32_6
  let c2_i32 : BitVec 32 := 2#32
  let v16 : BitVec 32 := Scalar.remsi v15 c2_i32
  let v25 : BitVec 32 := Scalar.subi c1_i32_13 v16
  let c512_i32_14 : BitVec 32 := 512#32
  let v26 : BitVec 32 := Scalar.muli v25 c512_i32_14
  let v138 : Index := Scalar.indexCast v26
  let c0_126 : Index := 0#32
  ![v138.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 1 := Scalar.cmpi .eq arg0 c0_i32
  let c0_i32_0 : BitVec 32 := 0#32
  let v1 : BitVec 1 := Scalar.cmpi .eq arg1 c0_i32_0
  let v2 : BitVec 1 := Scalar.andi v0 v1
  let c1_i32 : BitVec 32 := 1#32
  let v3 : BitVec 32 := Scalar.select v2 arg2 c1_i32
  let c0_i32_1 : BitVec 32 := 0#32
  let v4 : BitVec 1 := Scalar.cmpi .eq arg0 c0_i32_1
  let c0_i32_2 : BitVec 32 := 0#32
  let v5 : BitVec 1 := Scalar.cmpi .eq arg1 c0_i32_2
  let v6 : BitVec 1 := Scalar.andi v4 v5
  let c1_i32_3 : BitVec 32 := 1#32
  let v7 : BitVec 32 := Scalar.select v6 arg3 c1_i32_3
  let c0_i32_4 : BitVec 32 := 0#32
  let c0_i32_5 : BitVec 32 := 0#32
  ![v3.toNat, c0_i32_4.toNat, v7.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 1 := Scalar.cmpi .eq arg0 c0_i32
  let c0_i32_0 : BitVec 32 := 0#32
  let v1 : BitVec 1 := Scalar.cmpi .eq arg1 c0_i32_0
  let v2 : BitVec 1 := Scalar.andi v0 v1
  let c1_i32 : BitVec 32 := 1#32
  let v3 : BitVec 32 := Scalar.select v2 arg2 c1_i32
  let c0_i32_1 : BitVec 32 := 0#32
  let v4 : BitVec 1 := Scalar.cmpi .eq arg0 c0_i32_1
  let c0_i32_2 : BitVec 32 := 0#32
  let v5 : BitVec 1 := Scalar.cmpi .eq arg1 c0_i32_2
  let v6 : BitVec 1 := Scalar.andi v4 v5
  let c1_i32_3 : BitVec 32 := 1#32
  let v7 : BitVec 32 := Scalar.select v6 arg3 c1_i32_3
  let c0_i32_4 : BitVec 32 := 0#32
  let c0_i32_5 : BitVec 32 := 0#32
  ![v3.toNat, v7.toNat, c0_i32_4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]
-- ==== ReferenceIdeal.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S_ : Shape := ⟨0, ![]⟩
abbrev S1x1024x2048 : Shape := ⟨3, ![1, 1024, 2048]⟩
abbrev S1024x2048 : Shape := ⟨2, ![1024, 2048]⟩
abbrev S2048x2048 : Shape := ⟨2, ![2048, 2048]⟩
abbrev S2048x1 : Shape := ⟨2, ![2048, 1]⟩
abbrev S1x2048x1024 : Shape := ⟨3, ![1, 2048, 1024]⟩

abbrev nBuf : Space → Nat
  | .hbm => 66
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S4x1024x2048, .f32⟩
  | .hbm, ⟨3, _⟩ => ⟨S4x2048x1024, .f32⟩
  | .hbm, ⟨4, _⟩ => ⟨S_, .f32⟩
  | .hbm, ⟨5, _⟩ => ⟨S2048x1024, .f32⟩
  | .hbm, ⟨6, _⟩ => ⟨S_, .i32⟩
  | .hbm, ⟨7, _⟩ => ⟨S2048, .i32⟩
  | .hbm, ⟨8, _⟩ => ⟨S2048, .i1⟩
  | .hbm, ⟨9, _⟩ => ⟨S1x1024x2048, .f32⟩
  | .hbm, ⟨10, _⟩ => ⟨S1024x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x1, .i1⟩
  | .hbm, ⟨16, _⟩ => ⟨S1x2048x1024, .f32⟩
  | .hbm, ⟨17, _⟩ => ⟨S2048x1024, .f32⟩
  | .hbm, ⟨18, _⟩ => ⟨S2048x1024, .f32⟩
  | .hbm, ⟨19, _⟩ => ⟨S2048x1024, .i1⟩
  | .hbm, ⟨20, _⟩ => ⟨S2048x1024, .f32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S1x1024x2048, .f32⟩
  | .hbm, ⟨25, _⟩ => ⟨S1024x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x1, .i1⟩
  | .hbm, ⟨31, _⟩ => ⟨S1x2048x1024, .f32⟩
  | .hbm, ⟨32, _⟩ => ⟨S2048x1024, .f32⟩
  | .hbm, ⟨33, _⟩ => ⟨S2048x1024, .f32⟩
  | .hbm, ⟨34, _⟩ => ⟨S2048x1024, .i1⟩
  | .hbm, ⟨35, _⟩ => ⟨S2048x1024, .f32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S1x1024x2048, .f32⟩
  | .hbm, ⟨40, _⟩ => ⟨S1024x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x1, .i1⟩
  | .hbm, ⟨46, _⟩ => ⟨S1x2048x1024, .f32⟩
  | .hbm, ⟨47, _⟩ => ⟨S2048x1024, .f32⟩
  | .hbm, ⟨48, _⟩ => ⟨S2048x1024, .f32⟩
  | .hbm, ⟨49, _⟩ => ⟨S2048x1024, .i1⟩
  | .hbm, ⟨50, _⟩ => ⟨S2048x1024, .f32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S1x1024x2048, .f32⟩
  | .hbm, ⟨55, _⟩ => ⟨S1024x2048, .f32⟩
  | .hbm, ⟨56, _⟩ => ⟨S2048x2048, .f32⟩
  | .hbm, ⟨57, _⟩ => ⟨S_, .f32⟩
  | .hbm, ⟨58, _⟩ => ⟨S2048x2048, .f32⟩
  | .hbm, ⟨59, _⟩ => ⟨S2048x2048, .f32⟩
  | .hbm, ⟨60, _⟩ => ⟨S2048x1, .i1⟩
  | .hbm, ⟨61, _⟩ => ⟨S1x2048x1024, .f32⟩
  | .hbm, ⟨62, _⟩ => ⟨S2048x1024, .f32⟩
  | .hbm, ⟨63, _⟩ => ⟨S2048x1024, .f32⟩
  | .hbm, ⟨64, _⟩ => ⟨S2048x1024, .i1⟩
  | .hbm, ⟨65, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.K.Cut.lean ====
/-
  The kernel's body cut at its top-level conditionals, so that each is reasoned about once.
-/
module

public import proofs.«01_k».proof.Proof.Gen.Kernel.Points
public import proofs.«01_k».proof.Proof.Gen.Kernel.Skeleton
public import Idealize.ShloMosaic.Lib.Tactic.Stretches

@[expose] public section

noncomputable section

namespace Cert.Kernel.Moe

open Idealize.ShloMosaic Idealize.ShloMosaic.TcCoe
open Cert.Kernel Cert.Kernel.Gen

cut_chain st := cc0_body_skel at 2, 3, 4, 5, 6

end Cert.Kernel.Moe
-- ==== Proof.KI.Mesh.lean ====
/-
  The 2 × 2 mesh's neighbours of a device, the devices the kernel's messages address, and the conditions and offsets of the
  kernel's body read at a grid point's coordinates: `i 0` is the stage, `i 1` the half of the rows, `i 2` the expert and `i 3` the half
  of the hidden features.
-/
module

public import proofs.«01_k».proof.Proof.Gen.KernelIdeal

@[expose] public section

noncomputable section

namespace Cert.KernelIdeal.Moe

open Idealize.ShloMosaic Idealize.ShloMosaic.TcCoe
open Cert.KernelIdeal Cert.KernelIdeal.Gen

/-- A device's place on the mesh's first axis. -/
abbrev xx (c : Dev nD) : ℕ := c.val / 2
/-- A device's place on the mesh's second axis. -/
abbrev yy (c : Dev nD) : ℕ := c.val % 2

/-- The neighbour across the first axis. -/
def xp (c : Dev nD) : Dev nD := ![2, 3, 0, 1] c
/-- The neighbour across the second axis. -/
def yp (c : Dev nD) : Dev nD := ![1, 0, 3, 2] c
/-- The device across both axes. -/
def dg (c : Dev nD) : Dev nD := ![3, 2, 1, 0] c

theorem xp_xp (c : Dev nD) : xp (xp c) = c := by revert c; decide
theorem yp_yp (c : Dev nD) : yp (yp c) = c := by revert c; decide
theorem dg_dg (c : Dev nD) : dg (dg c) = c := by revert c; decide

theorem dev1_eq (c : Dev nD) (h) : (⟨k0_dev1 c, h⟩ : Dev nD) = xp c := by revert c; decide
theorem dev2_eq (c : Dev nD) (h) : (⟨k0_dev2 c, h⟩ : Dev nD) = yp c := by revert c; decide
theorem dev3_eq (c : Dev nD) (h) : (⟨k0_dev3 c, h⟩ : Dev nD) = dg c := by revert c; decide
theorem dev4_eq (c : Dev nD) (h) : (⟨k0_dev4 c, h⟩ : Dev nD) = yp c := by revert c; decide
theorem dev5_eq (c : Dev nD) (h) : (⟨k0_dev5 c, h⟩ : Dev nD) = yp c := by revert c; decide
theorem dev6_eq (c : Dev nD) (h) : (⟨k0_dev6 c, h⟩ : Dev nD) = xp c := by revert c; decide
theorem dev7_eq (c : Dev nD) (h) : (⟨k0_dev7 c, h⟩ : Dev nD) = xp c := by revert c; decide
theorem dev8_eq (c : Dev nD) (h) : (⟨k0_dev8 c, h⟩ : Dev nD) = dg c := by revert c; decide
theorem dev9_eq (c : Dev nD) (h) : (⟨k0_dev9 c, h⟩ : Dev nD) = yp c := by revert c; decide
theorem dev10_eq (c : Dev nD) (h) : (⟨k0_dev10 c, h⟩ : Dev nD) = dg c := by revert c; decide
theorem dev11_eq (c : Dev nD) (h) : (⟨k0_dev11 c, h⟩ : Dev nD) = yp c := by revert c; decide

theorem off1_eq (c : Dev nD) : k0_off1 c = ![512 * xx c, 0] := by revert c; decide
theorem off2_eq (c : Dev nD) : k0_off2 c = ![512 * xx c, 0] := by revert c; decide
theorem off21_eq (c : Dev nD) : k0_off21 c = ![512 * xx c, 0] := by revert c; decide
theorem off22_eq (c : Dev nD) : k0_off22 c = ![512 * xx (xp c), 0] := by revert c; decide

theorem coord_lt (i : grid0.Coords) : (i 0).val < 2 ∧ (i 1).val < 2 ∧ (i 2).val < 2 ∧ (i 3).val < 2 := ⟨(i 0).isLt, (i 1).isLt, (i 2).isLt, (i 3).isLt⟩

/-- The grid point of four coordinates. -/
def pt (a b c d : Fin 2) : grid0.Coords := fun k => match k with | 0 => a | 1 => b | 2 => c | 3 => d

/-- A fact that holds at all sixteen grid points holds at every one. -/
theorem coords_ind {P : grid0.Coords → Prop} (h : ∀ a b c d : Fin 2, P (pt a b c d)) (i : grid0.Coords) : P i := by
  have e : i = pt (i 0) (i 1) (i 2) (i 3) := by
    funext k
    match k with | 0 => rfl | 1 => rfl | 2 => rfl | 3 => rfl
  rw [e]; exact h _ _ _ _

theorem off3_eq (i : grid0.Coords) : k0_off3 i = ![(i 2).val, 0, 1024 * (i 3).val] :=
  coords_ind (P := fun i => k0_off3 i = ![(i 2).val, 0, 1024 * (i 3).val]) (by decide) i
theorem off4_eq (i : grid0.Coords) : k0_off4 i = ![(i 2).val, 1024 * (i 3).val, 0] :=
  coords_ind (P := fun i => k0_off4 i = ![(i 2).val, 1024 * (i 3).val, 0]) (by decide) i
theorem off5_eq (i : grid0.Coords) : k0_off5 i = ![(i 2).val, 0, 1024 * (i 3).val] :=
  coords_ind (P := fun i => k0_off5 i = ![(i 2).val, 0, 1024 * (i 3).val]) (by decide) i
theorem off6_eq (i : grid0.Coords) : k0_off6 i = ![256 * (i 1).val, 0] :=
  coords_ind (P := fun i => k0_off6 i = ![256 * (i 1).val, 0]) (by decide) i
theorem off8_eq (i : grid0.Coords) : k0_off8 i = ![0, 1024 * (i 3).val] :=
  coords_ind (P := fun i => k0_off8 i = ![0, 1024 * (i 3).val]) (by decide) i
theorem off9_eq (i : grid0.Coords) : k0_off9 i = ![(i 2).val, 0, 0] :=
  coords_ind (P := fun i => k0_off9 i = ![(i 2).val, 0, 0]) (by decide) i
theorem off13_eq (i : grid0.Coords) : k0_off13 i = ![256 * (i 1).val, 0] :=
  coords_ind (P := fun i => k0_off13 i = ![256 * (i 1).val, 0]) (by decide) i
theorem off14_eq (i : grid0.Coords) : k0_off14 i = ![256 * (i 1).val, 0] :=
  coords_ind (P := fun i => k0_off14 i = ![256 * (i 1).val, 0]) (by decide) i
theorem off15_eq (i : grid0.Coords) : k0_off15 i = ![256 * (i 1).val, 0] :=
  coords_ind (P := fun i => k0_off15 i = ![256 * (i 1).val, 0]) (by decide) i
theorem off16_eq (i : grid0.Coords) : k0_off16 i = ![0, 1024 * (i 3).val] :=
  coords_ind (P := fun i => k0_off16 i = ![0, 1024 * (i 3).val]) (by decide) i
theorem off17_eq (i : grid0.Coords) : k0_off17 i = ![(i 2).val, 0, 0] :=
  coords_ind (P := fun i => k0_off17 i = ![(i 2).val, 0, 0]) (by decide) i
theorem off18_eq (i : grid0.Coords) : k0_off18 i = ![256 * (i 1).val, 0] :=
  coords_ind (P := fun i => k0_off18 i = ![256 * (i 1).val, 0]) (by decide) i
theorem off19_eq (i : grid0.Coords) : k0_off19 i = ![256 * (i 1).val, 0] :=
  coords_ind (P := fun i => k0_off19 i = ![256 * (i 1).val, 0]) (by decide) i
theorem off20_eq (i : grid0.Coords) : k0_off20 i = ![256 * (i 1).val, 0] :=
  coords_ind (P := fun i => k0_off20 i = ![256 * (i 1).val, 0]) (by decide) i
theorem off7_eq (i : grid0.Coords) (c : Dev nD) : k0_off7 i c = ![512 * xx c + 256 * (i 1).val, 0] :=
  coords_ind (P := fun i => ∀ c, k0_off7 i c = ![512 * xx c + 256 * (i 1).val, 0]) (by decide) i c
theorem off10_eq (i : grid0.Coords) (c : Dev nD) : k0_off10 i c = ![512 * xx c + 256 * (i 1).val, 0] :=
  coords_ind (P := fun i => ∀ c, k0_off10 i c = ![512 * xx c + 256 * (i 1).val, 0]) (by decide) i c
theorem off11_eq (i : grid0.Coords) (c : Dev nD) : k0_off11 i c = ![512 * xx c + 256 * (i 1).val, 0] :=
  coords_ind (P := fun i => ∀ c, k0_off11 i c = ![512 * xx c + 256 * (i 1).val, 0]) (by decide) i c
theorem off12_eq (i : grid0.Coords) (c : Dev nD) : k0_off12 i c = ![512 * xx c + 256 * (i 1).val, 0] :=
  coords_ind (P := fun i => ∀ c, k0_off12 i c = ![512 * xx c + 256 * (i 1).val, 0]) (by decide) i c

theorem cond1_iff (i : grid0.Coords) : k0_cond1 i = 1#1 ↔ (i 0).val = 0 ∧ (i 1).val = 0 ∧ (i 2).val = 0 ∧ (i 3).val = 0 :=
  coords_ind (P := fun i => k0_cond1 i = 1#1 ↔ (i 0).val = 0 ∧ (i 1).val = 0 ∧ (i 2).val = 0 ∧ (i 3).val = 0) (by decide) i
theorem cond2_iff (i : grid0.Coords) : k0_cond2 i = 1#1 ↔ (i 0).val = 0 ∧ (i 1).val = 0 :=
  coords_ind (P := fun i => k0_cond2 i = 1#1 ↔ (i 0).val = 0 ∧ (i 1).val = 0) (by decide) i
theorem cond3_iff (i : grid0.Coords) : k0_cond3 i = 1#1 ↔ (i 0).val = 0 :=
  coords_ind (P := fun i => k0_cond3 i = 1#1 ↔ (i 0).val = 0) (by decide) i
theorem cond4_iff (i : grid0.Coords) : k0_cond4 i = 1#1 ↔ (i 3).val = 1 :=
  coords_ind (P := fun i => k0_cond4 i = 1#1 ↔ (i 3).val = 1) (by decide) i
theorem cond5_iff (i : grid0.Coords) : k0_cond5 i = 1#1 ↔ (i 2).val = 0 :=
  coords_ind (P := fun i => k0_cond5 i = 1#1 ↔ (i 2).val = 0) (by decide) i
theorem cond6_iff (i : grid0.Coords) : k0_cond6 i = 1#1 ↔ (i 2).val = 1 :=
  coords_ind (P := fun i => k0_cond6 i = 1#1 ↔ (i 2).val = 1) (by decide) i
theorem cond7_iff (i : grid0.Coords) : k0_cond7 i = 1#1 ↔ (i 2).val = 1 ∧ (i 3).val = 1 :=
  coords_ind (P := fun i => k0_cond7 i = 1#1 ↔ (i 2).val = 1 ∧ (i 3).val = 1) (by decide) i
theorem cond8_iff (i : grid0.Coords) : k0_cond8 i = 1#1 ↔ (i 1).val = 0 :=
  coords_ind (P := fun i => k0_cond8 i = 1#1 ↔ (i 1).val = 0) (by decide) i
theorem cond9_iff (i : grid0.Coords) : k0_cond9 i = 1#1 ↔ (i 1).val = 1 :=
  coords_ind (P := fun i => k0_cond9 i = 1#1 ↔ (i 1).val = 1) (by decide) i
theorem cond10_iff (i : grid0.Coords) : k0_cond10 i = 1#1 ↔ (i 0).val = 1 :=
  coords_ind (P := fun i => k0_cond10 i = 1#1 ↔ (i 0).val = 1) (by decide) i
theorem cond12_iff (i : grid0.Coords) : k0_cond12 i = 1#1 ↔ (i 3).val = 1 :=
  coords_ind (P := fun i => k0_cond12 i = 1#1 ↔ (i 3).val = 1) (by decide) i
theorem cond13_iff (i : grid0.Coords) : k0_cond13 i = 1#1 ↔ (i 2).val = 0 :=
  coords_ind (P := fun i => k0_cond13 i = 1#1 ↔ (i 2).val = 0) (by decide) i
theorem cond14_iff (i : grid0.Coords) : k0_cond14 i = 1#1 ↔ (i 2).val = 1 :=
  coords_ind (P := fun i => k0_cond14 i = 1#1 ↔ (i 2).val = 1) (by decide) i
theorem cond15_iff (i : grid0.Coords) : k0_cond15 i = 1#1 ↔ (i 2).val = 1 ∧ (i 3).val = 1 :=
  coords_ind (P := fun i => k0_cond15 i = 1#1 ↔ (i 2).val = 1 ∧ (i 3).val = 1) (by decide) i
theorem cond16_iff (i : grid0.Coords) : k0_cond16 i = 1#1 ↔ (i 1).val = 0 :=
  coords_ind (P := fun i => k0_cond16 i = 1#1 ↔ (i 1).val = 0) (by decide) i
theorem cond17_iff (i : grid0.Coords) : k0_cond17 i = 1#1 ↔ (i 1).val = 1 :=
  coords_ind (P := fun i => k0_cond17 i = 1#1 ↔ (i 1).val = 1) (by decide) i
theorem cond18_iff (i : grid0.Coords) : k0_cond18 i = 1#1 ↔ (i 0).val = 1 ∧ (i 1).val = 1 ∧ (i 2).val = 1 ∧ (i 3).val = 1 :=
  coords_ind (P := fun i => k0_cond18 i = 1#1 ↔ (i 0).val = 1 ∧ (i 1).val = 1 ∧ (i 2).val = 1 ∧ (i 3).val = 1) (by decide) i

/-- The coordinates of the grid's points in order. -/
theorem coords_val (t : Fin grid0.N) : ((grid0.coords t) 0).val = t.val / 8 ∧ ((grid0.coords t) 1).val = t.val / 4 % 2
    ∧ ((grid0.coords t) 2).val = t.val / 2 % 2 ∧ ((grid0.coords t) 3).val = t.val % 2 := by
  revert t; decide

end Cert.KernelIdeal.Moe
-- ==== Proof.KI.Wp.lean ====
/-
  Rules for a load and a store through a memref that is owned at known contents, and what a rectangle of an array holds after a store
  into a rectangle of it.
-/
module

public import proofs.«01_k».proof.Proof.Gen.KernelIdeal
public import Idealize.ShloMosaic.Lib.Memref
public import Idealize.ShloMosaic.Lib.MemrefSat
public import Idealize.ShloMosaic.Lib.Writes
public import Idealize.ShloMosaic.Lib.Rounds
public import Idealize.ShloMosaic.Lib.Tactic

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable {U : Type} [URA U]

local notation "𝕄" => MT nD τ sig Unit (Elt F) ℕ U ℕ

/-- The part of `X` that lies on the rectangle `r`. -/
def tile {s : Shape} {α : Type} (r : Rect s) (X : s.Idx → α) : r.shape.Idx → α := fun i => X (r.emb i)

/-- A load through an owned memref continues at the contents' part on the rectangle. -/
theorem load_owns (c : Dev nD) {s : Shape} {e : EltTy} {m : Memref sig .tc .vmem s e} {r : Rect s} {hl : m.view.LoadsAt r.toLoadRect}
    {α : Type} {Q : α → sProp 𝕄} {k : (r.shape.Idx → Elt F e) → Prog (TpuEff nD τ sig (Elt F) Λ₀ .tc) α} {q : PosShare TreeShare} {X : s.Idx → Elt F e} :
    owns (c : Thread nD τ) m q X
      ⊢ iprop((owns (c : Thread nD τ) m q X -∗ wp frame (wpE (defs₀ (F := F)) Variants.none (c : Thread nD τ) none) Set.univ (k (tile r X)) Q)
        -∗ wp frame (wpE (defs₀ (F := F)) Variants.none (c : Thread nD τ) none) Set.univ (.op (.load m r.toLoadRect hl) k) Q) := by
  unfold owns
  iintro ⟨%f, %hf, H⟩ Hk
  iapply (wp_load Variants.none (c : Thread nD τ) none Set.univ (m := m) (m.view.setOn_subset_set _)) $$ H
  iintro H
  have h : m.view.readAt (Elt F) r.toLoadRect f = tile r X := by rw [← hf]; rfl
  rw [h]
  iapply Hk
  iexists f
  isplitr; · ipureintro; exact hf
  iexact H

/-- A store through an owned memref leaves the contents with the rectangle's part replaced. -/
theorem store_owns (c : Dev nD) {s : Shape} {e : EltTy} {m : Memref sig .tc .vmem s e} {r : Rect s} {w : r.shape.Idx → Elt F e}
    {hx : (m.access r).Stores Finset.univ} {hm : Finset.univ = Finset.univ ∨ ∀ a, r.stride a = 1}
    {α : Type} {Q : α → sProp 𝕄} {k : PUnit → Prog (TpuEff nD τ sig (Elt F) Λ₀ .tc) α} {X : s.Idx → Elt F e} :
    owns (c : Thread nD τ) m fullShare X
      ⊢ iprop((owns (c : Thread nD τ) m fullShare (r.overlay X w) -∗ wp frame (wpE (defs₀ (F := F)) Variants.none (c : Thread nD τ) none) Set.univ (k ⟨⟩) Q)
        -∗ wp frame (wpE (defs₀ (F := F)) Variants.none (c : Thread nD τ) none) Set.univ (.op (.store m r w Finset.univ hx hm) k) Q) := by
  unfold owns
  iintro ⟨%f, %hf, H⟩ Hk
  iapply (wp_store Variants.none (c : Thread nD τ) none Set.univ (m := m) (r := r) (w := w) (Mk := Finset.univ) (hx := hx) (hm := hm)
    (m.setOn_access_subset r _)) $$ H
  iintro H
  iapply Hk
  iexists ((m.access r).write (Elt F) f w Finset.univ)
  isplitr
  · ipureintro
    funext y
    show m.view.read (Elt F) (m.view.writes (Elt F) f [⟨r, w⟩]) y = _
    by_cases hy : y ∈ r.set
    · obtain ⟨x, rfl⟩ := r.exists_idx_of_mem hy
      change m.view.read (Elt F) (m.view.writes (Elt F) f [⟨r, w⟩]) (r.emb x) = r.overlay X w (r.emb x)
      rw [View.read_writes_cons_emb, Rect.overlay_emb]
    · rw [View.read_writes_apply_of_forall_not_mem _ _ y _ (by simpa using hy), Rect.overlay_of_not_mem _ _ _ hy, hf]
  iexact H

/-- A load through a memref of the rectangle that is owned as a slice continues at the slice's contents. -/
theorem load_slice (c : Dev nD) {s : Shape} {e : EltTy} {m : Memref sig .tc .vmem s e} {r : Rect s} {hr : ∀ a, r.stride a = 1}
    {hl : m.view.LoadsAt r.toLoadRect}
    {α : Type} {Q : α → sProp 𝕄} {k : (r.shape.Idx → Elt F e) → Prog (TpuEff nD τ sig (Elt F) Λ₀ .tc) α} {q : PosShare TreeShare}
    {X : r.shape.Idx → Elt F e} :
    owns (c : Thread nD τ) (m.slice r hr) q X
      ⊢ iprop((owns (c : Thread nD τ) (m.slice r hr) q X -∗ wp frame (wpE (defs₀ (F := F)) Variants.none (c : Thread nD τ) none) Set.univ (k X) Q)
        -∗ wp frame (wpE (defs₀ (F := F)) Variants.none (c : Thread nD τ) none) Set.univ (.op (.load m r.toLoadRect hl) k) Q) := by
  unfold owns
  iintro ⟨%f, %hf, H⟩ Hk
  iapply (wp_load_rect Variants.none (c : Thread nD τ) none Set.univ (m := m) (r := r) (f := f) (S := (m.slice r hr).view.set) Finset.Subset.rfl) $$ H
  iintro H
  have h : (m.access r).read (Elt F) f = X := hf
  rw [h]
  iapply Hk
  iexists f
  isplitr; · ipureintro; exact hf
  iexact H

/-- A store through a memref on a rectangle that is owned as a slice leaves the slice at what is stored. -/
theorem store_slice (c : Dev nD) {s : Shape} {e : EltTy} {m : Memref sig .tc .vmem s e} {r : Rect s} {hr : ∀ a, r.stride a = 1} {w : r.shape.Idx → Elt F e}
    {hx : (m.access r).Stores Finset.univ} {hm : Finset.univ = Finset.univ ∨ ∀ a, r.stride a = 1}
    {α : Type} {Q : α → sProp 𝕄} {k : PUnit → Prog (TpuEff nD τ sig (Elt F) Λ₀ .tc) α} {X : r.shape.Idx → Elt F e} :
    owns (c : Thread nD τ) (m.slice r hr) fullShare X
      ⊢ iprop((owns (c : Thread nD τ) (m.slice r hr) fullShare w -∗ wp frame (wpE (defs₀ (F := F)) Variants.none (c : Thread nD τ) none) Set.univ (k ⟨⟩) Q)
        -∗ wp frame (wpE (defs₀ (F := F)) Variants.none (c : Thread nD τ) none) Set.univ (.op (.store m r w Finset.univ hx hm) k) Q) := by
  unfold owns
  iintro ⟨%f, %hf, H⟩ Hk
  iapply (wp_store Variants.none (c : Thread nD τ) none Set.univ (m := m) (r := r) (w := w) (Mk := Finset.univ) (hx := hx) (hm := hm) (f := f)
    (S := (m.slice r hr).view.set) ((m.access r).setOn_subset_set _)) $$ H
  iintro H
  iapply Hk
  iexists ((m.access r).write (Elt F) f w Finset.univ)
  isplitr
  · ipureintro
    exact View.read_write_univ _ _
  iexact H

/-- On the rectangle just stored to, the array holds what was stored. -/
theorem tile_overlay {s : Shape} {α : Type} {off off' size : Fin s.rank → ℕ} {inb : ∀ a, off a + size a ≤ s.size a} {inb' : ∀ a, off' a + size a ≤ s.size a}
    (h : off = off') (X : s.Idx → α) (w : (Rect.unit off size inb).shape.Idx → α) :
    tile (Rect.unit off' size inb') ((Rect.unit off size inb).overlay X w) = w := by
  subst h
  funext i
  exact Rect.overlay_emb _ _ _ _

/-- On a rectangle separated on an axis from the one stored to, the array holds what it held. -/
theorem tile_overlay_apart {s : Shape} {α : Type} {off off' size size' : Fin s.rank → ℕ} {inb : ∀ a, off a + size a ≤ s.size a}
    {inb' : ∀ a, off' a + size' a ≤ s.size a} (a : Fin s.rank) (h : off a + size a ≤ off' a ∨ off' a + size' a ≤ off a) (X : s.Idx → α)
    (w : (Rect.unit off size inb).shape.Idx → α) :
    tile (Rect.unit off' size' inb') ((Rect.unit off size inb).overlay X w) = tile (Rect.unit off' size' inb') X := by
  funext i
  exact Rect.overlay_of_not_mem _ _ _ (Finset.disjoint_right.mp (Rect.unit_disjoint a h) (LoadRect.idx_mem _ _))

/-- Rectangles at equal offsets cut the same part. -/
theorem tile_congr {s : Shape} {α : Type} {off off' size : Fin s.rank → ℕ} {inb : ∀ a, off a + size a ≤ s.size a} {inb' : ∀ a, off' a + size a ≤ s.size a}
    (h : off = off') (X : s.Idx → α) : tile (Rect.unit off size inb) X = tile (Rect.unit off' size inb') X := by
  subst h; rfl

/-- The array that holds `f` on the rectangle `r` and `g` on the rectangle `r'`, where the two cover it. -/
def join {s : Shape} {α : Type} (r r' : Rect s) (cov : ∀ j, j ∈ r.set ∨ j ∈ r'.set) (f : r.shape.Idx → α) (g : r'.shape.Idx → α) : s.Idx → α := fun j =>
  if h : j ∈ r.set then f (r.exists_idx_of_mem h).choose else g (r'.exists_idx_of_mem ((cov j).resolve_left h)).choose

/-- An array is the join of its parts. -/
theorem eq_join {s : Shape} {α : Type} {r r' : Rect s} (cov : ∀ j, j ∈ r.set ∨ j ∈ r'.set) {X : s.Idx → α} {f : r.shape.Idx → α} {g : r'.shape.Idx → α}
    (h : tile r X = f) (h' : tile r' X = g) : X = join r r' cov f g := by
  funext j
  unfold join
  split
  · next hj =>
    have e := (r.exists_idx_of_mem hj).choose_spec
    rw [← h]
    exact congrArg X e.symm
  · next hj =>
    have e := (r'.exists_idx_of_mem ((cov j).resolve_left hj)).choose_spec
    rw [← h']
    exact congrArg X e.symm

/-- The first part of a join. -/
theorem tile_join_left {s : Shape} {α : Type} {r r' : Rect s} (cov : ∀ j, j ∈ r.set ∨ j ∈ r'.set) (f : r.shape.Idx → α) (g : r'.shape.Idx → α) :
    tile r (join r r' cov f g) = f := by
  funext i
  have hi : r.emb i ∈ r.set := LoadRect.idx_mem _ _
  have e := (r.exists_idx_of_mem hi).choose_spec
  unfold tile join
  rw [dif_pos hi]
  exact congrArg f (r.emb.injective e)

/-- The second part of a join of disjoint parts. -/
theorem tile_join_right {s : Shape} {α : Type} {r r' : Rect s} (cov : ∀ j, j ∈ r.set ∨ j ∈ r'.set) (hd : Disjoint r.set r'.set) (f : r.shape.Idx → α)
    (g : r'.shape.Idx → α) : tile r' (join r r' cov f g) = g := by
  funext i
  have hi : r'.emb i ∈ r'.set := LoadRect.idx_mem _ _
  have hn : r'.emb i ∉ r.set := Finset.disjoint_right.mp hd hi
  have e := (r'.exists_idx_of_mem ((cov (r'.emb i)).resolve_left hn)).choose_spec
  unfold tile join
  rw [dif_neg hn]
  exact congrArg g (r'.emb.injective e)

end Cert.KernelIdeal.Moe
-- ==== Proof.KI.Vals.lean ====
/-
  What the kernel's buffers hold: the rectangles its loads and stores use, and the values the devices compute, as functions of the
  blocks the devices hold of the arguments. A device computes the output rows of its own tokens by its own experts, the output rows of
  its second-axis neighbour's tokens by its own experts, and adds what it receives.
-/
module

public import proofs.«01_k».proof.Proof.Gen.KernelIdeal.Skeleton
public import proofs.«01_k».proof.Proof.KI.Mesh
public import proofs.«01_k».proof.Proof.KI.Wp

@[expose] public section

noncomputable section

namespace Cert.KernelIdeal.Moe

open Idealize.ShloMosaic Idealize.ShloMosaic.TcCoe
open Cert.KernelIdeal Cert.KernelIdeal.Gen

variable {F : FTy → Type} [FloatOps F]

/-! ## The rectangles -/

theorem rows_inb {D N : ℕ} (o n : ℕ) (h : o + n ≤ D) : ∀ a, (![o, 0] : Fin 2 → ℕ) a + (![n, N] : Fin 2 → ℕ) a ≤ (⟨2, ![D, N]⟩ : Shape).size a :=
  Fin.forall_fin_two.mpr ⟨h, by show 0 + N ≤ N; omega⟩

theorem xx_lt (c : Dev nD) : xx c < 2 := by revert c; decide
theorem yy_lt (c : Dev nD) : yy c < 2 := by revert c; decide
theorem xx_xp (c : Dev nD) : xx (xp c) = 1 - xx c := by revert c; decide
theorem yy_xp (c : Dev nD) : yy (xp c) = yy c := by revert c; decide
theorem xx_yp (c : Dev nD) : xx (yp c) = xx c := by revert c; decide
theorem yy_yp (c : Dev nD) : yy (yp c) = 1 - yy c := by revert c; decide
theorem xx_dg (c : Dev nD) : xx (dg c) = 1 - xx c := by revert c; decide
theorem yy_dg (c : Dev nD) : yy (dg c) = 1 - yy c := by revert c; decide

/-- Rows `[256 rc, 256 rc + 256)` of 512. -/
abbrev rowR (rc : Fin 2) : Rect S512x1024 := Rect.unit (s := S512x1024) ![256 * rc.val, 0] S256x1024.size (rows_inb _ _ (by have := rc.isLt; omega))
/-- The same rows of a column of 512. -/
abbrev colR (rc : Fin 2) : Rect S512x1 := Rect.unit (s := S512x1) ![256 * rc.val, 0] S256x1.size (rows_inb _ _ (by have := rc.isLt; omega))
/-- The 512 rows of a first-axis place among the 1024. -/
abbrev halfR (c : Dev nD) : Rect S1024x1024 := Rect.unit (s := S1024x1024) ![512 * xx c, 0] S512x1024.size (rows_inb _ _ (by have := xx_lt c; omega))
/-- The same rows of a column of 1024. -/
abbrev halfC (c : Dev nD) : Rect S1024x1 := Rect.unit (s := S1024x1) ![512 * xx c, 0] S512x1.size (rows_inb _ _ (by have := xx_lt c; omega))
/-- A quarter: rows `[256 rc, 256 rc + 256)` of that half. -/
abbrev quartR (c : Dev nD) (rc : Fin 2) : Rect S1024x1024 :=
  Rect.unit (s := S1024x1024) ![512 * xx c + 256 * rc.val, 0] S256x1024.size (rows_inb _ _ (by have := xx_lt c; have := rc.isLt; omega))
/-- The same rows of a column of 1024. -/
abbrev quartC (c : Dev nD) (rc : Fin 2) : Rect S1024x1 :=
  Rect.unit (s := S1024x1) ![512 * xx c + 256 * rc.val, 0] S256x1.size (rows_inb _ _ (by have := xx_lt c; have := rc.isLt; omega))
/-- Half of the hidden features of 256 rows. -/
abbrev hidR (fc : Fin 2) : Rect S256x2048 := Rect.unit (s := S256x2048) ![0, 1024 * fc.val] S256x1024.size
  (Fin.forall_fin_two.mpr ⟨by show 0 + 256 ≤ 256; omega, by show 1024 * fc.val + 1024 ≤ 2048; have := fc.isLt; omega⟩)
/-- Half of the columns of an expert's first matrix. -/
abbrev w1R (e fc : Fin 2) : Rect S2x1024x2048 := Rect.unit (s := S2x1024x2048) ![e.val, 0, 1024 * fc.val] S1x1024x1024.size
  (Fin.forall_fin_succ.mpr ⟨by show e.val + 1 ≤ 2; have := e.isLt; omega, Fin.forall_fin_two.mpr ⟨by show 0 + 1024 ≤ 1024; omega, by show 1024 * fc.val + 1024 ≤ 2048; have := fc.isLt; omega⟩⟩)
/-- Half of the rows of an expert's second matrix. -/
abbrev w2R (e fc : Fin 2) : Rect S2x2048x1024 := Rect.unit (s := S2x2048x1024) ![e.val, 1024 * fc.val, 0] S1x1024x1024.size
  (Fin.forall_fin_succ.mpr ⟨by show e.val + 1 ≤ 2; have := e.isLt; omega, Fin.forall_fin_two.mpr ⟨by show 1024 * fc.val + 1024 ≤ 2048; have := fc.isLt; omega, by show 0 + 1024 ≤ 1024; omega⟩⟩)
/-- An expert's second matrix. -/
abbrev w2E (e : Fin 2) : Rect S2x2048x1024 := Rect.unit (s := S2x2048x1024) ![e.val, 0, 0] S1x2048x1024.size
  (Fin.forall_fin_succ.mpr ⟨by show e.val + 1 ≤ 2; have := e.isLt; omega, Fin.forall_fin_two.mpr ⟨by show 0 + 2048 ≤ 2048; omega, by show 0 + 1024 ≤ 1024; omega⟩⟩)
/-- Half of the rows of one such matrix. -/
abbrev w2H (fc : Fin 2) : Rect S1x2048x1024 := Rect.unit (s := S1x2048x1024) ![0, 1024 * fc.val, 0] S1x1024x1024.size
  (Fin.forall_fin_succ.mpr ⟨by show 0 + 1 ≤ 1; omega, Fin.forall_fin_two.mpr ⟨by show 1024 * fc.val + 1024 ≤ 2048; have := fc.isLt; omega, by show 0 + 1024 ≤ 1024; omega⟩⟩)

theorem row_cov (j : S512x1024.Idx) : j ∈ (rowR 0).set ∨ j ∈ (rowR 1).set := by
  have h0 : (j (0 : Fin 2)).val < 512 := (j (0 : Fin 2)).isLt
  have h1 : (j (1 : Fin 2)).val < 1024 := (j (1 : Fin 2)).isLt
  by_cases h : (j (0 : Fin 2)).val < 256
  · exact .inl (Rect.mem_set_unit.mpr (Fin.forall_fin_two.mpr ⟨⟨Nat.zero_le _, by show _ < 256 * 0 + 256; omega⟩, ⟨Nat.zero_le _, by show _ < 0 + 1024; omega⟩⟩))
  · exact .inr (Rect.mem_set_unit.mpr (Fin.forall_fin_two.mpr ⟨⟨by show 256 * 1 ≤ _; omega, by show _ < 256 * 1 + 256; omega⟩, ⟨Nat.zero_le _, by show _ < 0 + 1024; omega⟩⟩))

theorem hid_cov (j : S256x2048.Idx) : j ∈ (hidR 0).set ∨ j ∈ (hidR 1).set := by
  have h0 : (j (0 : Fin 2)).val < 256 := (j (0 : Fin 2)).isLt
  have h1 : (j (1 : Fin 2)).val < 2048 := (j (1 : Fin 2)).isLt
  by_cases h : (j (1 : Fin 2)).val < 1024
  · exact .inl (Rect.mem_set_unit.mpr (Fin.forall_fin_two.mpr ⟨⟨Nat.zero_le _, by show _ < 0 + 256; omega⟩, ⟨Nat.zero_le _, by show _ < 1024 * 0 + 1024; omega⟩⟩))
  · exact .inr (Rect.mem_set_unit.mpr (Fin.forall_fin_two.mpr ⟨⟨Nat.zero_le _, by show _ < 0 + 256; omega⟩, ⟨by show 1024 * 1 ≤ _; omega, by show _ < 1024 * 1 + 1024; omega⟩⟩))

theorem w2_cov (j : S1x2048x1024.Idx) : j ∈ (w2H 0).set ∨ j ∈ (w2H 1).set := by
  have h0 : (j (0 : Fin 3)).val < 1 := (j (0 : Fin 3)).isLt
  have h1 : (j (1 : Fin 3)).val < 2048 := (j (1 : Fin 3)).isLt
  have h2 : (j (2 : Fin 3)).val < 1024 := (j (2 : Fin 3)).isLt
  by_cases h : (j (1 : Fin 3)).val < 1024
  · exact .inl (Rect.mem_set_unit.mpr (Fin.forall_fin_succ.mpr ⟨⟨Nat.zero_le _, by show _ < 0 + 1; omega⟩, Fin.forall_fin_two.mpr
      ⟨⟨Nat.zero_le _, by show (j (1 : Fin 3)).val < 1024 * 0 + 1024; omega⟩, ⟨Nat.zero_le _, by show (j (2 : Fin 3)).val < 0 + 1024; omega⟩⟩⟩))
  · exact .inr (Rect.mem_set_unit.mpr (Fin.forall_fin_succ.mpr ⟨⟨Nat.zero_le _, by show _ < 0 + 1; omega⟩, Fin.forall_fin_two.mpr
      ⟨⟨by show 1024 * 1 ≤ (j (1 : Fin 3)).val; omega, by show (j (1 : Fin 3)).val < 1024 * 1 + 1024; omega⟩, ⟨Nat.zero_le _, by show (j (2 : Fin 3)).val < 0 + 1024; omega⟩⟩⟩))

/-- 512 rows of two halves. -/
def stack {α : Type} (f g : S256x1024.Idx → α) : S512x1024.Idx → α := join (rowR 0) (rowR 1) row_cov f g
/-- All hidden features of 256 rows, of two halves. -/
def hid {α : Type} (f g : S256x1024.Idx → α) : S256x2048.Idx → α := join (hidR 0) (hidR 1) hid_cov f g
/-- An expert's second matrix of two halves. -/
def w2full {α : Type} (f g : S1x1024x1024.Idx → α) : S1x2048x1024.Idx → α := join (w2H 0) (w2H 1) w2_cov f g

/-! ## The values -/

/-- The blocks the devices hold of the kernel's arguments. -/
structure Inp (F : FTy → Type) [FloatOps F] where
  /-- the tokens -/
  x : Dev nD → S1024x1024.Idx → Elt F .f32
  /-- each token's expert -/
  a : Dev nD → S1024x1.Idx → Elt F .i32
  /-- the first matrix of each expert held, by column halves -/
  w1 : Dev nD → Fin 2 → Fin 2 → S1x1024x1024.Idx → Elt F .f32
  /-- the second matrix of each expert held, by row halves -/
  w2 : Dev nD → Fin 2 → Fin 2 → S1x1024x1024.Idx → Elt F .f32

variable (I : Inp F) (c : Dev nD) (rc e fc : Fin 2)

/-- The device's half of its tokens, rounded. -/
def xrow : S512x1024.Idx → Elt F .bf16 := k0_pay15 (tile (halfR c) (I.x c))
/-- The experts of these tokens. -/
def arow : S512x1.Idx → Elt F .i32 := k0_pay16 (F := F) (tile (halfC c) (I.a c))
/-- The first matrix's half, rounded. -/
def w1b : S1x1024x1024.Idx → Elt F .bf16 := k0_pay1 (I.w1 c e fc)
/-- The second matrix's half, rounded. -/
def w2b : S1x1024x1024.Idx → Elt F .bf16 := k0_pay2 (I.w2 c e fc)
/-- The number among all the experts of the device's expert `e`. -/
def eid : BitVec 32 := BitVec.ofNat 32 (2 * yy c + e.val)

/-- The hidden features of the device's own tokens at its expert. -/
def ownH : S256x1024.Idx → Elt F .bf16 := k0_pay4 (w1b I c e fc) (tile (rowR rc) (xrow I c))
/-- The output rows of the device's own tokens after its first expert. -/
def own0 : S256x1024.Idx → Elt F .f32 :=
  k0_pay5 (eid c 0) (tile (quartC c rc) (I.a c)) (hid (ownH I c rc 0 0) (ownH I c rc 0 1)) (w2full (w2b I c 0 0) (w2b I c 0 1))
/-- The output rows of the device's own tokens after both its experts. -/
def own : S256x1024.Idx → Elt F .f32 :=
  k0_pay6 (eid c 1) (tile (quartC c rc) (I.a c)) (hid (ownH I c rc 1 0) (ownH I c rc 1 1)) (w2full (w2b I c 1 0) (w2b I c 1 1)) (own0 I c rc)
/-- The same, rounded, as sent. -/
def ownB : S256x1024.Idx → Elt F .bf16 := k0_pay7 (own I c rc)

/-- The hidden features of the second-axis neighbour's tokens at the device's expert. -/
def peerH : S256x1024.Idx → Elt F .bf16 := k0_pay8 (w1b I c e fc) (tile (rowR rc) (xrow I (yp c)))
/-- The output rows of the neighbour's tokens after the device's first expert. -/
def peer0 : S256x1024.Idx → Elt F .f32 :=
  k0_pay10 (eid c 0) (tile (colR rc) (arow I (yp c))) (hid (peerH I c rc 0 0) (peerH I c rc 0 1)) (w2full (w2b I c 0 0) (w2b I c 0 1))
/-- The output rows of the neighbour's tokens after both the device's experts. -/
def peer : S256x1024.Idx → Elt F .f32 :=
  k0_pay11 (eid c 1) (tile (colR rc) (arow I (yp c))) (hid (peerH I c rc 1 0) (peerH I c rc 1 1)) (w2full (w2b I c 1 0) (w2b I c 1 1)) (peer0 I c rc)
/-- The same, rounded, as sent. -/
def peerB : S256x1024.Idx → Elt F .bf16 := k0_pay12 (peer I c rc)

/-- The output's rows of the device's half of the tokens. -/
def outMine : S512x1024.Idx → Elt F .f32 := k0_pay13 (stack (own I c 0) (own I c 1)) (stack (peerB I (yp c) 0) (peerB I (yp c) 1))
/-- The output's rows of the other half. -/
def outOther : S512x1024.Idx → Elt F .f32 := k0_pay14 (stack (ownB I (xp c) 0) (ownB I (xp c) 1)) (stack (peerB I (dg c) 0) (peerB I (dg c) 1))

end Cert.KernelIdeal.Moe
-- ==== Proof.KI.Sched.lean ====
/-
  The protocol between the devices: their semaphore cells, who pays each cell and what comes with the payment, what a device owes at
  launch and in which order it pays.

  A device's BARRIER cell is paid one unit by each of the three others; with its unit a device hands over the buffers that the receiver is
  going to write on it. Message `j` of eight is a transfer from the device to a neighbour (`msgTo`): its SEND cell `sendS j` gives the source back,
  its RECEIVE cell `recvS j` on the neighbour gives the neighbour the landed block. Messages: 0 the tokens and 1 their experts to the second-axis neighbour,
  2 and 3 the halves of the outputs of the device's own tokens to the first-axis neighbour, 4 and 5 the halves of the outputs of the second-axis neighbour's
  tokens to that neighbour, 6 and 7 the same halves to the device across both axes.
-/
module

public import proofs.«01_k».proof.Proof.Gen.KernelIdeal.Frame
public import proofs.«01_k».proof.Proof.KI.Vals
public import Idealize.ShloMosaic.Lib.Pipeline.Kit

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The ghost state: the staging's and the protocol's. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## Buffers and cells -/

abbrev xbfM : Memref sig .tc .vmem S512x1024 .bf16 := Memref.whole cc0_scratch0
abbrev xgM : Memref sig .tc .vmem S512x1024 .bf16 := Memref.whole cc0_scratch1
abbrev abfM : Memref sig .tc .vmem S512x1 .i32 := Memref.whole cc0_scratch2
abbrev agM : Memref sig .tc .vmem S512x1 .i32 := Memref.whole cc0_scratch3
abbrev accM : Memref sig .tc .vmem S512x1024 .f32 := Memref.whole cc0_scratch4
abbrev obfM : Memref sig .tc .vmem S512x1024 .bf16 := Memref.whole cc0_scratch5
abbrev oobfM : Memref sig .tc .vmem S512x1024 .bf16 := Memref.whole cc0_scratch6
abbrev xrecvM : Memref sig .tc .vmem S512x1024 .bf16 := Memref.whole cc0_scratch7
abbrev yrecvM : Memref sig .tc .vmem S512x1024 .bf16 := Memref.whole cc0_scratch8
abbrev drecvM : Memref sig .tc .vmem S512x1024 .bf16 := Memref.whole cc0_scratch9
abbrev w1M : Memref sig .tc .vmem S2x1024x2048 .bf16 := Memref.whole cc0_scratch10
abbrev w2M : Memref sig .tc .vmem S2x2048x1024 .bf16 := Memref.whole cc0_scratch11
abbrev hM : Memref sig .tc .vmem S256x2048 .bf16 := Memref.whole cc0_scratch12

/-- The half `rc` of the rows of a 512-row buffer. -/
abbrev rows (m : Memref sig .tc .vmem S512x1024 .bf16) (rc : Fin 2) : Memref sig .tc .vmem S256x1024 .bf16 := m.slice (rowR rc) (fun _ => rfl)

/-- The barrier semaphore. -/
abbrev barS : Sem sig := (SemArray.scalar (sig.barrier 0 rfl) : Sems sig S_).sem
/-- Message `j`'s semaphore on the sender. -/
abbrev sendS (j : Fin 8) : DmaSem sig := ⟨7 + j.val, by have := j.isLt; show 7 + j.val < 23; omega⟩
/-- Message `j`'s semaphore on the receiver. -/
abbrev recvS (j : Fin 8) : DmaSem sig := ⟨15 + j.val, by have := j.isLt; show 15 + j.val < 23; omega⟩

abbrev barCell (c : Dev nD) : GSem nD τ sig := ((c : Thread nD τ), .reg barS)
abbrev sendCell (c : Dev nD) (j : Fin 8) : GSem nD τ sig := ((c : Thread nD τ), .dma (sendS j))
abbrev recvCell (c : Dev nD) (j : Fin 8) : GSem nD τ sig := ((c : Thread nD τ), .dma (recvS j))

/-- The program's name of the semaphore for message `j`, sender's side, -/
theorem send_sem (j : Fin 8) (h) (q) : (((cc0_scratch13 : DmaSems sig S8).slice (Rect.unit (s := S8) ![j.val] S1.size h)).squeeze S_ q).sem = sendS j := by
  revert j; decide
/-- and the receiver's. -/
theorem recv_sem (j : Fin 8) (h) (q) : (((cc0_scratch14 : DmaSems sig S8).slice (Rect.unit (s := S8) ![j.val] S1.size h)).squeeze S_ q).sem = recvS j := by
  revert j; decide

/-- The receiver of message `j`. -/
def msgTo (c : Dev nD) (j : Fin 8) : Dev nD := ![yp c, yp c, xp c, xp c, yp c, yp c, dg c, dg c] j

theorem msgTo_msgTo (c : Dev nD) (j : Fin 8) : msgTo (msgTo c j) j = c := by revert c j; decide

/-- What message `j`'s transfer credits. -/
def amt : Fin 8 → ℕ
  | 0 => xgM.view.dmaCredit
  | 1 => agM.view.dmaCredit
  | 2 => (rows xrecvM 0).view.dmaCredit
  | 3 => (rows xrecvM 1).view.dmaCredit
  | 4 => (rows yrecvM 0).view.dmaCredit
  | 5 => (rows yrecvM 1).view.dmaCredit
  | 6 => (rows drecvM 0).view.dmaCredit
  | 7 => (rows drecvM 1).view.dmaCredit

theorem amt_pos (j : Fin 8) : 0 < amt j := by
  unfold amt; split <;> exact View.dmaCredit_pos _ (by decide)

/-! ## What the payments bring -/

variable (I : Inp F)

/-- The buffer of device `d` that message `j` is going to write, at any contents. -/
def slot (d : Dev nD) : Fin 8 → sProp 𝕄
  | 0 => iprop(∃ X, owns (d : Thread nD τ) xgM fullShare X)
  | 1 => iprop(∃ X, owns (d : Thread nD τ) agM fullShare X)
  | 2 => iprop(∃ X, owns (d : Thread nD τ) (rows xrecvM 0) fullShare X)
  | 3 => iprop(∃ X, owns (d : Thread nD τ) (rows xrecvM 1) fullShare X)
  | 4 => iprop(∃ X, owns (d : Thread nD τ) (rows yrecvM 0) fullShare X)
  | 5 => iprop(∃ X, owns (d : Thread nD τ) (rows yrecvM 1) fullShare X)
  | 6 => iprop(∃ X, owns (d : Thread nD τ) (rows drecvM 0) fullShare X)
  | 7 => iprop(∃ X, owns (d : Thread nD τ) (rows drecvM 1) fullShare X)

/-- That buffer, and that the device is at the start of the message's receive cell. -/
def ready (d : Dev nD) (j : Fin 8) : sProp 𝕄 := iprop(slot d j ∗ reached ER (recvCell d j) 0)

/-- What the first-axis neighbour, the second-axis neighbour and the device across both axes hand over with their barrier units. -/
def barPay (c : Dev nD) : Fin 3 → sProp 𝕄
  | 0 => iprop(ready (xp c) 2 ∗ ready (xp c) 3)
  | 1 => iprop(ready (yp c) 0 ∗ ready (yp c) 1 ∗ ready (yp c) 4 ∗ ready (yp c) 5)
  | 2 => iprop(ready (dg c) 6 ∗ ready (dg c) 7)

/-- What the sender gets back of message `j`: the source. The outputs for the second-axis neighbour are sent twice, each time from half of the share; half of the
    share of the tokens stays with the device. -/
def sendPay (c : Dev nD) : Fin 8 → sProp 𝕄
  | 0 => owns (c : Thread nD τ) xbfM fullShare.right (xrow I c)
  | 1 => owns (c : Thread nD τ) abfM fullShare (arow I c)
  | 2 => owns (c : Thread nD τ) (rows oobfM 0) fullShare (ownB I c 0)
  | 3 => owns (c : Thread nD τ) (rows oobfM 1) fullShare (ownB I c 1)
  | 4 => owns (c : Thread nD τ) (rows obfM 0) fullShare.right (peerB I c 0)
  | 5 => owns (c : Thread nD τ) (rows obfM 1) fullShare.right (peerB I c 1)
  | 6 => owns (c : Thread nD τ) (rows obfM 0) fullShare.left (peerB I c 0)
  | 7 => owns (c : Thread nD τ) (rows obfM 1) fullShare.left (peerB I c 1)

/-- What the receiver gets of message `j`: the landed block. -/
def recvPay (c : Dev nD) : Fin 8 → sProp 𝕄
  | 0 => owns (c : Thread nD τ) xgM fullShare (xrow I (yp c))
  | 1 => owns (c : Thread nD τ) agM fullShare (arow I (yp c))
  | 2 => owns (c : Thread nD τ) (rows xrecvM 0) fullShare (ownB I (xp c) 0)
  | 3 => owns (c : Thread nD τ) (rows xrecvM 1) fullShare (ownB I (xp c) 1)
  | 4 => owns (c : Thread nD τ) (rows yrecvM 0) fullShare (peerB I (yp c) 0)
  | 5 => owns (c : Thread nD τ) (rows yrecvM 1) fullShare (peerB I (yp c) 1)
  | 6 => owns (c : Thread nD τ) (rows drecvM 0) fullShare (peerB I (dg c) 0)
  | 7 => owns (c : Thread nD τ) (rows drecvM 1) fullShare (peerB I (dg c) 1)

instance slot_storable (d : Dev nD) (j : Fin 8) : BI.Storable (upEmb : UEmb _ 𝕄) (slot (F := F) d j) := by
  unfold slot; split <;> infer_instance
instance ready_storable (d : Dev nD) (j : Fin 8) : BI.Storable (upEmb : UEmb _ 𝕄) (ready (F := F) d j) := by
  unfold ready; infer_instance
instance barPay_storable (c : Dev nD) (b : Fin 3) : BI.Storable (upEmb : UEmb _ 𝕄) (barPay (F := F) c b) := by
  unfold barPay; split <;> infer_instance
instance sendPay_storable (c : Dev nD) (j : Fin 8) : BI.Storable (upEmb : UEmb _ 𝕄) (sendPay I c j) := by
  unfold sendPay; split <;> infer_instance
instance recvPay_storable (c : Dev nD) (j : Fin 8) : BI.Storable (upEmb : UEmb _ 𝕄) (recvPay I c j) := by
  unfold recvPay; split <;> infer_instance

/-! ## The schedule -/

/-- The message a semaphore number belongs to. -/
def msgOf (q : ℕ) : Fin 8 := ⟨(q - 7) % 8, Nat.mod_lt _ (by decide)⟩

theorem msgOf_send (j : Fin 8) : msgOf (7 + j.val) = j := by revert j; decide
theorem msgOf_recv (j : Fin 8) : msgOf (15 + j.val) = j := by revert j; decide

/-- One round on every cell: three units on a barrier cell, one transfer on a send or a receive cell. -/
def Rd : Rounds.Schedule (GSem nD τ sig) (Fin 3) 𝕄 where
  duties g r := if r = 0 then (match g.2 with | .reg _ => Finset.univ | .dma _ => {0}) else ∅
  unitless _ := False
  amount g _ _ := match g.2 with | .reg _ => 1 | .dma q => amt (msgOf q.val)
  payload g _ b := match g.2 with
    | .reg _ => barPay g.1.1 b
    | .dma q => if q.val < 15 then sendPay I g.1.1 (msgOf q.val) else recvPay I g.1.1 (msgOf q.val)
  amount_pos g _ _ _ := by split; exact Nat.one_pos; exact amt_pos _

instance Rd_payload_storable (g : GSem nD τ sig) (r : ℕ) (d : Fin 3) : BI.Storable (upEmb : UEmb _ 𝕄) ((Rd I).payload g r d) := by
  obtain ⟨t, s⟩ := g
  cases s with
  | reg s => exact barPay_storable _ _
  | dma q =>
    show BI.Storable upEmb (if q.val < 15 then _ else _)
    split
    · exact sendPay_storable I _ _
    · exact recvPay_storable I _ _

variable (c : Dev nD) (j : Fin 8)

theorem duties_bar : (Rd I).duties (barCell c) 0 = Finset.univ := rfl
theorem duties_send : (Rd I).duties (sendCell c j) 0 = {0} := rfl
theorem duties_recv : (Rd I).duties (recvCell c j) 0 = {0} := rfl
theorem duties_later (g : GSem nD τ sig) : ∀ r, 0 + 1 ≤ r → (Rd I).duties g r = ∅ := fun r hr => if_neg (by omega)
theorem amount_send : (Rd I).amount (sendCell c j) 0 0 = amt j := congrArg amt (msgOf_send j)
theorem amount_recv : (Rd I).amount (recvCell c j) 0 0 = amt j := congrArg amt (msgOf_recv j)
theorem expect_bar : (Rd I).expect (barCell c) 0 = 3 := by
  unfold Schedule.expect Schedule.amountOf; rw [duties_bar]; rfl
theorem expect_send : (Rd I).expect (sendCell c j) 0 = amt j := by
  unfold Schedule.expect Schedule.amountOf; rw [duties_send, Finset.sum_singleton, amount_send]
theorem expect_recv : (Rd I).expect (recvCell c j) 0 = amt j := by
  unfold Schedule.expect Schedule.amountOf; rw [duties_recv, Finset.sum_singleton, amount_recv]
theorem payload_bar (b : Fin 3) : (Rd I).payload (barCell c) 0 b = barPay c b := rfl
theorem payload_send : (Rd I).payload (sendCell c j) 0 0 = sendPay I c j :=
  (if_pos (show 7 + j.val < 15 by have := j.isLt; omega)).trans (congrArg (sendPay I c) (msgOf_send j))
theorem payload_recv : (Rd I).payload (recvCell c j) 0 0 = recvPay I c j :=
  (if_neg (show ¬ 15 + j.val < 15 by omega)).trans (congrArg (recvPay I c) (msgOf_recv j))
theorem rest_bar : bigSep ((Rd I).duties (barCell c) 0 \ ∅) (fun u => (Rd I).payload (barCell c) 0 u)
    = iprop(barPay (F := F) c 0 ∗ barPay c 1 ∗ barPay c 2) := by
  rw [Finset.sdiff_empty, duties_bar]
  show bigSep Finset.univ (fun u => barPay c u) = _
  rw [Ring.bigSep_fin3]
theorem rest_send : bigSep ((Rd I).duties (sendCell c j) 0 \ ∅) (fun u => (Rd I).payload (sendCell c j) 0 u) = sendPay I c j := by
  rw [Finset.sdiff_empty, duties_send, bigSep_singleton, payload_send]
theorem rest_recv : bigSep ((Rd I).duties (recvCell c j) 0 \ ∅) (fun u => (Rd I).payload (recvCell c j) 0 u) = recvPay I c j := by
  rw [Finset.sdiff_empty, duties_recv, bigSep_singleton, payload_recv]

/-! ## What a device owes -/

/-- The cell the `k`-th last payment of a device goes to, -/
def payCell (c : Dev nD) : ℕ → GSem nD τ sig
  | 0 => recvCell (msgTo c 5) 5
  | 1 => recvCell (msgTo c 7) 7
  | 2 => recvCell (msgTo c 4) 4
  | 3 => recvCell (msgTo c 6) 6
  | 4 => recvCell (msgTo c 3) 3
  | 5 => recvCell (msgTo c 2) 2
  | 6 => recvCell (msgTo c 1) 1
  | 7 => recvCell (msgTo c 0) 0
  | 8 => barCell (dg c)
  | 9 => barCell (yp c)
  | _ => barCell (xp c)

/-- and its amount. -/
def payAmt : ℕ → ℕ
  | 0 => amt 5
  | 1 => amt 7
  | 2 => amt 4
  | 3 => amt 6
  | 4 => amt 3
  | 5 => amt 2
  | 6 => amt 1
  | 7 => amt 0
  | _ => 1

/-- What is still owed before the last `k` payments. -/
def owed (c : Dev nD) : ℕ → CellTallies nD τ sig Unit
  | 0 => 0
  | k + 1 => owed c k + tallyAt (payCell c k) () (payAmt k)

def L (g : GSem nD τ sig) : Finset Unit := if g.1.2 = .tc then {()} else ∅
/-- The order of the waits: what a device owes while it waits lies higher than the cell it waits on. -/
def lv (g : GSem nD τ sig) (_ : Unit) : ℕ := match g.2 with
  | .reg _ => 1
  | .dma q => if q.val < 15 then 0 else if q.val < 17 then 2 else 3

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
theorem owed_pos {k : ℕ} {g : GSem nD τ sig} {u : Unit} (h : 0 < owed c k g u) : ∃ l < k, g = payCell c l := by
  induction k with
  | zero => exact absurd h (Nat.lt_irrefl 0)
  | succ k ih =>
    have h' : 0 < owed c k g u + tallyAt (payCell c k) () (payAmt k) g u := h
    by_cases h0 : 0 < owed c k g u
    · obtain ⟨l, hl, e⟩ := ih h0; exact ⟨l, by omega, e⟩
    · refine ⟨k, by omega, ?_⟩
      rw [tallyAt_apply] at h'
      by_contra hne
      rw [if_neg (fun h => hne h.1)] at h'
      omega

theorem payCell_tc (k : ℕ) : (payCell c k).1.2 = .tc := by
  unfold payCell; split <;> rfl

/-- A device that owes its last `k` payments may wait on a cell that lies below them. -/
theorem mayWait (sm : SemLoc sig) (k n : ℕ) (hlow : lv ((c : Thread nD τ), sm) () < n) (hhigh : ∀ l < k, n ≤ lv (payCell c l) ()) :
    (levAts L lv : sProp 𝕄) ⊢ MayWait (c : Thread nD τ) sm () (owed c k) :=
  MayOwe.of_cut (L := L) (lev := lv) (n - 1) (fun p hp => by rw [Finset.mem_singleton.mp hp, L_tc]; exact Finset.mem_singleton_self _)
    (fun g u hg => by
      obtain ⟨l, -, rfl⟩ := owed_pos c hg
      show u ∈ (if _ then _ else _)
      rw [if_pos (payCell_tc c l)]; exact Finset.mem_singleton_self _)
    (fun p hp => by rw [Finset.mem_singleton.mp hp]; show lv ((c : Thread nD τ), sm) () ≤ _; omega)
    (fun g u hg => by
      obtain ⟨l, hl, rfl⟩ := owed_pos c hg
      have := hhigh l hl
      show n - 1 < lv _ _
      have e : u = () := rfl
      subst e
      omega)

theorem lv_bar : lv (barCell c) () < 2 := (by decide : 1 < 2)
theorem lv_send : lv (sendCell c j) () < 1 := by
  show (if 7 + j.val < 15 then 0 else if 7 + j.val < 17 then 2 else 3) < 1
  rw [if_pos (by have := j.isLt; omega)]; exact Nat.one_pos
theorem lv_recv : lv (recvCell c j) () < 4 := by
  show (if 15 + j.val < 15 then 0 else if 15 + j.val < 17 then 2 else 3) < 4
  split_ifs <;> decide
theorem lv_recv_tok (h : j.val < 2) : lv (recvCell c j) () < 3 := by
  show (if 15 + j.val < 15 then 0 else if 15 + j.val < 17 then 2 else 3) < 3
  rw [if_neg (by omega), if_pos (by omega)]; decide

/-- What a device owes while it waits at the barrier lies above the barrier; -/
theorem above_bar (k : ℕ) (hk : k < 8) : 2 ≤ lv (payCell c k) () := by
  match k, hk with
  | 0, _ | 1, _ | 2, _ | 3, _ | 4, _ | 5, _ | 6, _ | 7, _ => decide +revert
/-- what it owes while it waits for the tokens lies above those messages. -/
theorem above_tok (k : ℕ) (hk : k < 6) : 3 ≤ lv (payCell c k) () := by
  match k, hk with
  | 0, _ | 1, _ | 2, _ | 3, _ | 4, _ | 5, _ => decide +revert

end Cert.KernelIdeal.Moe
-- ==== Proof.KI.Proto.lean ====
/-
  The rules of the protocol's operations: a barrier signal, the wait at the barrier, a message sent and the two waits that end a message. Each is stated with
  what the device holds of the protocol before and after.
-/
module

public import proofs.«01_k».proof.Proof.KI.Sched

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable (I : Inp F)

/-- The cell's invariant, under whichever name it was allocated. -/
def ainv (g : GSem nD τ sig) : sProp 𝕄 := iprop(∃ κ, cellInv ER (Rd I) κ g)

instance ainv_persistent (g : GSem nD τ sig) : BI.Persistent (ainv I g) := by unfold ainv; infer_instance

/-- What sending message `j` uses up. -/
def sender (c : Dev nD) (j : Fin 8) : sProp 𝕄 :=
  iprop(ainv I (sendCell c j) ∗ ainv I (recvCell (msgTo c j) j) ∗ dutyTok ER (sendCell c j) 0 0 ∗ reached ER (sendCell c j) 0
    ∗ dutyTok ER (recvCell (msgTo c j) j) 0 0)

/-- The device's place on its cell of message `j` as sender, -/
def sendAt (c : Dev nD) (j : Fin 8) : sProp 𝕄 := iprop(ainv I (sendCell c j) ∗ atPos ER (sendCell c j) 0 ∅ 0)
/-- that the message was sent, -/
def sent (c : Dev nD) (j : Fin 8) : sProp 𝕄 := cred (tallyAt (sendCell c j) () (amt j))
/-- and its place on its cell of message `j` as receiver. -/
def recvAt (c : Dev nD) (j : Fin 8) : sProp 𝕄 :=
  iprop(ainv I (recvCell c j) ∗ atPos ER (recvCell c j) 0 ∅ 0 ∗ cred (tallyAt (recvCell c j) () (amt j)))

/-- What signalling device `d`'s barrier cell with unit `b` uses up. -/
def signaller (d : Dev nD) (b : Fin 3) : sProp 𝕄 :=
  iprop(ainv I (barCell d) ∗ dutyTok ER (barCell d) 0 b ∗ reached ER (barCell d) 0)

/-- The device's place on its barrier cell. -/
def barAt (c : Dev nD) : sProp 𝕄 :=
  iprop(ainv I (barCell c) ∗ atPos ER (barCell c) 0 ∅ 0 ∗ cred (tallyAt (barCell c) () 3))

/-- What the device owes before its last `l` payments. -/
def ow (c : Dev nD) (l : ℕ) : sProp 𝕄 := iprop(∃ W, owes (c : Thread nD τ) (owed c l) W)

section Rules

/-- Elements at known contents are the memref owned at what it reads there. -/
theorem owns_mk {t : Thread nD τ} {sp : Space} {s : Shape} {e : EltTy} {m : Memref sig t.2.kind sp s e} {q : PosShare TreeShare}
    {f : Buf (Elt F) (m.view.loc t)} {X : s.Idx → Elt F e} (h : m.view.read (Elt F) f = X) :
    (m.view.loc t ↦[m.view.set]{q} f) ⊢ (owns t m q X : sProp 𝕄) := by
  unfold owns
  iintro H
  iexists f
  isplitr; · ipureintro; exact h
  iexact H

/-- The owner of a cell past its round takes the counter out of the invariant, at zero. -/
theorem close (g : GSem nD τ sig) : iprop(ainv I g ∗ atPos ER g (0 + 1) ∅ 0) ⊢ (|={Set.univ}=> semVal g 0 : sProp 𝕄) := by
  unfold ainv
  iintro ⟨⟨%κ, HI⟩, Hat⟩
  iapply (Rounds.cell_close ER (Rd I) (Set.mem_univ κ) (fun h => h) (R := 0 + 1) (duties_later I g))
  isplitl [HI]; · iexact HI
  iexact Hat

/-- A barrier signal: the device hands over its unit's payload. -/
theorem signal_rule {α : Type} {Q : α → sProp 𝕄} {k : PUnit → Prog (TpuEff nD τ sig (Elt F) Λ₀ .tc) α} (c n d : Dev nD) (hn : n = d) (b : Fin 3) (l : ℕ) (hl : payCell c l = barCell d) (hl' : payAmt l = 1) {w : ℤ} (hw : w = ((1 : ℕ) : ℤ)) :
    iprop(signaller I d b ∗ barPay d b ∗ ow c (l + 1))
      ⊢ iprop((ow c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS w) k) Q) := by
  subst hn hw
  unfold signaller ainv
  unfold ow
  iintro ⟨⟨⟨%κ, HI⟩, Ht, Hr⟩, Hp, ⟨%W, HO⟩⟩ Hk
  iapply (Rounds.wp_signal 𝒱₀ ER (Rd I) (c : Thread nD τ) none (dst := (n : Thread nD τ)) (κ := κ)
    (by rw [duties_bar]; exact Finset.mem_univ b) rfl () (O₀ := owed c (l + 1)) (owed c l)
    (by show owed c l + tallyAt (payCell c l) () (payAmt l) = _; rw [hl, hl']; rfl)) $$ [HI HO Ht Hp Hr]
  · isplitl [HI]; · iexact HI
    isplitl [HO]; · iexact HO
    isplitl [Ht]; · iexact Ht
    isplitl [Hp]; · rw [payload_bar]; iexact Hp
    iexact Hr
  iintro HO
  iapply Hk
  iexists W; iexact HO

/-- The wait at the barrier: the three others' payloads, and the barrier's counter back at zero. -/
theorem barrier_rule {α : Type} {Q : α → sProp 𝕄} {k : PUnit → Prog (TpuEff nD τ sig (Elt F) Λ₀ .tc) α} (c : Dev nD) {w : ℤ} (hw : w = ((3 : ℕ) : ℤ)) :
    iprop(barAt I c ∗ ow c 8 ∗ levAts L lv)
      ⊢ iprop((ow c 8 ∗ semVal (barCell c) 0 ∗ barPay c 0 ∗ barPay c 1 ∗ barPay c 2
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS w) k) Q) := by
  subst hw
  unfold barAt ow
  iintro ⟨⟨#HI, Hat, Hc⟩, ⟨%W, HO⟩, Hlev⟩ Hk
  unfold ainv
  icases HI with ⟨%κ, #HI⟩
  iapply (Rounds.wp_wait_rest_token 𝒱₀ ER (Rd I) (c : Thread nD τ) none (κ := κ)
      (wpE_semWait_eq 𝒱₀ (c : Thread nD τ) none Set.univ) (Set.mem_univ _) () (O := owed c 8) (W := W) (R := 0) (m := 0) (T := ∅)
      (by rw [expect_bar])) $$ [Hc HO Hlev Hat]
  · isplitr; · iexact HI
    isplitl [Hc]; · iexact Hc
    isplitl [HO]; · iexact HO
    isplitl [Hlev]
    · iapply (mayWait c (.reg barS) 8 2 (lv_bar c) (fun l hl => above_bar c l hl)); iexact Hlev
    iexact Hat
  iintro ⟨HO, Hat, -, Hpay⟩
  ihave Hp := (Entails.of_eq (rest_bar I c)) $$ Hpay
  imod (close I (barCell c)) $$ [Hat] with Hb
  · isplitr
    · unfold ainv; iexists κ; iexact HI
    iexact Hat
  iapply Hk
  isplitl [HO]; · iexists _; iexact HO
  isplitl [Hb]; · iexact Hb
  iexact Hp

/-- A message sent: the device gives its source and the receiver's buffer, and takes the right to wait for the message's end. -/
theorem send_rule {α : Type} {Q : α → sProp 𝕄} {k : PUnit → Prog (TpuEff nD τ sig (Elt F) Λ₀ .tc) α} (c n : Dev nD) (j : Fin 8) (hn : n = msgTo c j) {s : Shape} {e : EltTy} {src dst : Memref sig .tc .vmem s e} {sS rS : DmaSem sig}
    (hsS : sS = sendS j) (hrS : rS = recvS j) {q : PosShare TreeShare} {X : s.Idx → Elt F e} (l : ℕ)
    (hl : payCell c l = recvCell (msgTo c j) j) (hl' : payAmt l = amt j) (hN : dst.view.dmaCredit = amt j)
    (hslot : slot (F := F) (msgTo c j) j ⊢ iprop(∃ Y, owns (msgTo c j : Thread nD τ) dst fullShare Y))
    (hsend : owns (c : Thread nD τ) src q X ⊢ sendPay I c j) (hrecv : owns (msgTo c j : Thread nD τ) dst fullShare X ⊢ recvPay I (msgTo c j) j)
    {hsc : (dst : Memref sig (Dev.tc n : Thread nD τ).2.kind .vmem s e).view.ref.isScScratch = false}
    {hsrc : src.view.WordExact} {hdst : dst.view.WordExact}
    {hsem : DmaTarget.Typed .vmem (.dma rS) (.remote (Dev.tc n : Thread nD τ) (dst : Memref sig (Dev.tc n : Thread nD τ).2.kind .vmem s e) (.dma sS) hsc)}
    :
    iprop(sender I c j ∗ ready (msgTo c j) j ∗ owns (c : Thread nD τ) src q X ∗ ow c (l + 1))
      ⊢ iprop((sent c j ∗ ow c l -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst (.dma sS) hsc) (.dma rS) hsrc hdst hsem) k) Q) := by
  subst hn hsS hrS
  unfold sender ainv ready sent ow
  iintro ⟨⟨⟨%κ₁, HI₁⟩, ⟨%κ₂, HI₂⟩, Ht₁, Hr₁, Ht₂⟩, ⟨Hs, Hr₂⟩, Hx, ⟨%W, HO⟩⟩ Hk
  ihave Hs := hslot $$ Hs
  icases Hs with ⟨%Y, Hs⟩
  unfold owns
  icases Hx with ⟨%fs, %hfs, Hx⟩
  icases Hs with ⟨%fd, %hfd, Hs⟩
  iapply (Rounds.wp_send_pointsTo 𝒱₀ ER (Rd I) (c : Thread nD τ) none (κ₁ := κ₁) (κ₂ := κ₂)
    (r₁ := 0) (r₂ := 0) (d₁ := 0) (d₂ := 0) (fs := fs) (fd := fd) (c' := (msgTo c j : Thread nD τ)) (src := src) (dst := dst) (q := q)
    (by rw [duties_send]; exact Finset.mem_singleton_self _) (by rw [duties_recv]; exact Finset.mem_singleton_self _)
    () () (amt j) (by exact hN) (amount_send I c j) (amount_recv I (msgTo c j) j) (O₀ := owed c (l + 1)) (owed c l)
    (by show owed c l + tallyAt (payCell c l) () (payAmt l) = _; rw [hl, hl']) (W := W)
    (by
      rw [payload_send]
      exact (owns_mk hfs).trans hsend)
    (by
      rw [payload_recv]
      exact (owns_mk (by rw [View.read_write_univ, hfs])).trans hrecv)) $$ [HI₁ HI₂ Hx Hs HO Ht₁ Hr₁ Ht₂ Hr₂]
  · isplitl [HI₁]; · iexact HI₁
    isplitl [HI₂]; · iexact HI₂
    isplitl [Hx]; · iexact Hx
    isplitl [Hs]; · iexact Hs
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [Hc]; · iexact Hc
  iexists W; iexact HO

/-- The wait for a message's sending: the source back, the cell's counter at zero. -/
theorem wait_send_rule {α : Type} {Q : α → sProp 𝕄} {k : PUnit → Prog (TpuEff nD τ sig (Elt F) Λ₀ .tc) α} (c : Dev nD) (j : Fin 8) {s s' : Shape} {e e' : EltTy} {m : Memref sig .tc .vmem s e} {m' : Memref sig .tc .vmem s' e'} {sS : DmaSem sig}
    (hsS : sS = sendS j) (hN : m'.view.dmaCredit = amt j) (l : ℕ) (hl : l ≤ 6) {hm hm'} :
    iprop(sendAt I c j ∗ sent c j ∗ ow c l ∗ levAts L lv)
      ⊢ iprop((ow c l ∗ semVal (sendCell c j) 0 ∗ sendPay I c j
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS m m' hm hm') k) Q) := by
  subst hsS
  unfold sendAt sent ow
  iintro ⟨⟨#HI, Hat⟩, Hc, ⟨%W, HO⟩, Hlev⟩ Hk
  unfold ainv
  icases HI with ⟨%κ, #HI⟩
  iapply (Rounds.wp_wait_rest_token 𝒱₀ ER (Rd I) (c : Thread nD τ) none (κ := κ)
      (wpE_waitDma2_eq 𝒱₀ (c : Thread nD τ) none Set.univ) (Set.mem_univ _) () (O := owed c l) (W := W) (R := 0) (m := 0) (T := ∅)
      (by rw [Nat.zero_add, expect_send, hN])) $$ [Hc HO Hlev Hat]
  · isplitr; · iexact HI
    isplitl [Hc]; · rw [hN]; iexact Hc
    isplitl [HO]; · iexact HO
    isplitl [Hlev]
    · iapply (mayWait c (.dma (sendS j)) l 1 (lv_send c j) (fun i hi => Nat.le_trans (by decide) (above_tok c i (by omega)))); iexact Hlev
    iexact Hat
  iintro ⟨HO, Hat, -, Hpay⟩
  ihave Hp := (Entails.of_eq (rest_send I c j)) $$ Hpay
  imod (close I (sendCell c j)) $$ [Hat] with Hb
  · isplitr
    · unfold ainv; iexists κ; iexact HI
    iexact Hat
  iapply Hk
  isplitl [HO]; · iexists _; iexact HO
  isplitl [Hb]; · iexact Hb
  iexact Hp

/-- The wait for a message's arrival: the landed block, the cell's counter at zero. -/
theorem wait_recv_rule {α : Type} {Q : α → sProp 𝕄} {k : PUnit → Prog (TpuEff nD τ sig (Elt F) Λ₀ .tc) α} (c : Dev nD) (j : Fin 8) {s s' : Shape} {e e' : EltTy} {m : Memref sig .tc .vmem s e} {m' : Memref sig .tc .vmem s' e'} {rS : DmaSem sig}
    (hrS : rS = recvS j) (hN : m'.view.dmaCredit = amt j) (l : ℕ) (hl : l = 0 ∨ j.val < 2 ∧ l ≤ 6) {hm hm'} :
    iprop(recvAt I c j ∗ ow c l ∗ levAts L lv)
      ⊢ iprop((ow c l ∗ semVal (recvCell c j) 0 ∗ recvPay I c j
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 rS m m' hm hm') k) Q) := by
  subst hrS
  unfold recvAt ow
  iintro ⟨⟨#HI, Hat, Hc⟩, ⟨%W, HO⟩, Hlev⟩ Hk
  unfold ainv
  icases HI with ⟨%κ, #HI⟩
  iapply (Rounds.wp_wait_rest_token 𝒱₀ ER (Rd I) (c : Thread nD τ) none (κ := κ)
      (wpE_waitDma2_eq 𝒱₀ (c : Thread nD τ) none Set.univ) (Set.mem_univ _) () (O := owed c l) (W := W) (R := 0) (m := 0) (T := ∅)
      (by rw [Nat.zero_add, expect_recv, hN])) $$ [Hc HO Hlev Hat]
  · isplitr; · iexact HI
    isplitl [Hc]; · rw [hN]; iexact Hc
    isplitl [HO]; · iexact HO
    isplitl [Hlev]
    · rcases hl with rfl | ⟨hj, hl⟩
      · iapply (mayWait c (.dma (recvS j)) 0 4 (lv_recv c j) (fun i hi => absurd hi (Nat.not_lt_zero i))); iexact Hlev
      · iapply (mayWait c (.dma (recvS j)) l 3 (lv_recv_tok c j hj) (fun i hi => above_tok c i (by omega))); iexact Hlev
    iexact Hat
  iintro ⟨HO, Hat, -, Hpay⟩
  ihave Hp := (Entails.of_eq (rest_recv I c j)) $$ Hpay
  imod (close I (recvCell c j)) $$ [Hat] with Hb
  · isplitr
    · unfold ainv; iexists κ; iexact HI
    iexact Hat
  iapply Hk
  isplitl [HO]; · iexists _; iexact HO
  isplitl [Hb]; · iexact Hb
  iexact Hp

end Rules

end Cert.KernelIdeal.Moe
-- ==== Proof.KI.State.lean ====
/-
  What a device holds before each grid point. The points are numbered `8 s + 4 rc + 2 e + fc` by stage, half of the rows, expert and half
  of the hidden features. Each part of the state is stated by itself, so that a stretch of the body is proved over the parts it touches.
-/
module

public import proofs.«01_k».proof.Proof.KI.Proto

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F) (c : Dev nD) (n : ℕ) (rc : Fin 2)

/-- A point's number. -/
abbrev tm (s rc e fc : Fin 2) : ℕ := 8 * s.val + 4 * rc.val + 2 * e.val + fc.val

/-- A number's last bit. -/
def bit (k : ℕ) : Fin 2 := ⟨k % 2, Nat.mod_lt _ (by decide)⟩

/-- The message with half `rc` of the device's own tokens' outputs, -/
abbrev jOwn : Fin 8 := ⟨2 + rc.val, by have := rc.isLt; omega⟩
/-- the one with half `rc` of the neighbour's tokens' outputs to the neighbour, -/
abbrev jPeer : Fin 8 := ⟨4 + rc.val, by have := rc.isLt; omega⟩
/-- and the same to the device across both axes. -/
abbrev jDiag : Fin 8 := ⟨6 + rc.val, by have := rc.isLt; omega⟩

/-! ## The contents known -/

/-- The rounded weights stored so far: point `2 e + fc` stores block `(e, fc)`. -/
def WFact (X : S2x1024x2048.Idx → Elt F .bf16) (Y : S2x2048x1024.Idx → Elt F .bf16) : Prop :=
  ∀ e fc : Fin 2, 2 * e.val + fc.val < n → tile (w1R e fc) X = w1b I c e fc ∧ tile (w2R e fc) Y = w2b I c e fc

/-- The first half of the hidden features is there before the points that compute the second. -/
def HFact (H : S256x2048.Idx → Elt F .bf16) : Prop :=
  n % 2 = 1 → tile (hidR 0) H = if n < 8 then ownH I c (bit (n / 4)) (bit (n / 2)) 0 else peerH I c (bit (n / 4)) (bit (n / 2)) 0

/-- The neighbour's outputs after the first expert. -/
def AFact (A : S512x1024.Idx → Elt F .f32) : Prop :=
  ∀ rc : Fin 2, 8 + 4 * rc.val + 2 ≤ n → n < 8 + 4 * rc.val + 4 → tile (rowR rc) A = peer0 I c rc

/-- The output's rows written so far. -/
def OFact (X : S1024x1024.Idx → Elt F .f32) : Prop :=
  (∀ rc : Fin 2, 4 * rc.val + 2 ≤ n → n < 4 * rc.val + 4 → tile (quartR c rc) X = own0 I c rc)
    ∧ (∀ rc : Fin 2, 4 * rc.val + 4 ≤ n → n < 16 → tile (quartR c rc) X = own I c rc)
    ∧ (16 ≤ n → tile (halfR c) X = outMine I c ∧ tile (halfR (xp c)) X = outOther I c)

/-! ## The parts of the state -/

/-- The rounded weights. -/
def wts : sProp 𝕄 := iprop(∃ X Y, owns (c : Thread nD τ) w1M fullShare X ∗ owns (c : Thread nD τ) w2M fullShare Y ∗ ⌜WFact I c n X Y⌝)
/-- The hidden features. -/
def hb : sProp 𝕄 := iprop(∃ H, owns (c : Thread nD τ) hM fullShare H ∗ ⌜HFact I c n H⌝)
/-- The neighbour's outputs. -/
def acc : sProp 𝕄 := iprop(∃ A, owns (c : Thread nD τ) accM fullShare A ∗ ⌜AFact I c n A⌝)
/-- The output block's buffer `m`. -/
def out (m : Memref sig .tc .vmem S1024x1024 .f32) : sProp 𝕄 := iprop(∃ X, owns (c : Thread nD τ) m fullShare X ∗ ⌜OFact I c n X⌝)
/-- The device's half of the rounded tokens. -/
def xbL : sProp 𝕄 := owns (c : Thread nD τ) xbfM fullShare.left (xrow I c)

/-- A message under way. -/
def going (j : Fin 8) : sProp 𝕄 := iprop(sendAt I c j ∗ recvAt I c j)
/-- A message over, on both the device's cells of it. -/
def over (j : Fin 8) : sProp 𝕄 := iprop(semVal (sendCell c j) 0 ∗ semVal (recvCell c j) 0 ∗ sendPay I c j ∗ recvPay I c j)

/-- The messages with the tokens and their experts: over after point 8. -/
def tokS : sProp 𝕄 :=
  if n ≤ 8 then iprop(sent c 0 ∗ going I c 0 ∗ sent c 1 ∗ going I c 1) else iprop(over I c 0 ∗ over I c 1)

/-- The message with half `rc` of the own outputs: sent at point `4 rc + 3`. -/
def ownS : sProp 𝕄 :=
  if n < 4 * rc.val + 4 then iprop(sender I c (jOwn rc) ∗ ready (xp c) (jOwn rc) ∗ ∃ X, owns (c : Thread nD τ) (rows oobfM rc) fullShare X) else sent c (jOwn rc)

/-- The two messages with half `rc` of the neighbour's outputs: sent at point `8 + 4 rc + 3`. -/
def peerS : sProp 𝕄 :=
  if n < 8 + 4 * rc.val + 4 then
    iprop(sender I c (jDiag rc) ∗ ready (dg c) (jDiag rc) ∗ sender I c (jPeer rc) ∗ ready (yp c) (jPeer rc) ∗ ∃ X, owns (c : Thread nD τ) (rows obfM rc) fullShare X)
  else iprop(sent c (jDiag rc) ∗ sent c (jPeer rc))

/-- The six messages of outputs under way. -/
def goings : sProp 𝕄 := iprop(going I c 2 ∗ going I c 3 ∗ going I c 4 ∗ going I c 5 ∗ going I c 6 ∗ going I c 7)

/-- How many payments a device still owes before a point. -/
def owN (n : ℕ) : ℕ := if n < 4 then 6 else if n < 8 then 5 else if n < 12 then 4 else if n < 16 then 2 else 0

/-- What a device holds at a point once the barrier is behind it, besides the output block's buffer and what it owes. -/
def Mid : sProp 𝕄 :=
  iprop(levAts L lv ∗ semVal (barCell c) 0 ∗ xbL I c ∗ wts I c n ∗ hb I c n ∗ acc I c n ∗ tokS I c n ∗ (ownS I c n 0 ∗ ownS I c n 1)
    ∗ (peerS I c n 0 ∗ peerS I c n 1) ∗ goings I c)

/-- What it holds at the start. -/
def Start : sProp 𝕄 :=
  iprop(levAts L lv ∗ barAt I c ∗ (signaller I (xp c) 0 ∗ signaller I (yp c) 1 ∗ signaller I (dg c) 2)
    ∗ (ready c 0 ∗ ready c 1 ∗ ready c 2 ∗ ready c 3 ∗ ready c 4 ∗ ready c 5 ∗ ready c 6 ∗ ready c 7)
    ∗ (sender I c 0 ∗ sender I c 1 ∗ sender I c 2 ∗ sender I c 3 ∗ sender I c 4 ∗ sender I c 5 ∗ sender I c 6 ∗ sender I c 7)
    ∗ (going I c 0 ∗ going I c 1) ∗ goings I c
    ∗ (∃ X, owns (c : Thread nD τ) xbfM fullShare X) ∗ (∃ X, owns (c : Thread nD τ) abfM fullShare X)
    ∗ wts I c 0 ∗ hb I c 0 ∗ acc I c 0
    ∗ ((∃ X, owns (c : Thread nD τ) (rows oobfM 0) fullShare X) ∗ (∃ X, owns (c : Thread nD τ) (rows oobfM 1) fullShare X))
    ∗ ((∃ X, owns (c : Thread nD τ) (rows obfM 0) fullShare X) ∗ (∃ X, owns (c : Thread nD τ) (rows obfM 1) fullShare X)))

/-- What it holds at the end: every message over, the barrier's counter at zero. -/
def End : sProp 𝕄 :=
  iprop(semVal (barCell c) 0 ∗ xbL I c ∗ wts I c 16 ∗ hb I c 16 ∗ acc I c 16
    ∗ (over I c 0 ∗ over I c 1 ∗ over I c 2 ∗ over I c 3 ∗ over I c 4 ∗ over I c 5 ∗ over I c 6 ∗ over I c 7))

/-- The state before point `n`, and after the last. -/
def Φst : sProp 𝕄 := if n = 0 then Start I c else if n < 16 then Mid I c n else End I c
/-- What is owed there. -/
def owΦ (n : ℕ) : ℕ := if n = 0 then 11 else owN n

end Cert.KernelIdeal.Moe
-- ==== Proof.KI.Ghost.lean ====
/-
  The launch of the protocol between the devices: the rights and credits each device starts with.
-/
module

public import proofs.«01_k».proof.Proof.KI.State

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F) (c : Dev nD)

/-! ## The cells and the rights at launch -/

/-- A device's own cells of the messages, the senders' first. -/
def osem (k : Fin 2 × Fin 8) : SemLoc sig := if k.1 = 0 then .dma (sendS k.2) else .dma (recvS k.2)

theorem osem_inj : Function.Injective osem := by decide

/-- The barrier cells, open from the start, -/
def barCells : Finset (GSem nD τ sig) := Finset.univ.map ⟨barCell, fun c d h => Fin.ext (congrArg (fun g : GSem nD τ sig => g.1.1.val) h)⟩
/-- and the messages' cells, each opened by its device as it enters the kernel. -/
def msgCells : Finset (GSem nD τ sig) :=
  Finset.univ.map ⟨fun x : Dev nD × (Fin 2 × Fin 8) => ((x.1 : Thread nD τ), osem x.2), fun x y h =>
    Prod.ext (Fin.ext (congrArg (fun g : GSem nD τ sig => g.1.1.val) h)) (osem_inj (congrArg Prod.snd h))⟩

theorem cells_disjoint : Disjoint barCells msgCells := by
  refine Finset.disjoint_left.mpr fun g h1 h2 => ?_
  obtain ⟨d, -, rfl⟩ := Finset.mem_map.mp h1
  obtain ⟨⟨e, k⟩, -, h⟩ := Finset.mem_map.mp h2
  have h' : osem k = .reg barS := congrArg Prod.snd h
  unfold osem at h'
  split at h' <;> exact absurd h' (by simp)

/-- Whom a device signals with unit `b`. -/
def barTo (b : Fin 3) : Dev nD := ![xp c, yp c, dg c] b

/-- The right to a payment that device `x.1` makes: the three units, then the two payments of each message. -/
def tok (x : Dev nD × (Fin 3 ⊕ Fin 2 × Fin 8)) : GSem nD τ sig × ℕ × Fin 3 := match x.2 with
  | .inl b => (barCell (barTo x.1 b), 0, b)
  | .inr k => (if k.1 = 0 then sendCell x.1 k.2 else recvCell (msgTo x.1 k.2) k.2, 0, 0)

/-- Who makes a payment, and which. -/
def payer (y : GSem nD τ sig × ℕ × Fin 3) : Dev nD × (Fin 3 ⊕ Fin 2 × Fin 8) := match y.1.2 with
  | .reg _ => (barTo y.1.1.1 y.2.2, .inl y.2.2)
  | .dma q => if q.val < 15 then (y.1.1.1, .inr (0, msgOf q.val)) else (msgTo y.1.1.1 (msgOf q.val), .inr (1, msgOf q.val))

theorem payer_tok : Function.LeftInverse payer tok := by
  rintro ⟨c, b | ⟨i, j⟩⟩
  · revert c b; decide
  · revert c i j; decide

def toks : Finset (GSem nD τ sig × ℕ × Fin 3) := Finset.univ.map ⟨tok, payer_tok.injective⟩

/-- The protocol's part of the launch. -/
def elem : URounds (GSem nD τ sig) (Fin 3) := launchOf barCells msgCells toks

/-- What a device has for message `j` before the kernel. -/
def dorm (j : Fin 8) : sProp 𝕄 :=
  iprop((ainv I (sendCell c j) ∗ ainv I (recvCell c j) ∗ ainv I (recvCell (msgTo c j) j)) ∗ (openTok ER (sendCell c j) ∗ openTok ER (recvCell c j))
    ∗ (dutyTok ER (sendCell c j) 0 0 ∗ dutyTok ER (recvCell (msgTo c j) j) 0 0))

/-- What it has for the protocol before the kernel, besides its credits. -/
def ghost : sProp 𝕄 :=
  iprop((ainv I (barCell c) ∗ atPos ER (barCell c) 0 ∅ 0) ∗ (signaller I (xp c) 0 ∗ signaller I (yp c) 1 ∗ signaller I (dg c) 2)
    ∗ bigSep Finset.univ fun j => dorm I c j)

omit [FloatOps F] in
/-- A persistent fact serves every part. -/
theorem bigSep_with {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

omit [FloatOps F] in
/-- The two cells of each message together. -/
theorem bigSep_two (Φ : Fin 2 × Fin 8 → sProp 𝕄) :
    bigSep Finset.univ Φ = bigSep Finset.univ fun j : Fin 8 => iprop(Φ (0, j) ∗ Φ (1, j)) := by
  rw [bigSep_univ_prod, Ring.bigSep_fin2, ← bigSep_sep']

theorem ainv_intro (κ : ℕ) (g : GSem nD τ sig) : cellInv ER (Rd I) κ g ⊢ ainv I g := by
  unfold ainv
  iintro H
  iexists κ
  iexact H

/-- All the invariants. -/
def invs : sProp 𝕄 := iprop((bigSep (barCells ∪ msgCells) fun g => ainv I g) ∗ bigSep barCells fun g => reached ER g 0)
instance invs_persistent : BI.Persistent (invs I) := by unfold invs; infer_instance

theorem mem_bar : barCell c ∈ barCells := Finset.mem_map.mpr ⟨c, Finset.mem_univ _, rfl⟩
theorem mem_send (j : Fin 8) : sendCell c j ∈ msgCells := Finset.mem_map.mpr ⟨(c, (0, j)), Finset.mem_univ _, rfl⟩
theorem mem_recv (j : Fin 8) : recvCell c j ∈ msgCells := Finset.mem_map.mpr ⟨(c, (1, j)), Finset.mem_univ _, rfl⟩

theorem inv_of {g : GSem nD τ sig} (h : g ∈ barCells ∪ msgCells) : invs I ⊢ ainv I g := by
  unfold invs
  exact (sep_mono_left (bigSep_elim h)).trans (by iintro ⟨H, -⟩; iexact H)
theorem reached_bar : invs I ⊢ (reached ER (barCell c) 0 : sProp 𝕄) := by
  unfold invs
  exact (sep_mono_right (bigSep_elim (mem_bar c))).trans (by iintro ⟨-, H⟩; iexact H)

/-- What the launch deals a device, the invariants apart. -/
def dealt : sProp 𝕄 :=
  iprop(atPos ER (barCell c) 0 ∅ 0 ∗ (bigSep Finset.univ fun k => openTok ER ((c : Thread nD τ), osem k))
    ∗ bigSep Finset.univ fun y => dutyTok ER (tok (c, y)).1 (tok (c, y)).2.1 (tok (c, y)).2.2)

theorem dorm_intro (j : Fin 8) :
    iprop(invs I ∗ (openTok ER (sendCell c j) ∗ openTok ER (recvCell c j)) ∗ (dutyTok ER (sendCell c j) 0 0 ∗ dutyTok ER (recvCell (msgTo c j) j) 0 0))
      ⊢ dorm I c j := by
  have h1 := inv_of I (Finset.mem_union_right barCells (mem_send c j))
  have h2 := inv_of I (Finset.mem_union_right barCells (mem_recv c j))
  have h3 := inv_of I (Finset.mem_union_right barCells (mem_recv (msgTo c j) j))
  unfold dorm
  iintro ⟨#HI, Ho, Ht⟩
  isplitr
  · isplitr; · iapply h1; iexact HI
    isplitr; · iapply h2; iexact HI
    iapply h3; iexact HI
  isplitl [Ho] <;> iassumption

theorem signaller_intro (d : Dev nD) (b : Fin 3) : iprop(invs I ∗ dutyTok ER (barCell d) 0 b) ⊢ signaller I d b := by
  have h1 := inv_of I (Finset.mem_union_left msgCells (mem_bar d))
  have h2 := reached_bar I d
  unfold signaller
  iintro ⟨#HI, Ht⟩
  isplitr; · iapply h1; iexact HI
  isplitl [Ht]; · iexact Ht
  iapply h2; iexact HI

theorem ghost_intro : iprop(invs I ∗ dealt c) ⊢ ghost I c := by
  have h1 := inv_of I (Finset.mem_union_left msgCells (mem_bar c))
  have hd := bigSep_with (R := invs I) (S := Finset.univ) (Ψ := fun j => dorm I c j) fun j _ => dorm_intro I c j
  have hT : (bigSep Finset.univ fun y => dutyTok ER (tok (c, y)).1 (tok (c, y)).2.1 (tok (c, y)).2.2 : sProp 𝕄)
      = iprop((dutyTok ER (barCell (xp c)) 0 0 ∗ dutyTok ER (barCell (yp c)) 0 1 ∗ dutyTok ER (barCell (dg c)) 0 2)
        ∗ bigSep Finset.univ fun j : Fin 8 => iprop(dutyTok ER (sendCell c j) 0 0 ∗ dutyTok ER (recvCell (msgTo c j) j) 0 0)) := by
    rw [BI.bigSep_univ_sum, Ring.bigSep_fin3, bigSep_two]; rfl
  have hO : (bigSep Finset.univ fun k => openTok ER ((c : Thread nD τ), osem k) : sProp 𝕄)
      = bigSep Finset.univ fun j : Fin 8 => iprop(openTok ER (sendCell c j) ∗ openTok ER (recvCell c j)) := by
    rw [bigSep_two]; rfl
  rw [bigSep_sep'] at hd
  unfold ghost dealt
  rw [hT, hO]
  iintro ⟨#HI, Ha, Ho, ⟨H0, H1, H2⟩, Ht⟩
  isplitl [Ha]
  · isplitr; · iapply h1; iexact HI
    iexact Ha
  isplitl [H0 H1 H2]
  · isplitl [H0]
    · iapply (signaller_intro I (xp c) 0)
      isplitr; · iexact HI
      iexact H0
    isplitl [H1]
    · iapply (signaller_intro I (yp c) 1)
      isplitr; · iexact HI
      iexact H1
    iapply (signaller_intro I (dg c) 2)
    isplitr; · iexact HI
    iexact H2
  iapply hd
  isplitr; · iexact HI
  isplitl [Ho] <;> iassumption

/-- The launch: the barrier cells opened at zero, the messages' cells left to open, everyone given its rights. -/
theorem fund : iprop((bigSep Finset.univ fun c : Dev nD => semVal (barCell c) 0) ∗ BI.own (ER elem)) ⊢ (|={Set.univ}=> bigSep Finset.univ (ghost I) : sProp 𝕄) := by
  have hb (Φ : GSem nD τ sig → sProp 𝕄) : bigSep barCells Φ = bigSep Finset.univ fun c : Dev nD => Φ (barCell c) := by
    unfold barCells; rw [bigSep_map]; rfl
  have hm (Φ : GSem nD τ sig → sProp 𝕄) : bigSep msgCells Φ = bigSep Finset.univ fun c : Dev nD => bigSep Finset.univ fun k => Φ ((c : Thread nD τ), osem k) := by
    unfold msgCells; rw [bigSep_map, bigSep_univ_prod]; rfl
  have ht (Φ : GSem nD τ sig × ℕ × Fin 3 → sProp 𝕄) : bigSep toks Φ = bigSep Finset.univ fun c : Dev nD => bigSep Finset.univ fun y => Φ (tok (c, y)) := by
    unfold toks; rw [bigSep_map, bigSep_univ_prod]; rfl
  have hf := fund_launch ER (Rd I) cells_disjoint (fun _ _ h => h) toks (Es := Set.univ)
  have hg := bigSep_with (R := invs I) (S := Finset.univ) (Ψ := ghost I) fun c _ => ghost_intro I c
  unfold dealt at hg
  rw [bigSep_sep', bigSep_sep'] at hg
  rw [hb (fun g => semVal g 0), hb (fun g => atPos ER g 0 ∅ 0), hm, ht] at hf
  have hi (κ : GSem nD τ sig → ℕ) : (bigSep (barCells ∪ msgCells) fun g => cellInv ER (Rd I) (κ g) g : sProp 𝕄) ⊢ bigSep (barCells ∪ msgCells) fun g => ainv I g :=
    bigSep_mono fun g _ => ainv_intro I (κ g) g
  unfold elem
  refine hf.trans (BI.fupd_mono ?_)
  iintro ⟨%κ, -, Hi, Hr, Ha, Ho, Ht⟩
  iapply hg
  isplitl [Hi Hr]
  · unfold invs
    isplitl [Hi]
    · iapply (hi κ) $$ Hi
    iexact Hr
  isplitl [Ha]; · iexact Ha
  isplitl [Ho] <;> iassumption

/-! ## The credits -/

omit [FloatOps F] in
theorem owed_apply (n : ℕ) (g : GSem nD τ sig) : owed c n g () = ∑ k ∈ Finset.range n, if g = payCell c k then payAmt k else 0 := by
  induction n with
  | zero => rfl
  | succ n ih =>
    rw [Finset.sum_range_succ, ← ih]
    show owed c n g () + tallyAt (payCell c n) () (payAmt n) g () = _
    rw [tallyAt_apply]
    simp only [and_true]

/-- Which of a device's payments is the arrival of message `j`. -/
def payOf : Fin 8 → Fin 11 := ![7, 6, 5, 4, 2, 0, 3, 1]

theorem payAmt_payOf (j : Fin 8) : payAmt (payOf j).val = amt j := by
  match j with | 0 | 1 | 2 | 3 | 4 | 5 | 6 | 7 => rfl

theorem recv_pay (d : Dev nD) (j : Fin 8) (k : Fin 11) : recvCell c j = payCell d k.val ↔ d = msgTo c j ∧ k = payOf j := by
  revert c d j k; decide

theorem sum_recv (j : Fin 8) : ∑ d : Dev nD, owed d 11 (recvCell c j) () = amt j := by
  simp only [owed_apply, Finset.sum_range, recv_pay]
  rw [Finset.sum_eq_single (msgTo c j) (fun d _ h => Finset.sum_eq_zero fun k _ => if_neg fun h' => h h'.1) (fun h => absurd (Finset.mem_univ _) h),
    Finset.sum_eq_single (payOf j) (fun k _ h => if_neg fun h' => h h'.2) (fun h => absurd (Finset.mem_univ _) h), if_pos ⟨rfl, rfl⟩, payAmt_payOf]

theorem bar_pay (d : Dev nD) (k : Fin 11) (h : barCell c = payCell d k.val) : 8 ≤ k.val := by
  revert c d k; decide

theorem payAmt_bar (k : ℕ) (h : 8 ≤ k) : payAmt k = 1 := by
  obtain ⟨k, rfl⟩ := Nat.exists_eq_add_of_le' h
  rfl

theorem sum_bar : ∑ d : Dev nD, owed d 11 (barCell c) () = 3 := by
  have h (d : Dev nD) (k : Fin 11) : (if barCell c = payCell d k.val then payAmt k.val else 0) = if barCell c = payCell d k.val then 1 else 0 := by
    split
    next h => exact payAmt_bar _ (bar_pay c d k h)
    · rfl
  simp only [owed_apply, Finset.sum_range, h]
  revert c; decide

theorem launch_at (g : GSem nD τ sig) (n : ℕ) (h : ∑ d : Dev nD, owed d 11 g () = n) :
    tallyOn g (launchCredit (Pipeline.owing fun d => owed d 11) 0 g) = (tallyAt g () n : CellTallies nD τ sig Unit) := by
  unfold tallyAt
  refine congrArg _ (Finsupp.ext fun u => ?_)
  cases u
  rw [Pipeline.launchCredit_owing, Finsupp.single_eq_same, h]

/-- The semaphores others pay. -/
def paid (c : Dev nD) : Finset (SemLoc sig) := insert (.reg barS) (Finset.univ.map ⟨fun j : Fin 8 => SemLoc.dma (recvS j), by decide⟩)

/-- A device's credits: its three barrier units and the arrival of each message. -/
theorem creds : (Pipeline.launchCred (fun d => owed d 11) c : sProp 𝕄)
    ⊢ iprop(cred (tallyAt (barCell c) () 3) ∗ bigSep Finset.univ fun j => cred (tallyAt (recvCell c j) () (amt j))) := by
  unfold Pipeline.launchCred
  refine (bigSep_subset (Finset.subset_univ (paid c))).trans ?_
  unfold paid
  rw [bigSep_insert (by decide), bigSep_map]
  refine BI.sep_mono (Entails.of_eq (congrArg cred (launch_at (barCell c) 3 (sum_bar c)))) (bigSep_mono fun j _ => ?_)
  exact Entails.of_eq (congrArg cred (launch_at (recvCell c j) (amt j) (sum_recv c j)))

omit [FloatOps F] in
/-- The barrier's semaphore is the only one outside the kernel. -/
theorem unscopedSems0_eq : (unscopedSems0 c : sProp 𝕄) = semVal (barCell c) 0 := by
  unfold unscopedSems0
  rw [bigSep_eq_bigSepL_of_eq [SemLoc.reg barS] (by decide) (by decide)]
  rfl

end Cert.KernelIdeal.Moe
-- ==== Proof.KI.Cut.lean ====
/-
  The kernel's body cut at its top-level conditionals, so that each is reasoned about once.
-/
module

public import proofs.«01_k».proof.Proof.Gen.KernelIdeal.Points
public import proofs.«01_k».proof.Proof.Gen.KernelIdeal.Skeleton
public import Idealize.ShloMosaic.Lib.Tactic.Stretches

@[expose] public section

noncomputable section

namespace Cert.KernelIdeal.Moe

open Idealize.ShloMosaic Idealize.ShloMosaic.TcCoe
open Cert.KernelIdeal Cert.KernelIdeal.Gen

cut_chain st := cc0_body_skel at 2, 3, 4, 5, 6

end Cert.KernelIdeal.Moe
-- ==== Proof.KI.Steps.lean ====
/-
  The rules for loads and stores at the offsets the body computes, once an offset's value is known.
-/
module

public import proofs.«01_k».proof.Proof.KI.Cut
public import proofs.«01_k».proof.Proof.KI.State

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-- A program's run on device `c`, to the postcondition `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section
variable {c : Dev nD} {s : Shape} {e : EltTy} {m : Memref sig .tc .vmem s e} {off off' size : Fin s.rank → ℕ} {inb : ∀ a, off a + size a ≤ s.size a}

/-- A load at offset `off`, which is `off'`. -/
theorem load_at (h : off = off') {hl : m.view.LoadsAt (Rect.unit off size inb).toLoadRect}
    {α : Type} {Q : α → sProp 𝕄} {k : ((Rect.unit off size inb).shape.Idx → Elt F e) → Prog (TpuEff nD τ sig (Elt F) Λ₀ .tc) α} {q : PosShare TreeShare} {X : s.Idx → Elt F e} :
    owns (c : Thread nD τ) m q X ⊢ iprop((owns (c : Thread nD τ) m q X -∗ run c (k (tile (Rect.unit off' size (h ▸ inb)) X)) Q)
      -∗ run c (.op (.load m (Rect.unit off size inb).toLoadRect hl) k) Q) := by
  subst h
  exact load_owns c

/-- The same where what lies there is known. -/
theorem load_val (h : off = off') {hl : m.view.LoadsAt (Rect.unit off size inb).toLoadRect}
    {α : Type} {Q : α → sProp 𝕄} {k : ((Rect.unit off size inb).shape.Idx → Elt F e) → Prog (TpuEff nD τ sig (Elt F) Λ₀ .tc) α} {q : PosShare TreeShare} {X : s.Idx → Elt F e}
    {w : (Rect.unit off size inb).shape.Idx → Elt F e} (hw : tile (Rect.unit off' size (h ▸ inb)) X = w) :
    owns (c : Thread nD τ) m q X ⊢ iprop((owns (c : Thread nD τ) m q X -∗ run c (k w) Q)
      -∗ run c (.op (.load m (Rect.unit off size inb).toLoadRect hl) k) Q) := by
  subst h hw
  exact load_owns c

/-- A load of all of an array. -/
theorem load_all {inb : ∀ a, off a + s.size a ≤ s.size a} (h : ∀ a, off a = 0) {hl : m.view.LoadsAt (Rect.unit off s.size inb).toLoadRect}
    {α : Type} {Q : α → sProp 𝕄} {k : (s.Idx → Elt F e) → Prog (TpuEff nD τ sig (Elt F) Λ₀ .tc) α} {q : PosShare TreeShare} {X : s.Idx → Elt F e} :
    owns (c : Thread nD τ) m q X ⊢ iprop((owns (c : Thread nD τ) m q X -∗ run c (k X) Q)
      -∗ run c (.op (.load m (Rect.unit off s.size inb).toLoadRect hl) k) Q) := by
  have hX : tile (Rect.unit off s.size inb) X = X := by
    funext i
    refine congrArg X (funext fun a => Fin.ext ?_)
    show off a + 1 * (i a).val = (i a).val
    rw [h a]; omega
  have R := load_owns (U := UU) c (m := m) (r := Rect.unit off s.size inb) (hl := hl) (Q := Q) (k := k) (q := q) (X := X)
  rw [hX] at R
  exact R

/-- The same where the array is known. -/
theorem load_all_val {inb : ∀ a, off a + s.size a ≤ s.size a} (h : ∀ a, off a = 0) {hl : m.view.LoadsAt (Rect.unit off s.size inb).toLoadRect}
    {α : Type} {Q : α → sProp 𝕄} {k : (s.Idx → Elt F e) → Prog (TpuEff nD τ sig (Elt F) Λ₀ .tc) α} {q : PosShare TreeShare} {X w : s.Idx → Elt F e} (hw : X = w) :
    owns (c : Thread nD τ) m q X ⊢ iprop((owns (c : Thread nD τ) m q X -∗ run c (k w) Q)
      -∗ run c (.op (.load m (Rect.unit off s.size inb).toLoadRect hl) k) Q) := by
  subst hw
  exact load_all h

/-- A store at offset `off`, which is `off'`. -/
theorem store_at (h : off = off') {w : (Rect.unit off size inb).shape.Idx → Elt F e}
    {hx : (m.access (Rect.unit off size inb)).Stores Finset.univ} {hm : Finset.univ = Finset.univ ∨ ∀ a, (Rect.unit off size inb).stride a = 1}
    {α : Type} {Q : α → sProp 𝕄} {k : PUnit → Prog (TpuEff nD τ sig (Elt F) Λ₀ .tc) α} {X : s.Idx → Elt F e} :
    owns (c : Thread nD τ) m fullShare X
      ⊢ iprop((owns (c : Thread nD τ) m fullShare ((Rect.unit off' size (h ▸ inb)).overlay X w) -∗ run c (k ⟨⟩) Q)
        -∗ run c (.op (.store m (Rect.unit off size inb) w Finset.univ hx hm) k) Q) := by
  subst h
  exact store_owns c

/-- The same where the array after the store is known. -/
theorem store_val (h : off = off') {w : (Rect.unit off size inb).shape.Idx → Elt F e}
    {hx : (m.access (Rect.unit off size inb)).Stores Finset.univ} {hm : Finset.univ = Finset.univ ∨ ∀ a, (Rect.unit off size inb).stride a = 1}
    {α : Type} {Q : α → sProp 𝕄} {k : PUnit → Prog (TpuEff nD τ sig (Elt F) Λ₀ .tc) α} {X Z : s.Idx → Elt F e}
    (hZ : (Rect.unit off' size (h ▸ inb)).overlay X w = Z) :
    owns (c : Thread nD τ) m fullShare X
      ⊢ iprop((owns (c : Thread nD τ) m fullShare Z -∗ run c (k ⟨⟩) Q)
        -∗ run c (.op (.store m (Rect.unit off size inb) w Finset.univ hx hm) k) Q) := by
  subst h hZ
  exact store_owns c

/-- A store of all of an array. -/
theorem store_all {inb : ∀ a, off a + s.size a ≤ s.size a} (h : ∀ a, off a = 0) {w : s.Idx → Elt F e}
    {hx : (m.access (Rect.unit off s.size inb)).Stores Finset.univ} {hm : Finset.univ = Finset.univ ∨ ∀ a, (Rect.unit off s.size inb).stride a = 1}
    {α : Type} {Q : α → sProp 𝕄} {k : PUnit → Prog (TpuEff nD τ sig (Elt F) Λ₀ .tc) α} {X : s.Idx → Elt F e} :
    owns (c : Thread nD τ) m fullShare X
      ⊢ iprop((owns (c : Thread nD τ) m fullShare w -∗ run c (k ⟨⟩) Q)
        -∗ run c (.op (.store m (Rect.unit off s.size inb) w Finset.univ hx hm) k) Q) := by
  have hX : (Rect.unit off s.size inb).overlay X w = w := by
    funext i
    have e : (Rect.unit off s.size inb).emb i = i := funext fun a => Fin.ext (by show off a + 1 * (i a).val = (i a).val; rw [h a]; omega)
    conv_lhs => rw [← e]
    exact Rect.overlay_emb _ _ _ _
  have R := store_owns (U := UU) c (m := m) (r := Rect.unit off s.size inb) (w := w) (hx := hx) (hm := hm) (Q := Q) (k := k) (X := X)
  rw [hX] at R
  exact R

/-- The same of a value known. -/
theorem store_all_as {inb : ∀ a, off a + s.size a ≤ s.size a} (h : ∀ a, off a = 0) {w : s.Idx → Elt F e} (w' : s.Idx → Elt F e) (hw : w = w')
    {hx : (m.access (Rect.unit off s.size inb)).Stores Finset.univ} {hm : Finset.univ = Finset.univ ∨ ∀ a, (Rect.unit off s.size inb).stride a = 1}
    {α : Type} {Q : α → sProp 𝕄} {k : PUnit → Prog (TpuEff nD τ sig (Elt F) Λ₀ .tc) α} {X : s.Idx → Elt F e} :
    owns (c : Thread nD τ) m fullShare X
      ⊢ iprop((owns (c : Thread nD τ) m fullShare w' -∗ run c (k ⟨⟩) Q)
        -∗ run c (.op (.store m (Rect.unit off s.size inb) w Finset.univ hx hm) k) Q) := by
  subst hw
  exact store_all h

/-- A store at offset `off`, which is `off'`, of a value known. -/
theorem store_as (h : off = off') {w : (Rect.unit off size inb).shape.Idx → Elt F e} (w' : (Rect.unit off' size (h ▸ inb)).shape.Idx → Elt F e)
    (hw : w = w')
    {hx : (m.access (Rect.unit off size inb)).Stores Finset.univ} {hm : Finset.univ = Finset.univ ∨ ∀ a, (Rect.unit off size inb).stride a = 1}
    {α : Type} {Q : α → sProp 𝕄} {k : PUnit → Prog (TpuEff nD τ sig (Elt F) Λ₀ .tc) α} {X : s.Idx → Elt F e} :
    owns (c : Thread nD τ) m fullShare X
      ⊢ iprop((owns (c : Thread nD τ) m fullShare ((Rect.unit off' size (h ▸ inb)).overlay X w') -∗ run c (k ⟨⟩) Q)
        -∗ run c (.op (.store m (Rect.unit off size inb) w Finset.univ hx hm) k) Q) := by
  subst h hw
  exact store_owns c

/-- A load at offset `off`, which is that of a slice owned. -/
theorem load_in (h : off = off') {inb' : ∀ a, off' a + size a ≤ s.size a} {hl : m.view.LoadsAt (Rect.unit off size inb).toLoadRect}
    {α : Type} {Q : α → sProp 𝕄} {k : ((Rect.unit off size inb).shape.Idx → Elt F e) → Prog (TpuEff nD τ sig (Elt F) Λ₀ .tc) α} {q : PosShare TreeShare}
    {X : (Rect.unit off' size inb').shape.Idx → Elt F e} :
    owns (c : Thread nD τ) (m.slice (Rect.unit off' size inb') (fun _ => rfl)) q X
      ⊢ iprop((owns (c : Thread nD τ) (m.slice (Rect.unit off' size inb') (fun _ => rfl)) q X -∗ run c (k X) Q)
      -∗ run c (.op (.load m (Rect.unit off size inb).toLoadRect hl) k) Q) := by
  subst h
  exact load_slice c

/-- A store at offset `off`, which is that of a slice owned. -/
theorem store_in (h : off = off') {inb' : ∀ a, off' a + size a ≤ s.size a} {w : (Rect.unit off size inb).shape.Idx → Elt F e}
    {hx : (m.access (Rect.unit off size inb)).Stores Finset.univ} {hm : Finset.univ = Finset.univ ∨ ∀ a, (Rect.unit off size inb).stride a = 1}
    {α : Type} {Q : α → sProp 𝕄} {k : PUnit → Prog (TpuEff nD τ sig (Elt F) Λ₀ .tc) α} {X : (Rect.unit off' size inb').shape.Idx → Elt F e} :
    owns (c : Thread nD τ) (m.slice (Rect.unit off' size inb') (fun _ => rfl)) fullShare X
      ⊢ iprop((owns (c : Thread nD τ) (m.slice (Rect.unit off' size inb') (fun _ => rfl)) fullShare w -∗ run c (k ⟨⟩) Q)
        -∗ run c (.op (.store m (Rect.unit off size inb) w Finset.univ hx hm) k) Q) := by
  subst h
  exact store_slice c

/-- The same of a value known. -/
theorem store_in_as (h : off = off') {inb' : ∀ a, off' a + size a ≤ s.size a} {w : (Rect.unit off size inb).shape.Idx → Elt F e}
    (w' : (Rect.unit off' size inb').shape.Idx → Elt F e) (hw : w = w')
    {hx : (m.access (Rect.unit off size inb)).Stores Finset.univ} {hm : Finset.univ = Finset.univ ∨ ∀ a, (Rect.unit off size inb).stride a = 1}
    {α : Type} {Q : α → sProp 𝕄} {k : PUnit → Prog (TpuEff nD τ sig (Elt F) Λ₀ .tc) α} {X : (Rect.unit off' size inb').shape.Idx → Elt F e} :
    owns (c : Thread nD τ) (m.slice (Rect.unit off' size inb') (fun _ => rfl)) fullShare X
      ⊢ iprop((owns (c : Thread nD τ) (m.slice (Rect.unit off' size inb') (fun _ => rfl)) fullShare w' -∗ run c (k ⟨⟩) Q)
        -∗ run c (.op (.store m (Rect.unit off size inb) w Finset.univ hx hm) k) Q) := by
  subst h hw
  exact store_slice c

end

/-- A message of half a buffer's rows, at the offset `off` of half `rc`. -/
theorem send_rows (I : Inp F) (c n : Dev nD) (j : Fin 8) (hn : n = msgTo c j) (m m' : Memref sig .tc .vmem S512x1024 .bf16) (rc : Fin 2) {off : Fin 2 → ℕ}
    (h : off = ![256 * rc.val, 0]) {inb inb' : ∀ a, off a + S256x1024.size a ≤ S512x1024.size a} {sS rS : DmaSem sig} (hsS : sS = sendS j) (hrS : rS = recvS j)
    {q : PosShare TreeShare} {X : S256x1024.Idx → Elt F .bf16} (l : ℕ) (hl : payCell c l = recvCell (msgTo c j) j) (hl' : payAmt l = amt j)
    (hN : (rows m' rc).view.dmaCredit = amt j)
    (hslot : slot (F := F) (msgTo c j) j ⊢ iprop(∃ Y, owns (msgTo c j : Thread nD τ) (rows m' rc) fullShare Y))
    (hsend : owns (c : Thread nD τ) (rows m rc) q X ⊢ sendPay I c j) (hrecv : owns (msgTo c j : Thread nD τ) (rows m' rc) fullShare X ⊢ recvPay I (msgTo c j) j)
    {hsc hsrc hdst hsem} {α : Type} {Q : α → sProp 𝕄} {k : PUnit → Prog (TpuEff nD τ sig (Elt F) Λ₀ .tc) α} :
    iprop(sender I c j ∗ ready (msgTo c j) j ∗ owns (c : Thread nD τ) (rows m rc) q X ∗ ow c (l + 1))
      ⊢ iprop((sent c j ∗ ow c l -∗ run c (k ⟨⟩) Q)
        -∗ run c (.op (.enqueueDma (m.slice (Rect.unit (s := S512x1024) off S256x1024.size inb) (fun _ => rfl))
            (.remote (Dev.tc n : Thread nD τ) (m'.slice (Rect.unit (s := S512x1024) off S256x1024.size inb') (fun _ => rfl)) (.dma sS) hsc) (.dma rS) hsrc hdst hsem) k) Q) := by
  subst h
  exact send_rule I c n j hn hsS hrS l hl hl' hN hslot hsend hrecv

/-- Transfers between buffers of one shape and type all count the same. -/
theorem credit_eq {s : Shape} {e : EltTy} (m m' : Memref sig .tc .vmem s e) : m.view.dmaCredit = m'.view.dmaCredit := rfl

/-- A conditional before `jp`: where the condition holds its branch turns `R` into `R'`, and elsewhere `R` is `R'` already. -/
theorem run_dite {c : Dev nD} {C : Prop} [Decidable C] {α : Type} {Q : α → sProp 𝕄} {t : C → Prog (TpuEff nD τ sig (Elt F) Λ₀ .tc) α}
    {jp : Prog (TpuEff nD τ sig (Elt F) Λ₀ .tc) α} {R R' : sProp 𝕄} (hT : ∀ h, R ⊢ iprop((R' -∗ run c jp Q) -∗ run c (t h) Q)) (hF : ¬C → R ⊢ R') :
    R ⊢ iprop((R' -∗ run c jp Q) -∗ run c (dite C t fun _ => jp) Q) := by
  by_cases h : C
  · rw [dif_pos h]; exact hT h
  · rw [dif_neg h]
    iintro HR Hk
    iapply Hk
    iapply (hF h) $$ HR

/-! ## The offsets at a point -/

theorem off3_pt (s rc e fc : Fin 2) : k0_off3 (pt s rc e fc) = ![e.val, 0, 1024 * fc.val] := off3_eq _
theorem off5_pt (s rc e fc : Fin 2) : k0_off5 (pt s rc e fc) = ![e.val, 0, 1024 * fc.val] := off5_eq _
theorem off4_pt (s rc e fc : Fin 2) : k0_off4 (pt s rc e fc) = ![e.val, 1024 * fc.val, 0] := off4_eq _
theorem off6_pt (s rc e fc : Fin 2) : k0_off6 (pt s rc e fc) = ![256 * rc.val, 0] := off6_eq _
theorem off13_pt (s rc e fc : Fin 2) : k0_off13 (pt s rc e fc) = ![256 * rc.val, 0] := off13_eq _
theorem off14_pt (s rc e fc : Fin 2) : k0_off14 (pt s rc e fc) = ![256 * rc.val, 0] := off14_eq _
theorem off15_pt (s rc e fc : Fin 2) : k0_off15 (pt s rc e fc) = ![256 * rc.val, 0] := off15_eq _
theorem off18_pt (s rc e fc : Fin 2) : k0_off18 (pt s rc e fc) = ![256 * rc.val, 0] := off18_eq _
theorem off19_pt (s rc e fc : Fin 2) : k0_off19 (pt s rc e fc) = ![256 * rc.val, 0] := off19_eq _
theorem off20_pt (s rc e fc : Fin 2) : k0_off20 (pt s rc e fc) = ![256 * rc.val, 0] := off20_eq _
theorem off8_pt (s rc e fc : Fin 2) : k0_off8 (pt s rc e fc) = ![0, 1024 * fc.val] := off8_eq _
theorem off16_pt (s rc e fc : Fin 2) : k0_off16 (pt s rc e fc) = ![0, 1024 * fc.val] := off16_eq _
theorem off9_pt (s rc e fc : Fin 2) : k0_off9 (pt s rc e fc) = ![e.val, 0, 0] := off9_eq _
theorem off17_pt (s rc e fc : Fin 2) : k0_off17 (pt s rc e fc) = ![e.val, 0, 0] := off17_eq _
theorem off7_pt (s rc e fc : Fin 2) (c : Dev nD) : k0_off7 (pt s rc e fc) c = ![512 * xx c + 256 * rc.val, 0] := off7_eq _ _
theorem off10_pt (s rc e fc : Fin 2) (c : Dev nD) : k0_off10 (pt s rc e fc) c = ![512 * xx c + 256 * rc.val, 0] := off10_eq _ _
theorem off11_pt (s rc e fc : Fin 2) (c : Dev nD) : k0_off11 (pt s rc e fc) c = ![512 * xx c + 256 * rc.val, 0] := off11_eq _ _
theorem off12_pt (s rc e fc : Fin 2) (c : Dev nD) : k0_off12 (pt s rc e fc) c = ![512 * xx c + 256 * rc.val, 0] := off12_eq _ _

/-- A bit is zero or one. -/
theorem fin2_cases (b : Fin 2) : b = 0 ∨ b = 1 := by revert b; decide

/-- A bit by its value. -/
theorem bit_eq (k : ℕ) (b : Fin 2) (h : k % 2 = b.val) : bit k = b := Fin.ext h

end Cert.KernelIdeal.Moe
-- ==== Proof.KI.St2.lean ====
/-
  The second stretch of the body, which rounds a block of the weights and keeps it, and the third, which reads the first matrix's block.
-/
module

public import proofs.«01_k».proof.Proof.KI.Steps

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-- Storing block `(e, fc)` in its place adds it to the blocks known. -/
theorem WFact.step {I : Inp F} {c : Dev nD} {e fc : Fin 2} {X : S2x1024x2048.Idx → Elt F .bf16} {Y : S2x2048x1024.Idx → Elt F .bf16}
    (h : WFact I c (tm 0 0 e fc) X Y) :
    WFact I c (tm 0 0 e fc + 1) ((w1R e fc).overlay X (w1b I c e fc)) ((w2R e fc).overlay Y (w2b I c e fc)) := by
  intro e' fc' hlt
  by_cases he : e' = e
  · subst he
    by_cases hf : fc' = fc
    · subst hf
      exact ⟨tile_overlay rfl _ _, tile_overlay rfl _ _⟩
    · have := fc.isLt; have := fc'.isLt
      have hv : fc'.val ≠ fc.val := fun h => hf (Fin.ext h)
      have hc : fc'.val < fc.val := by simp only [tm] at hlt; omega
      obtain ⟨h1, h2⟩ := h e' fc' (by simp only [tm]; omega)
      refine ⟨(tile_overlay_apart (2 : Fin 3) ?_ _ _).trans h1, (tile_overlay_apart (1 : Fin 3) ?_ _ _).trans h2⟩
      · right; show 1024 * fc'.val + 1024 ≤ 1024 * fc.val; omega
      · right; show 1024 * fc'.val + 1024 ≤ 1024 * fc.val; omega
  · have := e.isLt; have := e'.isLt; have := fc.isLt; have := fc'.isLt
    have hv : e'.val ≠ e.val := fun h => he (Fin.ext h)
    have hc : e'.val < e.val := by simp only [tm] at hlt; omega
    obtain ⟨h1, h2⟩ := h e' fc' (by simp only [tm]; omega)
    refine ⟨(tile_overlay_apart (0 : Fin 3) ?_ _ _).trans h1, (tile_overlay_apart (0 : Fin 3) ?_ _ _).trans h2⟩
    · right; show e'.val + 1 ≤ e.val; omega
    · right; show e'.val + 1 ≤ e.val; omega

/-- From point 4 on all blocks are known. -/
theorem WFact.all {I : Inp F} {c : Dev nD} {n : ℕ} {X : S2x1024x2048.Idx → Elt F .bf16} {Y : S2x2048x1024.Idx → Elt F .bf16} (h : WFact I c n X Y) (hn : 4 ≤ n)
    (n' : ℕ) : WFact I c n' X Y := fun e fc _ => h e fc (by have := e.isLt; have := fc.isLt; omega)

theorem st2_spec (I : Inp F) (c : Dev nD) (s rc e fc : Fin 2) (arg6 arg7 : Memref sig .tc .vmem S1x1024x1024 .f32) {h19 h20}
    (Y6 Y7 : S1x1024x1024.Idx → Elt F .f32) (h6 : s = 0 → rc = 0 → Y6 = I.w1 c e fc) (h7 : s = 0 → rc = 0 → Y7 = I.w2 c e fc)
    {κ : Prog (TpuEff nD τ sig (Elt F) Λ₀ .tc) PUnit} {Q : PUnit → sProp 𝕄} :
    iprop(owns (c : Thread nD τ) arg6 fullShare Y6 ∗ owns (c : Thread nD τ) arg7 fullShare Y7 ∗ wts I c (tm s rc e fc))
      ⊢ iprop((owns (c : Thread nD τ) arg6 fullShare Y6 ∗ owns (c : Thread nD τ) arg7 fullShare Y7 ∗ wts I c (tm s rc e fc + 1) -∗ run c κ Q)
        -∗ run c (st2 (pt s rc e fc) arg6 arg7 w1M h19 w2M h20 κ) Q) := by
  unfold st2 wts
  have hc := cond2_iff (pt s rc e fc)
  iintro ⟨H6, H7, %X, %Y, HX, HY, %hW⟩ Hk
  by_cases h : k0_cond2 (pt s rc e fc) = 1#1
  · obtain ⟨hs, hr⟩ := hc.mp h
    obtain rfl : s = 0 := Fin.ext hs
    obtain rfl : rc = 0 := Fin.ext hr
    simp only [dif_pos h, Prog.lift, Prog.bind_op, Prog.bind_ret]
    iapply (load_all (by decide)) $$ H6; iintro H6
    iapply (load_at (off3_eq _)) $$ HX; iintro HX
    iapply (store_at (off3_eq _)) $$ HX; iintro HX
    iapply (load_all (by decide)) $$ H7; iintro H7
    iapply (load_at (off4_eq _)) $$ HY; iintro HY
    iapply (store_at (off4_eq _)) $$ HY; iintro HY
    iapply Hk
    isplitl [H6]; · iexact H6
    isplitl [H7]; · iexact H7
    iexists _
    iexists _
    isplitl [HX]; · iexact HX
    isplitl [HY]; · iexact HY
    ipureintro
    rw [h6 rfl rfl, h7 rfl rfl]
    exact hW.step
  · simp only [dif_neg h]
    iapply Hk
    isplitl [H6]; · iexact H6
    isplitl [H7]; · iexact H7
    iexists X
    iexists Y
    isplitl [HX]; · iexact HX
    isplitl [HY]; · iexact HY
    ipureintro
    refine hW.all ?_ _
    have : ¬(s.val = 0 ∧ rc.val = 0) := fun hh => h (hc.mpr hh)
    simp only [tm]; omega

theorem st3_spec (I : Inp F) (c : Dev nD) (s rc e fc : Fin 2)
    {κ : Vec F S1x1024x1024 .bf16 → Prog (TpuEff nD τ sig (Elt F) Λ₀ .tc) PUnit} {Q : PUnit → sProp 𝕄} :
    iprop(wts I c (tm s rc e fc + 1))
      ⊢ iprop((wts I c (tm s rc e fc + 1) -∗ run c (κ (w1b I c e fc)) Q) -∗ run c (st3 (pt s rc e fc) w1M κ) Q) := by
  unfold st3 wts
  iintro ⟨%X, %Y, HX, HY, %hW⟩ Hk
  simp only [Prog.lift, Prog.bind_op, Prog.bind_ret]
  iapply (load_val (off5_eq _) (hW e fc (by simp only [tm]; omega)).1) $$ HX; iintro HX
  iapply Hk
  iexists X
  iexists Y
  isplitl [HX]; · iexact HX
  isplitl [HY]; · iexact HY
  ipureintro; exact hW

end Cert.KernelIdeal.Moe
-- ==== Proof.KI.Facts.lean ====
/-
  How the parts of the state pass from one grid point to the next, where nothing but their numbering or their known contents change.
-/
module

public import proofs.«01_k».proof.Proof.KI.Steps

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

variable {I : Inp F} {c : Dev nD} {n : ℕ}

/-- Before and after a message of own outputs is sent. -/
theorem ownS_before {rc : Fin 2} (h : n < 4 * rc.val + 4) : ownS I c n rc
    = iprop(sender I c (jOwn rc) ∗ ready (xp c) (jOwn rc) ∗ ∃ X, owns (c : Thread nD τ) (rows oobfM rc) fullShare X) := if_pos h
theorem ownS_after {rc : Fin 2} (h : ¬n < 4 * rc.val + 4) : ownS I c n rc = sent c (jOwn rc) := if_neg h

/-- Before and after the messages of the neighbour's outputs are sent. -/
theorem peerS_before {rc : Fin 2} (h : n < 8 + 4 * rc.val + 4) : peerS I c n rc
    = iprop(sender I c (jDiag rc) ∗ ready (dg c) (jDiag rc) ∗ sender I c (jPeer rc) ∗ ready (yp c) (jPeer rc)
      ∗ ∃ X, owns (c : Thread nD τ) (rows obfM rc) fullShare X) := if_pos h
theorem peerS_after {rc : Fin 2} (h : ¬n < 8 + 4 * rc.val + 4) : peerS I c n rc = iprop(sent c (jDiag rc) ∗ sent c (jPeer rc)) := if_neg h

/-- Before and after the tokens' messages are over. -/
theorem tokS_before (h : n ≤ 8) : tokS I c n = iprop(sent c 0 ∗ going I c 0 ∗ sent c 1 ∗ going I c 1) := if_pos h
theorem tokS_after (h : ¬n ≤ 8) : tokS I c n = iprop(over I c 0 ∗ over I c 1) := if_neg h

/-- What is sent at another point stays as it is. -/
theorem ownS_step {rc : Fin 2} (h : n ≠ 4 * rc.val + 3) : ownS I c (n + 1) rc = ownS I c n rc := by
  unfold ownS
  by_cases h' : n < 4 * rc.val + 4
  · rw [if_pos h', if_pos (by omega)]
  · rw [if_neg h', if_neg (by omega)]

theorem peerS_step {rc : Fin 2} (h : n ≠ 8 + 4 * rc.val + 3) : peerS I c (n + 1) rc = peerS I c n rc := by
  unfold peerS
  by_cases h' : n < 8 + 4 * rc.val + 4
  · rw [if_pos h', if_pos (by omega)]
  · rw [if_neg h', if_neg (by omega)]

theorem tokS_step (h : n ≠ 8) : tokS I c (n + 1) = tokS I c n := by
  unfold tokS
  by_cases h' : n ≤ 8
  · rw [if_pos h', if_pos (by omega)]
  · rw [if_neg h', if_neg (by omega)]

/-- Only a stage's last points pay. -/
theorem owN_step (h : n % 4 ≠ 3) : owN (n + 1) = owN n := by
  unfold owN
  by_cases h1 : n < 4
  · rw [if_pos h1, if_pos (by omega)]
  · by_cases h2 : n < 8
    · rw [if_neg h1, if_pos h2, if_neg (by omega), if_pos (by omega)]
    · by_cases h3 : n < 12
      · rw [if_neg h1, if_neg h2, if_pos h3, if_neg (by omega), if_neg (by omega), if_pos (by omega)]
      · by_cases h4 : n < 16
        · rw [if_neg h1, if_neg h2, if_neg h3, if_pos h4, if_neg (by omega), if_neg (by omega), if_neg (by omega), if_pos (by omega)]
        · rw [if_neg h1, if_neg h2, if_neg h3, if_neg h4, if_neg (by omega), if_neg (by omega), if_neg (by omega), if_neg (by omega)]

section
variable {H : S256x2048.Idx → Elt F .bf16} {rc e : Fin 2}

theorem HFact.even (h : n % 2 = 0) : HFact I c n H := fun h' => by omega

theorem HFact.get0 (h : HFact I c (tm 0 rc e 1) H) : tile (hidR 0) H = ownH I c rc e 0 := by
  have hr := rc.isLt; have he := e.isLt
  have := h (by simp only [tm, Fin.isValue, Fin.val_zero, Fin.val_one]; omega)
  rw [if_pos (by simp only [tm, Fin.isValue, Fin.val_zero, Fin.val_one]; omega), bit_eq _ rc (by simp only [tm, Fin.isValue, Fin.val_zero, Fin.val_one]; omega),
    bit_eq _ e (by simp only [tm, Fin.isValue, Fin.val_zero, Fin.val_one]; omega)] at this
  exact this

theorem HFact.get1 (h : HFact I c (tm 1 rc e 1) H) : tile (hidR 0) H = peerH I c rc e 0 := by
  have hr := rc.isLt; have he := e.isLt
  have := h (by simp only [tm, Fin.isValue, Fin.val_one]; omega)
  rw [if_neg (by simp only [tm, Fin.isValue, Fin.val_one]; omega), bit_eq _ rc (by simp only [tm, Fin.isValue, Fin.val_one]; omega),
    bit_eq _ e (by simp only [tm, Fin.isValue, Fin.val_one]; omega)] at this
  exact this

theorem HFact.put0 : HFact I c (tm 0 rc e 0 + 1) ((hidR 0).overlay H (ownH I c rc e 0)) := fun _ => by
  have hr := rc.isLt; have he := e.isLt
  rw [if_pos (by simp only [tm, Fin.isValue, Fin.val_zero]; omega), bit_eq _ rc (by simp only [tm, Fin.isValue, Fin.val_zero]; omega),
    bit_eq _ e (by simp only [tm, Fin.isValue, Fin.val_zero]; omega)]
  exact tile_overlay rfl _ _

theorem HFact.put1 : HFact I c (tm 1 rc e 0 + 1) ((hidR 0).overlay H (peerH I c rc e 0)) := fun _ => by
  have hr := rc.isLt; have he := e.isLt
  rw [if_neg (by simp only [tm, Fin.isValue, Fin.val_one, Fin.val_zero]; omega), bit_eq _ rc (by simp only [tm, Fin.isValue, Fin.val_one, Fin.val_zero]; omega),
    bit_eq _ e (by simp only [tm, Fin.isValue, Fin.val_one, Fin.val_zero]; omega)]
  exact tile_overlay rfl _ _

end

section
variable {X : S1024x1024.Idx → Elt F .f32} {rc : Fin 2}

/-- A point that writes no output row keeps what is known. -/
theorem OFact.step (h : OFact I c n X) (hn : n % 2 = 0 ∨ 8 ≤ n) (hn' : n < 15) : OFact I c (n + 1) X :=
  ⟨fun rc h1 h2 => h.1 rc (by have := rc.isLt; omega) (by have := rc.isLt; omega), fun rc h1 h2 => h.2.1 rc (by have := rc.isLt; omega) (by omega), fun h3 => by omega⟩

/-- Quarters of different numbers lie apart. -/
theorem quart_apart {r r' : Fin 2} (h : r'.val < r.val) (w : S256x1024.Idx → Elt F .f32) : tile (quartR c r') ((quartR c r).overlay X w) = tile (quartR c r') X :=
  tile_overlay_apart (0 : Fin 2) (.inr (by show 512 * xx c + 256 * r'.val + 256 ≤ 512 * xx c + 256 * r.val; omega)) X w

theorem OFact.put0 (h : OFact I c (tm 0 rc 0 1) X) : OFact I c (tm 0 rc 0 1 + 1) ((quartR c rc).overlay X (own0 I c rc)) := by
  have hr := rc.isLt
  simp only [tm, Fin.isValue, Fin.val_zero, Fin.val_one] at h ⊢
  refine ⟨fun r h1 h2 => ?_, fun r h1 h2 => ?_, fun h3 => by omega⟩
  · obtain rfl : r = rc := Fin.ext (by omega)
    exact tile_overlay rfl _ _
  · exact (quart_apart (by omega) _).trans (h.2.1 r (by omega) (by omega))

theorem OFact.get1 (h : OFact I c (tm 0 rc 1 1) X) : tile (quartR c rc) X = own0 I c rc := by
  simp only [tm, Fin.isValue, Fin.val_zero, Fin.val_one] at h
  exact h.1 rc (by omega) (by omega)

theorem OFact.put1 (h : OFact I c (tm 0 rc 1 1) X) : OFact I c (tm 0 rc 1 1 + 1) ((quartR c rc).overlay X (own I c rc)) := by
  have hr := rc.isLt
  simp only [tm, Fin.isValue, Fin.val_zero, Fin.val_one] at h ⊢
  refine ⟨fun r h1 h2 => by omega, fun r h1 h2 => ?_, fun h3 => by omega⟩
  by_cases hq : r = rc
  · subst hq; exact tile_overlay rfl _ _
  · have hv : r.val ≠ rc.val := fun h => hq (Fin.ext h)
    exact (quart_apart (by omega) _).trans (h.2.1 r (by omega) (by omega))

end

section
variable {A : S512x1024.Idx → Elt F .f32} {rc : Fin 2}

/-- A point that writes none of the neighbour's output rows, or completes them, keeps what is known. -/
theorem AFact.step (h : AFact I c n A) (hn : n % 4 ≠ 1 ∨ n < 8) : AFact I c (n + 1) A :=
  fun rc h1 h2 => h rc (by have := rc.isLt; omega) (by have := rc.isLt; omega)

theorem AFact.put0 : AFact I c (tm 1 rc 0 1 + 1) ((rowR rc).overlay A (peer0 I c rc)) := by
  have hr := rc.isLt
  simp only [tm, Fin.isValue, Fin.val_zero, Fin.val_one]
  intro r h1 h2
  obtain rfl : r = rc := Fin.ext (by omega)
  exact tile_overlay rfl _ _

theorem AFact.get1 (h : AFact I c (tm 1 rc 1 1) A) : tile (rowR rc) A = peer0 I c rc := by
  simp only [tm, Fin.isValue, Fin.val_one] at h
  exact h rc (by omega) (by omega)

theorem AFact.put1 : AFact I c (tm 1 rc 1 1 + 1) A := by
  have hr := rc.isLt
  simp only [tm, Fin.isValue, Fin.val_one]
  intro r h1 h2
  omega

end

end Cert.KernelIdeal.Moe
-- ==== Proof.KI.St4.lean ====
/-
  The fourth stretch of the body: during the first stage a device computes the outputs of its own tokens by its own experts and sends them.
-/
module

public import proofs.«01_k».proof.Proof.KI.St2
public import proofs.«01_k».proof.Proof.KI.Facts

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-- The part of an expert's second matrix, of the two parts stored. -/
theorem w2_part {I : Inp F} {c : Dev nD} {n : ℕ} {X : S2x1024x2048.Idx → Elt F .bf16} {Y : S2x2048x1024.Idx → Elt F .bf16} (h : WFact I c n X Y) (e : Fin 2)
    (hn : 2 * e.val + 1 < n) : tile (w2E e) Y = w2full (w2b I c e 0) (w2b I c e 1) := by
  have hp : ∀ fc : Fin 2, tile (w2H fc) (tile (w2E e) Y) = tile (w2R e fc) Y := fun fc => by
    funext i
    refine congrArg Y (funext fun a => Fin.ext ?_)
    match a with
    | 0 => have h0 : (i (0 : Fin 3)).val < 1 := (i (0 : Fin 3)).isLt
           show e.val + 1 * (0 + 1 * (i (0 : Fin 3)).val) = e.val + 1 * (i (0 : Fin 3)).val; omega
    | 1 => show 0 + 1 * (1024 * fc.val + 1 * (i (1 : Fin 3)).val) = 1024 * fc.val + 1 * (i (1 : Fin 3)).val; omega
    | 2 => show 0 + 1 * (0 + 1 * (i (2 : Fin 3)).val) = 0 + 1 * (i (2 : Fin 3)).val; omega
  exact eq_join w2_cov ((hp 0).trans (h e 0 (by show 2 * e.val + 0 < n; omega)).2) ((hp 1).trans (h e 1 (by show 2 * e.val + 1 < n; omega)).2)

/-- Once both halves of the hidden features are stored they are all known. -/
theorem hid_full {H : S256x2048.Idx → Elt F .bf16} {f g : S256x1024.Idx → Elt F .bf16} (h : tile (hidR 0) H = f) : (hidR 1).overlay H g = hid f g :=
  eq_join hid_cov ((tile_overlay_apart (1 : Fin 2) (.inr (by decide)) H g).trans h) (tile_overlay rfl H g)

section
variable (I : Inp F) (c : Dev nD) (rc e : Fin 2) {arg5 : Memref sig .tc .vmem S1024x1 .i32} {arg8 : Memref sig .tc .vmem S1024x1024 .f32} {h15 h16 h21} {v39 : Vec F S1x1024x1024 .bf16} {v30 : BitVec 32}

/-- With the first half of the hidden features. -/
theorem st4_first {κ : Prog (TpuEff nD τ sig (Elt F) Λ₀ .tc) PUnit} {Q : PUnit → sProp 𝕄} {H : S256x2048.Idx → Elt F .bf16} :
    iprop(owns (c : Thread nD τ) arg5 fullShare (I.a c) ∗ xbL I c ∗ owns (c : Thread nD τ) hM fullShare H)
      ⊢ iprop((owns (c : Thread nD τ) arg5 fullShare (I.a c) ∗ xbL I c ∗ owns (c : Thread nD τ) hM fullShare ((hidR 0).overlay H (ownH I c rc e 0)) -∗ run c κ Q)
        -∗ run c (st4 (pt 0 rc e 0) arg5 arg8 xbfM oobfM h15 xrecvM h16 w2M hM h21 cc0_scratch13 cc0_scratch14 c v30 (w1b I c e 0) κ) Q) := by
  unfold st4 xbL
  have h3 : k0_cond3 (pt 0 rc e 0) = 1#1 := (cond3_iff _).mpr rfl
  have h4 : ¬k0_cond4 (pt 0 rc e 0) = 1#1 := fun h => Nat.zero_ne_one ((cond4_iff _).mp h)
  have h7 : ¬k0_cond7 (pt 0 rc e 0) = 1#1 := fun h => Nat.zero_ne_one ((cond7_iff _).mp h).2
  simp only [dif_pos h3, dif_neg h4, dif_neg h7, Prog.lift, Prog.bind_op, Prog.bind_ret]
  iintro ⟨H5, Hx, HH⟩ Hk
  iapply (load_at (off6_pt _ _ _ _)) $$ Hx; iintro Hx
  iapply (load_at (off7_pt _ _ _ _ _)) $$ H5; iintro H5
  iapply (load_at (off8_pt _ _ _ _)) $$ HH; iintro HH
  iapply (store_at (off8_pt _ _ _ _)) $$ HH; iintro HH
  iapply Hk
  isplitl [H5]; · iexact H5
  isplitl [Hx]; · iexact Hx
  iexact HH

/-- With the second half at the first expert: the output rows are written. -/
theorem st4_e0 {κ : Prog (TpuEff nD τ sig (Elt F) Λ₀ .tc) PUnit} {Q : PUnit → sProp 𝕄} {H : S256x2048.Idx → Elt F .bf16} (hH : tile (hidR 0) H = ownH I c rc 0 0)
    {Y : S2x2048x1024.Idx → Elt F .bf16} (hY : tile (w2E 0) Y = w2full (w2b I c 0 0) (w2b I c 0 1)) {O : S1024x1024.Idx → Elt F .f32} :
    iprop(owns (c : Thread nD τ) arg5 fullShare (I.a c) ∗ xbL I c ∗ owns (c : Thread nD τ) hM fullShare H ∗ owns (c : Thread nD τ) w2M fullShare Y
        ∗ owns (c : Thread nD τ) arg8 fullShare O)
      ⊢ iprop((owns (c : Thread nD τ) arg5 fullShare (I.a c) ∗ xbL I c ∗ owns (c : Thread nD τ) hM fullShare (hid (ownH I c rc 0 0) (ownH I c rc 0 1))
            ∗ owns (c : Thread nD τ) w2M fullShare Y ∗ owns (c : Thread nD τ) arg8 fullShare ((quartR c rc).overlay O (own0 I c rc)) -∗ run c κ Q)
        -∗ run c (st4 (pt 0 rc 0 1) arg5 arg8 xbfM oobfM h15 xrecvM h16 w2M hM h21 cc0_scratch13 cc0_scratch14 c (eid c 0) (w1b I c 0 1) κ) Q) := by
  unfold st4 xbL
  have h3 : k0_cond3 (pt 0 rc 0 1) = 1#1 := (cond3_iff _).mpr rfl
  have h4 : k0_cond4 (pt 0 rc 0 1) = 1#1 := (cond4_iff _).mpr rfl
  have h5 : k0_cond5 (pt 0 rc 0 1) = 1#1 := (cond5_iff _).mpr rfl
  have h6 : ¬k0_cond6 (pt 0 rc 0 1) = 1#1 := fun h => Nat.zero_ne_one ((cond6_iff _).mp h)
  have h7 : ¬k0_cond7 (pt 0 rc 0 1) = 1#1 := fun h => Nat.zero_ne_one ((cond7_iff _).mp h).1
  simp only [dif_pos h3, dif_pos h4, dif_pos h5, dif_neg h6, dif_neg h7, Prog.lift, Prog.bind_op, Prog.bind_ret]
  iintro ⟨H5, Hx, HH, HY, HO⟩ Hk
  iapply (load_at (off6_pt _ _ _ _)) $$ Hx; iintro Hx
  iapply (load_at (off7_pt _ _ _ _ _)) $$ H5; iintro H5
  iapply (load_at (off8_pt _ _ _ _)) $$ HH; iintro HH
  iapply (store_val (off8_pt _ _ _ _) (hid_full hH)) $$ HH; iintro HH
  iapply (load_all (by decide)) $$ HH; iintro HH
  iapply (load_val (off9_pt _ _ _ _) hY) $$ HY; iintro HY
  iapply (load_at (off10_pt _ _ _ _ _)) $$ HO; iintro HO
  iapply (store_as (off10_pt _ _ _ _ _) (own0 I c rc) (by rfl)) $$ HO; iintro HO
  iapply Hk
  isplitl [H5]; · iexact H5
  isplitl [Hx]; · iexact Hx
  isplitl [HH]; · iexact HH
  isplitl [HY]; · iexact HY
  iexact HO

/-- With the second half at the second expert: the output rows are written and sent. -/
theorem st4_e1 {κ : Prog (TpuEff nD τ sig (Elt F) Λ₀ .tc) PUnit} {Q : PUnit → sProp 𝕄} {H : S256x2048.Idx → Elt F .bf16} (hH : tile (hidR 0) H = ownH I c rc 1 0)
    {Y : S2x2048x1024.Idx → Elt F .bf16} (hY : tile (w2E 1) Y = w2full (w2b I c 1 0) (w2b I c 1 1)) {O : S1024x1024.Idx → Elt F .f32}
    (hO : tile (quartR c rc) O = own0 I c rc) :
    iprop(owns (c : Thread nD τ) arg5 fullShare (I.a c) ∗ xbL I c ∗ owns (c : Thread nD τ) hM fullShare H ∗ owns (c : Thread nD τ) w2M fullShare Y
        ∗ owns (c : Thread nD τ) arg8 fullShare O ∗ (sender I c (jOwn rc) ∗ ready (xp c) (jOwn rc) ∗ ∃ X, owns (c : Thread nD τ) (rows oobfM rc) fullShare X)
        ∗ ow c (6 - rc.val))
      ⊢ iprop((owns (c : Thread nD τ) arg5 fullShare (I.a c) ∗ xbL I c ∗ owns (c : Thread nD τ) hM fullShare (hid (ownH I c rc 1 0) (ownH I c rc 1 1))
            ∗ owns (c : Thread nD τ) w2M fullShare Y ∗ owns (c : Thread nD τ) arg8 fullShare ((quartR c rc).overlay O (own I c rc))
            ∗ sent c (jOwn rc) ∗ ow c (5 - rc.val) -∗ run c κ Q)
        -∗ run c (st4 (pt 0 rc 1 1) arg5 arg8 xbfM oobfM h15 xrecvM h16 w2M hM h21 cc0_scratch13 cc0_scratch14 c (eid c 1) (w1b I c 1 1) κ) Q) := by
  unfold st4 xbL
  have hT : tile (quartR c rc) ((quartR c rc).overlay O (own I c rc)) = own I c rc := tile_overlay rfl O _
  have h3 : k0_cond3 (pt 0 rc 1 1) = 1#1 := (cond3_iff _).mpr rfl
  have h4 : k0_cond4 (pt 0 rc 1 1) = 1#1 := (cond4_iff _).mpr rfl
  have h5 : ¬k0_cond5 (pt 0 rc 1 1) = 1#1 := fun h => Nat.one_ne_zero ((cond5_iff _).mp h)
  have h6 : k0_cond6 (pt 0 rc 1 1) = 1#1 := (cond6_iff _).mpr rfl
  have h7 : k0_cond7 (pt 0 rc 1 1) = 1#1 := (cond7_iff _).mpr ⟨rfl, rfl⟩
  simp only [dif_pos h3, dif_pos h4, dif_neg h5, dif_pos h6, dif_pos h7, Prog.lift, Prog.bind_op, Prog.bind_ret]
  iintro ⟨H5, Hx, HH, HY, HO, ⟨Hs, Hr, %Z, HZ⟩, Hw⟩ Hk
  iapply (load_at (off6_pt _ _ _ _)) $$ Hx; iintro Hx
  iapply (load_at (off7_pt _ _ _ _ _)) $$ H5; iintro H5
  iapply (load_at (off8_pt _ _ _ _)) $$ HH; iintro HH
  iapply (store_val (off8_pt _ _ _ _) (hid_full hH)) $$ HH; iintro HH
  iapply (load_all (by decide)) $$ HH; iintro HH
  iapply (load_val (off9_pt _ _ _ _) hY) $$ HY; iintro HY
  iapply (load_val (off11_pt _ _ _ _ _) hO) $$ HO; iintro HO
  iapply (load_at (off11_pt _ _ _ _ _)) $$ HO; iintro HO
  iapply (store_as (off11_pt _ _ _ _ _) (own I c rc) (by rfl)) $$ HO; iintro HO
  iapply (load_val (off12_pt _ _ _ _ _) hT) $$ HO; iintro HO
  iapply (load_in (off13_pt _ _ _ _)) $$ HZ; iintro HZ
  iapply (store_in_as (off13_pt _ _ _ _) (ownB I c rc) (by rfl)) $$ HZ; iintro HZ
  rcases fin2_cases rc with rfl | rfl
  · have h8 : k0_cond8 (pt 0 0 1 1) = 1#1 := (cond8_iff _).mpr rfl
    have h9 : ¬k0_cond9 (pt 0 0 1 1) = 1#1 := fun h => Nat.zero_ne_one ((cond9_iff _).mp h)
    simp only [dif_pos h8, dif_neg h9, Prog.lift, Prog.bind_op, Prog.bind_ret]
    iapply (send_rows I c _ 2 (dev6_eq c _) oobfM xrecvM 0 rfl (send_sem 2 _ _) (recv_sem 2 _ _) (q := fullShare) (X := ownB I c 0) 5 rfl rfl rfl Entails.refl Entails.refl
      (by show _ ⊢ owns (xp c : Thread nD τ) (rows xrecvM 0) fullShare (ownB I (xp (xp c)) 0); rw [xp_xp]; exact Entails.refl)) $$ [Hs Hr HZ Hw]
    · isplitl [Hs]; · iexact Hs
      isplitl [Hr]; · iexact Hr
      isplitl [HZ]; · iexact HZ
      iexact Hw
    iintro ⟨Hs, Hw⟩
    iapply Hk
    isplitl [H5]; · iexact H5
    isplitl [Hx]; · iexact Hx
    isplitl [HH]; · iexact HH
    isplitl [HY]; · iexact HY
    isplitl [HO]; · iexact HO
    isplitl [Hs]; · iexact Hs
    iexact Hw
  · have h8 : ¬k0_cond8 (pt 0 1 1 1) = 1#1 := fun h => Nat.one_ne_zero ((cond8_iff _).mp h)
    have h9 : k0_cond9 (pt 0 1 1 1) = 1#1 := (cond9_iff _).mpr rfl
    simp only [dif_neg h8, dif_pos h9, Prog.lift, Prog.bind_op, Prog.bind_ret]
    iapply (send_rows I c _ 3 (dev7_eq c _) oobfM xrecvM 1 rfl (send_sem 3 _ _) (recv_sem 3 _ _) (q := fullShare) (X := ownB I c 1) 4 rfl rfl rfl Entails.refl Entails.refl
      (by show _ ⊢ owns (xp c : Thread nD τ) (rows xrecvM 1) fullShare (ownB I (xp (xp c)) 1); rw [xp_xp]; exact Entails.refl)) $$ [Hs Hr HZ Hw]
    · isplitl [Hs]; · iexact Hs
      isplitl [Hr]; · iexact Hr
      isplitl [HZ]; · iexact HZ
      iexact Hw
    iintro ⟨Hs, Hw⟩
    iapply Hk
    isplitl [H5]; · iexact H5
    isplitl [Hx]; · iexact Hx
    isplitl [HH]; · iexact HH
    isplitl [HY]; · iexact HY
    isplitl [HO]; · iexact HO
    isplitl [Hs]; · iexact Hs
    iexact Hw

/-- During the first stage the stretch takes the state from one point to the next. -/
theorem st4_own (fc : Fin 2) {κ : Prog (TpuEff nD τ sig (Elt F) Λ₀ .tc) PUnit} {Q : PUnit → sProp 𝕄} :
    iprop(owns (c : Thread nD τ) arg5 fullShare (I.a c) ∗ xbL I c ∗ hb I c (tm 0 rc e fc) ∗ wts I c (tm 0 rc e fc + 1) ∗ out I c (tm 0 rc e fc) arg8
        ∗ (ownS I c (tm 0 rc e fc) 0 ∗ ownS I c (tm 0 rc e fc) 1) ∗ ow c (owN (tm 0 rc e fc)))
      ⊢ iprop((owns (c : Thread nD τ) arg5 fullShare (I.a c) ∗ xbL I c ∗ hb I c (tm 0 rc e fc + 1) ∗ wts I c (tm 0 rc e fc + 1) ∗ out I c (tm 0 rc e fc + 1) arg8
            ∗ (ownS I c (tm 0 rc e fc + 1) 0 ∗ ownS I c (tm 0 rc e fc + 1) 1) ∗ ow c (owN (tm 0 rc e fc + 1)) -∗ run c κ Q)
        -∗ run c (st4 (pt 0 rc e fc) arg5 arg8 xbfM oobfM h15 xrecvM h16 w2M hM h21 cc0_scratch13 cc0_scratch14 c (eid c e) (w1b I c e fc) κ) Q) := by
  have hr := rc.isLt
  have he := e.isLt
  unfold hb wts out
  rcases fin2_cases fc with rfl | rfl
  · rw [ownS_step (by simp only [tm, Fin.isValue, Fin.val_zero, Fin.val_one]; omega), ownS_step (by simp only [tm, Fin.isValue, Fin.val_zero, Fin.val_one]; omega),
      owN_step (by simp only [tm, Fin.isValue, Fin.val_zero]; omega)]
    iintro ⟨H5, Hx, ⟨%H, HH, %hH⟩, Hw, ⟨%O, HO, %hO⟩, Hs, Hp⟩ Hk
    iapply (st4_first I c rc e) $$ [H5 Hx HH]
    · isplitl [H5]; · iexact H5
      isplitl [Hx]; · iexact Hx
      iexact HH
    iintro ⟨H5, Hx, HH⟩
    iapply Hk
    isplitl [H5]; · iexact H5
    isplitl [Hx]; · iexact Hx
    isplitl [HH]
    · iexists _
      isplitl [HH]; · iexact HH
      ipureintro; exact HFact.put0
    isplitl [Hw]; · iexact Hw
    isplitl [HO]
    · iexists O
      isplitl [HO]; · iexact HO
      ipureintro; exact hO.step (by simp only [tm, Fin.isValue, Fin.val_zero]; omega) (by simp only [tm, Fin.isValue, Fin.val_zero]; omega)
    isplitl [Hs]; · iexact Hs
    iexact Hp
  rcases fin2_cases e with rfl | rfl
  · rw [ownS_step (by simp only [tm, Fin.isValue, Fin.val_zero, Fin.val_one]; omega), ownS_step (by simp only [tm, Fin.isValue, Fin.val_zero, Fin.val_one]; omega),
      owN_step (by simp only [tm, Fin.isValue, Fin.val_zero, Fin.val_one]; omega)]
    iintro ⟨H5, Hx, ⟨%H, HH, %hH⟩, ⟨%X, %Y, HX, HY, %hW⟩, ⟨%O, HO, %hO⟩, Hs, Hp⟩ Hk
    iapply (st4_e0 I c rc hH.get0 (w2_part hW 0 (by simp only [tm, Fin.isValue, Fin.val_zero, Fin.val_one]; omega))) $$ [H5 Hx HH HY HO]
    · isplitl [H5]; · iexact H5
      isplitl [Hx]; · iexact Hx
      isplitl [HH]; · iexact HH
      isplitl [HY]; · iexact HY
      iexact HO
    iintro ⟨H5, Hx, HH, HY, HO⟩
    iapply Hk
    isplitl [H5]; · iexact H5
    isplitl [Hx]; · iexact Hx
    isplitl [HH]
    · iexists _
      isplitl [HH]; · iexact HH
      ipureintro; exact HFact.even (by simp only [tm, Fin.isValue, Fin.val_zero, Fin.val_one]; omega)
    isplitl [HX HY]
    · iexists X
      iexists Y
      isplitl [HX]; · iexact HX
      isplitl [HY]; · iexact HY
      ipureintro; exact hW
    isplitl [HO]
    · iexists _
      isplitl [HO]; · iexact HO
      ipureintro; exact hO.put0
    isplitl [Hs]; · iexact Hs
    iexact Hp
  · have hS : iprop((ownS I c (tm 0 rc 1 1) 0 ∗ ownS I c (tm 0 rc 1 1) 1) ∗ ow c (owN (tm 0 rc 1 1)))
        ⊢ iprop(((sender I c (jOwn rc) ∗ ready (xp c) (jOwn rc) ∗ ∃ X, owns (c : Thread nD τ) (rows oobfM rc) fullShare X) ∗ ow c (6 - rc.val))
          ∗ (sent c (jOwn rc) ∗ ow c (5 - rc.val) -∗ (ownS I c (tm 0 rc 1 1 + 1) 0 ∗ ownS I c (tm 0 rc 1 1 + 1) 1) ∗ ow c (owN (tm 0 rc 1 1 + 1)))) := by
      rcases fin2_cases rc with rfl | rfl
      · rw [ownS_step (n := tm 0 0 1 1) (rc := 1) (by decide), ownS_before (n := tm 0 0 1 1) (rc := 0) (by decide),
          ownS_after (n := tm 0 0 1 1 + 1) (rc := 0) (by decide)]
        iintro ⟨⟨H0, H1⟩, Hp⟩
        isplitl [H0 Hp]
        · isplitl [H0]; · iexact H0
          iexact Hp
        iintro ⟨H0, Hp⟩
        isplitl [H0 H1]
        · isplitl [H0]; · iexact H0
          iexact H1
        iexact Hp
      · rw [ownS_step (n := tm 0 1 1 1) (rc := 0) (by decide), ownS_before (n := tm 0 1 1 1) (rc := 1) (by decide),
          ownS_after (n := tm 0 1 1 1 + 1) (rc := 1) (by decide)]
        iintro ⟨⟨H0, H1⟩, Hp⟩
        isplitl [H1 Hp]
        · isplitl [H1]; · iexact H1
          iexact Hp
        iintro ⟨H1, Hp⟩
        isplitl [H0 H1]
        · isplitl [H0]; · iexact H0
          iexact H1
        iexact Hp
    iintro ⟨H5, Hx, ⟨%H, HH, %hH⟩, ⟨%X, %Y, HX, HY, %hW⟩, ⟨%O, HO, %hO⟩, Hs⟩ Hk
    ihave Hs := hS $$ Hs
    icases Hs with ⟨⟨Hs, Hp⟩, Hc⟩
    iapply (st4_e1 I c rc hH.get0 (w2_part hW 1 (by simp only [tm, Fin.isValue, Fin.val_zero, Fin.val_one]; omega)) hO.get1) $$ [H5 Hx HH HY HO Hs Hp]
    · isplitl [H5]; · iexact H5
      isplitl [Hx]; · iexact Hx
      isplitl [HH]; · iexact HH
      isplitl [HY]; · iexact HY
      isplitl [HO]; · iexact HO
      isplitl [Hs]; · iexact Hs
      iexact Hp
    iintro ⟨H5, Hx, HH, HY, HO, Hs⟩
    iapply Hk
    isplitl [H5]; · iexact H5
    isplitl [Hx]; · iexact Hx
    isplitl [HH]
    · iexists _
      isplitl [HH]; · iexact HH
      ipureintro; exact HFact.even (by simp only [tm, Fin.isValue, Fin.val_zero, Fin.val_one]; omega)
    isplitl [HX HY]
    · iexists X
      iexists Y
      isplitl [HX]; · iexact HX
      isplitl [HY]; · iexact HY
      ipureintro; exact hW
    isplitl [HO]
    · iexists _
      isplitl [HO]; · iexact HO
      ipureintro; exact hO.put1
    iapply Hc
    iexact Hs

/-- During the second stage it does nothing. -/
theorem st4_idle (fc : Fin 2) {κ : Prog (TpuEff nD τ sig (Elt F) Λ₀ .tc) PUnit} {m9 m15 m16 w2 m21 a22 a23 h15 h16 h21} :
    st4 (F := F) (pt 1 rc e fc) arg5 arg8 m9 m15 h15 m16 h16 w2 m21 h21 a22 a23 c v30 v39 κ = κ := by
  unfold st4
  exact dif_neg fun h => Nat.one_ne_zero ((cond3_iff _).mp h)

end

end Cert.KernelIdeal.Moe
-- ==== Proof.KI.St5.lean ====
/-
  The fifth stretch of the body: during the second stage a device computes the outputs of its neighbour's tokens by its own experts and
  sends them to the neighbour and to the device across both axes.
-/
module

public import proofs.«01_k».proof.Proof.KI.St4

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-- The two messages with the tokens and their experts, over, with what they bring. -/
abbrev tokD (I : Inp F) (c : Dev nD) : sProp 𝕄 :=
  iprop((semVal (sendCell c 0) 0 ∗ semVal (recvCell c 0) 0 ∗ owns (c : Thread nD τ) xbfM fullShare.right (xrow I c) ∗ owns (c : Thread nD τ) xgM fullShare (xrow I (yp c)))
      ∗ (semVal (sendCell c 1) 0 ∗ semVal (recvCell c 1) 0 ∗ owns (c : Thread nD τ) abfM fullShare (arow I c) ∗ owns (c : Thread nD τ) agM fullShare (arow I (yp c))))

theorem over_tok (I : Inp F) (c : Dev nD) : iprop(over I c 0 ∗ over I c 1) = tokD I c := rfl

/-- Whether the tokens' messages are waited for at a point of the second stage. -/
theorem tok_iff (rc e fc : Fin 2) : Scalar.cmpi .ne (Scalar.extui (Scalar.andi (Scalar.andi (Scalar.cmpi .eq (BitVec.ofNat 32 rc.val) 0#32) (Scalar.cmpi .eq (BitVec.ofNat 32 e.val) 0#32))
    (Scalar.cmpi .eq (BitVec.ofNat 32 fc.val) 0#32)) : BitVec 32) 0#32 = 1#1 ↔ rc = 0 ∧ e = 0 ∧ fc = 0 := by
  revert rc e fc; decide

/-- The waits for the tokens' messages, in the body's order. -/
theorem tok_waits (I : Inp F) (c : Dev nD) {s0 r0 s1 r1 : DmaSem sig} (hs0 : s0 = sendS 0) (hr0 : r0 = recvS 0) (hs1 : s1 = sendS 1) (hr1 : r1 = recvS 1)
    {p1 p2 p3 p4 p5 p6 p7 p8} {κ : Prog (TpuEff nD τ sig (Elt F) Λ₀ .tc) PUnit} {Q : PUnit → sProp 𝕄} :
    iprop((sent c 0 ∗ going I c 0 ∗ sent c 1 ∗ going I c 1) ∗ ow c 4 ∗ levAts L lv)
      ⊢ iprop(((over I c 0 ∗ over I c 1) ∗ ow c 4 ∗ levAts L lv -∗ run c κ Q)
        -∗ run c (.op (.waitDma2 s0 xgM xbfM p1 p2) fun _ => .op (.waitDma2 r0 xbfM xgM p3 p4) fun _ => .op (.waitDma2 s1 agM abfM p5 p6) fun _ =>
          .op (.waitDma2 r1 abfM agM p7 p8) fun _ => κ) Q) := by
  unfold going over
  iintro ⟨⟨Hc0, ⟨Hs0, Hr0⟩, Hc1, Hs1, Hr1⟩, Ho, #Hl⟩ Hk
  iapply (wait_send_rule I c 0 hs0 (credit_eq xbfM xgM) 4 (by decide)) $$ [Hs0 Hc0 Ho]
  · isplitl [Hs0]; · iexact Hs0
    isplitl [Hc0]; · iexact Hc0
    isplitl [Ho]; · iexact Ho
    iexact Hl
  iintro ⟨Ho, Hs0, Hp0⟩
  iapply (wait_recv_rule I c 0 hr0 (credit_eq xgM xgM) 4 (.inr (by decide))) $$ [Hr0 Ho]
  · isplitl [Hr0]; · iexact Hr0
    isplitl [Ho]; · iexact Ho
    iexact Hl
  iintro ⟨Ho, Hr0, Hq0⟩
  iapply (wait_send_rule I c 1 hs1 (credit_eq abfM agM) 4 (by decide)) $$ [Hs1 Hc1 Ho]
  · isplitl [Hs1]; · iexact Hs1
    isplitl [Hc1]; · iexact Hc1
    isplitl [Ho]; · iexact Ho
    iexact Hl
  iintro ⟨Ho, Hs1, Hp1⟩
  iapply (wait_recv_rule I c 1 hr1 (credit_eq agM agM) 4 (.inr (by decide))) $$ [Hr1 Ho]
  · isplitl [Hr1]; · iexact Hr1
    isplitl [Ho]; · iexact Ho
    iexact Hl
  iintro ⟨Ho, Hr1, Hq1⟩
  iapply Hk
  isplitr [Ho]
  · isplitl [Hs0 Hr0 Hp0 Hq0]
    · isplitl [Hs0]; · iexact Hs0
      isplitl [Hr0]; · iexact Hr0
      isplitl [Hp0]; · iexact Hp0
      iexact Hq0
    · isplitl [Hs1]; · iexact Hs1
      isplitl [Hr1]; · iexact Hr1
      isplitl [Hp1]; · iexact Hp1
      iexact Hq1
  isplitl [Ho]; · iexact Ho
  iexact Hl

section
variable (I : Inp F) (c : Dev nD) (rc e : Fin 2) {h9 h10 h11 h12 h14 h17 h18 h21} {v39 : Vec F S1x1024x1024 .bf16} {v30 : BitVec 32}

/-- With the first half of the hidden features. -/
theorem st5_first {κ : Prog (TpuEff nD τ sig (Elt F) Λ₀ .tc) PUnit} {Q : PUnit → sProp 𝕄} {H : S256x2048.Idx → Elt F .bf16} :
    iprop((tokS I c (tm 1 rc e 0) ∗ ow c (owN (tm 1 rc e 0)) ∗ levAts L lv) ∗ owns (c : Thread nD τ) hM fullShare H)
      ⊢ iprop((tokD I c ∗ ow c (owN (tm 1 rc e 0)) ∗ levAts L lv -∗ owns (c : Thread nD τ) hM fullShare ((hidR 0).overlay H (peerH I c rc e 0)) -∗ run c κ Q)
        -∗ run c (st5 (pt 1 rc e 0) xbfM h9 xgM h10 abfM h11 agM h12 accM obfM h14 yrecvM h17 drecvM h18 w2M hM h21 cc0_scratch13 cc0_scratch14
          (BitVec.ofNat 32 rc.val) (BitVec.ofNat 32 e.val) (BitVec.ofNat 32 (0 : Fin 2).val) c v30 (w1b I c e 0) κ) Q) := by
  unfold st5
  have hc10 : k0_cond10 (pt 1 rc e 0) = 1#1 := (cond10_iff _).mpr rfl
  have hc12 : ¬k0_cond12 (pt 1 rc e 0) = 1#1 := fun h => Nat.zero_ne_one ((cond12_iff _).mp h)
  have hc15 : ¬k0_cond15 (pt 1 rc e 0) = 1#1 := fun h => Nat.zero_ne_one ((cond15_iff _).mp h).2
  simp only [dif_pos hc10, dif_neg hc12, dif_neg hc15, Prog.lift, Prog.bind_op, Prog.bind_ret]
  iintro ⟨HT, HH⟩ Hk
  iapply (run_dite (R' := iprop(tokD I c ∗ ow c (owN (tm 1 rc e 0)) ∗ levAts L lv)) (fun h => by
      obtain ⟨rfl, rfl, -⟩ := (tok_iff _ _ _).mp h
      rw [tokS_before (n := tm 1 0 0 0) (by decide)]
      exact tok_waits I c (send_sem 0 _ _) (recv_sem 0 _ _) (send_sem 1 _ _) (recv_sem 1 _ _)) (fun h => by
      have hr := rc.isLt; have he := e.isLt
      have h' : ¬(rc.val = 0 ∧ e.val = 0) := fun hh => h ((tok_iff _ _ _).mpr ⟨Fin.ext hh.1, Fin.ext hh.2, rfl⟩)
      rw [tokS_after (n := tm 1 rc e 0) (by simp only [tm, Fin.isValue, Fin.val_one, Fin.val_zero]; omega), over_tok])) $$ HT
  iintro ⟨HT, Ho⟩
  icases HT with ⟨⟨Ha, Hb, Hp, Hg⟩, Ha', Hb', Hp', Hg'⟩
  iapply (load_at (off14_pt _ _ _ _)) $$ Hg; iintro Hg
  iapply (load_at (off15_pt _ _ _ _)) $$ Hg'; iintro Hg'
  iapply (load_at (off16_pt _ _ _ _)) $$ HH; iintro HH
  iapply (store_at (off16_pt _ _ _ _)) $$ HH; iintro HH
  iapply Hk $$ [Ha Hb Hp Hg Ha' Hb' Hp' Hg' Ho]
  · isplitr [Ho]
    · isplitl [Ha Hb Hp Hg]
      · isplitl [Ha]; · iexact Ha
        isplitl [Hb]; · iexact Hb
        isplitl [Hp]; · iexact Hp
        iexact Hg
      · isplitl [Ha']; · iexact Ha'
        isplitl [Hb']; · iexact Hb'
        isplitl [Hp']; · iexact Hp'
        iexact Hg'
    iexact Ho
  iexact HH

/-- With the second half at the first expert: the output rows are written. -/
theorem st5_e0 {κ : Prog (TpuEff nD τ sig (Elt F) Λ₀ .tc) PUnit} {Q : PUnit → sProp 𝕄} {H : S256x2048.Idx → Elt F .bf16} (hH : tile (hidR 0) H = peerH I c rc 0 0)
    {Y : S2x2048x1024.Idx → Elt F .bf16} (hY : tile (w2E 0) Y = w2full (w2b I c 0 0) (w2b I c 0 1)) {A : S512x1024.Idx → Elt F .f32} :
    iprop(owns (c : Thread nD τ) xgM fullShare (xrow I (yp c)) ∗ owns (c : Thread nD τ) agM fullShare (arow I (yp c)) ∗ owns (c : Thread nD τ) hM fullShare H
        ∗ owns (c : Thread nD τ) w2M fullShare Y ∗ owns (c : Thread nD τ) accM fullShare A)
      ⊢ iprop((owns (c : Thread nD τ) xgM fullShare (xrow I (yp c)) ∗ owns (c : Thread nD τ) agM fullShare (arow I (yp c))
            ∗ owns (c : Thread nD τ) hM fullShare (hid (peerH I c rc 0 0) (peerH I c rc 0 1)) ∗ owns (c : Thread nD τ) w2M fullShare Y
            ∗ owns (c : Thread nD τ) accM fullShare ((rowR rc).overlay A (peer0 I c rc)) -∗ run c κ Q)
        -∗ run c (st5 (pt 1 rc 0 1) xbfM h9 xgM h10 abfM h11 agM h12 accM obfM h14 yrecvM h17 drecvM h18 w2M hM h21 cc0_scratch13 cc0_scratch14
          (BitVec.ofNat 32 rc.val) (BitVec.ofNat 32 (0 : Fin 2).val) (BitVec.ofNat 32 (1 : Fin 2).val) c (eid c 0) (w1b I c 0 1) κ) Q) := by
  unfold st5
  have hc10 : k0_cond10 (pt 1 rc 0 1) = 1#1 := (cond10_iff _).mpr rfl
  have hc12 : k0_cond12 (pt 1 rc 0 1) = 1#1 := (cond12_iff _).mpr rfl
  have hc13 : k0_cond13 (pt 1 rc 0 1) = 1#1 := (cond13_iff _).mpr rfl
  have hc14 : ¬k0_cond14 (pt 1 rc 0 1) = 1#1 := fun h => Nat.zero_ne_one ((cond14_iff _).mp h)
  have hc15 : ¬k0_cond15 (pt 1 rc 0 1) = 1#1 := fun h => Nat.zero_ne_one ((cond15_iff _).mp h).1
  have ht := mt (tok_iff rc 0 1).mp (fun h => absurd h.2.2 (by decide))
  simp only [dif_pos hc10, dif_pos hc12, dif_pos hc13, dif_neg hc14, dif_neg hc15, dif_neg ht, Prog.lift, Prog.bind_op, Prog.bind_ret]
  iintro ⟨Hg, Hg', HH, HY, HA⟩ Hk
  iapply (load_at (off14_pt _ _ _ _)) $$ Hg; iintro Hg
  iapply (load_at (off15_pt _ _ _ _)) $$ Hg'; iintro Hg'
  iapply (load_at (off16_pt _ _ _ _)) $$ HH; iintro HH
  iapply (store_val (off16_pt _ _ _ _) (hid_full hH)) $$ HH; iintro HH
  iapply (load_all (by decide)) $$ HH; iintro HH
  iapply (load_val (off17_pt _ _ _ _) hY) $$ HY; iintro HY
  iapply (load_at (off18_pt _ _ _ _)) $$ HA; iintro HA
  iapply (store_as (off18_pt _ _ _ _) (peer0 I c rc) (by rfl)) $$ HA; iintro HA
  iapply Hk
  isplitl [Hg]; · iexact Hg
  isplitl [Hg']; · iexact Hg'
  isplitl [HH]; · iexact HH
  isplitl [HY]; · iexact HY
  iexact HA

/-- With the second half at the second expert: the output rows are written and sent. -/
theorem st5_e1 {κ : Prog (TpuEff nD τ sig (Elt F) Λ₀ .tc) PUnit} {Q : PUnit → sProp 𝕄} {H : S256x2048.Idx → Elt F .bf16} (hH : tile (hidR 0) H = peerH I c rc 1 0)
    {Y : S2x2048x1024.Idx → Elt F .bf16} (hY : tile (w2E 1) Y = w2full (w2b I c 1 0) (w2b I c 1 1)) {A : S512x1024.Idx → Elt F .f32} (hA : tile (rowR rc) A = peer0 I c rc) :
    iprop(owns (c : Thread nD τ) xgM fullShare (xrow I (yp c)) ∗ owns (c : Thread nD τ) agM fullShare (arow I (yp c)) ∗ owns (c : Thread nD τ) hM fullShare H
        ∗ owns (c : Thread nD τ) w2M fullShare Y ∗ owns (c : Thread nD τ) accM fullShare A
        ∗ (sender I c (jDiag rc) ∗ ready (dg c) (jDiag rc) ∗ sender I c (jPeer rc) ∗ ready (yp c) (jPeer rc) ∗ ∃ X, owns (c : Thread nD τ) (rows obfM rc) fullShare X)
        ∗ ow c (4 - 2 * rc.val))
      ⊢ iprop((owns (c : Thread nD τ) xgM fullShare (xrow I (yp c)) ∗ owns (c : Thread nD τ) agM fullShare (arow I (yp c))
            ∗ owns (c : Thread nD τ) hM fullShare (hid (peerH I c rc 1 0) (peerH I c rc 1 1)) ∗ owns (c : Thread nD τ) w2M fullShare Y
            ∗ owns (c : Thread nD τ) accM fullShare ((rowR rc).overlay A (peer I c rc)) ∗ (sent c (jDiag rc) ∗ sent c (jPeer rc)) ∗ ow c (2 - 2 * rc.val) -∗ run c κ Q)
        -∗ run c (st5 (pt 1 rc 1 1) xbfM h9 xgM h10 abfM h11 agM h12 accM obfM h14 yrecvM h17 drecvM h18 w2M hM h21 cc0_scratch13 cc0_scratch14
          (BitVec.ofNat 32 rc.val) (BitVec.ofNat 32 (1 : Fin 2).val) (BitVec.ofNat 32 (1 : Fin 2).val) c (eid c 1) (w1b I c 1 1) κ) Q) := by
  unfold st5
  have hc10 : k0_cond10 (pt 1 rc 1 1) = 1#1 := (cond10_iff _).mpr rfl
  have hc12 : k0_cond12 (pt 1 rc 1 1) = 1#1 := (cond12_iff _).mpr rfl
  have hc13 : ¬k0_cond13 (pt 1 rc 1 1) = 1#1 := fun h => Nat.one_ne_zero ((cond13_iff _).mp h)
  have hc14 : k0_cond14 (pt 1 rc 1 1) = 1#1 := (cond14_iff _).mpr rfl
  have hc15 : k0_cond15 (pt 1 rc 1 1) = 1#1 := (cond15_iff _).mpr ⟨rfl, rfl⟩
  have ht := mt (tok_iff rc 1 1).mp (fun h => absurd h.2.2 (by decide))
  have hT : tile (rowR rc) ((rowR rc).overlay A (peer I c rc)) = peer I c rc := tile_overlay rfl A _
  simp only [dif_pos hc10, dif_pos hc12, dif_neg hc13, dif_pos hc14, dif_pos hc15, dif_neg ht, Prog.lift, Prog.bind_op, Prog.bind_ret]
  iintro ⟨Hg, Hg', HH, HY, HA, ⟨Hsd, Hrd, Hsp, Hrp, %Z, HZ⟩, Hw⟩ Hk
  iapply (load_at (off14_pt _ _ _ _)) $$ Hg; iintro Hg
  iapply (load_at (off15_pt _ _ _ _)) $$ Hg'; iintro Hg'
  iapply (load_at (off16_pt _ _ _ _)) $$ HH; iintro HH
  iapply (store_val (off16_pt _ _ _ _) (hid_full hH)) $$ HH; iintro HH
  iapply (load_all (by decide)) $$ HH; iintro HH
  iapply (load_val (off17_pt _ _ _ _) hY) $$ HY; iintro HY
  iapply (load_val (off19_pt _ _ _ _) hA) $$ HA; iintro HA
  iapply (load_at (off19_pt _ _ _ _)) $$ HA; iintro HA
  iapply (store_as (off19_pt _ _ _ _) (peer I c rc) (by rfl)) $$ HA; iintro HA
  iapply (load_val (off20_pt _ _ _ _) hT) $$ HA; iintro HA
  iapply (load_in (off20_pt _ _ _ _)) $$ HZ; iintro HZ
  iapply (store_in_as (off20_pt _ _ _ _) (peerB I c rc) (by rfl)) $$ HZ; iintro HZ
  ihave HZ := (owns_halves (c : Thread nD τ) (rows obfM rc) fullShare (peerB I c rc)).1 $$ HZ
  icases HZ with ⟨HZd, HZp⟩
  rcases fin2_cases rc with rfl | rfl
  · have h16 : k0_cond16 (pt 1 0 1 1) = 1#1 := (cond16_iff _).mpr rfl
    have h17 : ¬k0_cond17 (pt 1 0 1 1) = 1#1 := fun h => Nat.zero_ne_one ((cond17_iff _).mp h)
    simp only [dif_pos h16, dif_neg h17, Prog.lift, Prog.bind_op, Prog.bind_ret]
    iapply (send_rows I c _ 6 (dev8_eq c _) obfM drecvM 0 rfl (send_sem 6 _ _) (recv_sem 6 _ _) (q := fullShare.left) (X := peerB I c 0) 3 rfl rfl rfl Entails.refl Entails.refl
      (by show _ ⊢ owns (dg c : Thread nD τ) (rows drecvM 0) fullShare (peerB I (dg (dg c)) 0); rw [dg_dg]; exact Entails.refl)) $$ [Hsd Hrd HZd Hw]
    · isplitl [Hsd]; · iexact Hsd
      isplitl [Hrd]; · iexact Hrd
      isplitl [HZd]; · iexact HZd
      iexact Hw
    iintro ⟨Hsd, Hw⟩
    iapply (send_rows I c _ 4 (dev9_eq c _) obfM yrecvM 0 rfl (send_sem 4 _ _) (recv_sem 4 _ _) (q := fullShare.right) (X := peerB I c 0) 2 rfl rfl rfl Entails.refl Entails.refl
      (by show _ ⊢ owns (yp c : Thread nD τ) (rows yrecvM 0) fullShare (peerB I (yp (yp c)) 0); rw [yp_yp]; exact Entails.refl)) $$ [Hsp Hrp HZp Hw]
    · isplitl [Hsp]; · iexact Hsp
      isplitl [Hrp]; · iexact Hrp
      isplitl [HZp]; · iexact HZp
      iexact Hw
    iintro ⟨Hsp, Hw⟩
    iapply Hk
    isplitl [Hg]; · iexact Hg
    isplitl [Hg']; · iexact Hg'
    isplitl [HH]; · iexact HH
    isplitl [HY]; · iexact HY
    isplitl [HA]; · iexact HA
    isplitl [Hsd Hsp]
    · isplitl [Hsd]; · iexact Hsd
      iexact Hsp
    iexact Hw
  · have h16 : ¬k0_cond16 (pt 1 1 1 1) = 1#1 := fun h => Nat.one_ne_zero ((cond16_iff _).mp h)
    have h17 : k0_cond17 (pt 1 1 1 1) = 1#1 := (cond17_iff _).mpr rfl
    simp only [dif_neg h16, dif_pos h17, Prog.lift, Prog.bind_op, Prog.bind_ret]
    iapply (send_rows I c _ 7 (dev10_eq c _) obfM drecvM 1 rfl (send_sem 7 _ _) (recv_sem 7 _ _) (q := fullShare.left) (X := peerB I c 1) 1 rfl rfl rfl Entails.refl Entails.refl
      (by show _ ⊢ owns (dg c : Thread nD τ) (rows drecvM 1) fullShare (peerB I (dg (dg c)) 1); rw [dg_dg]; exact Entails.refl)) $$ [Hsd Hrd HZd Hw]
    · isplitl [Hsd]; · iexact Hsd
      isplitl [Hrd]; · iexact Hrd
      isplitl [HZd]; · iexact HZd
      iexact Hw
    iintro ⟨Hsd, Hw⟩
    iapply (send_rows I c _ 5 (dev11_eq c _) obfM yrecvM 1 rfl (send_sem 5 _ _) (recv_sem 5 _ _) (q := fullShare.right) (X := peerB I c 1) 0 rfl rfl rfl Entails.refl Entails.refl
      (by show _ ⊢ owns (yp c : Thread nD τ) (rows yrecvM 1) fullShare (peerB I (yp (yp c)) 1); rw [yp_yp]; exact Entails.refl)) $$ [Hsp Hrp HZp Hw]
    · isplitl [Hsp]; · iexact Hsp
      isplitl [Hrp]; · iexact Hrp
      isplitl [HZp]; · iexact HZp
      iexact Hw
    iintro ⟨Hsp, Hw⟩
    iapply Hk
    isplitl [Hg]; · iexact Hg
    isplitl [Hg']; · iexact Hg'
    isplitl [HH]; · iexact HH
    isplitl [HY]; · iexact HY
    isplitl [HA]; · iexact HA
    isplitl [Hsd Hsp]
    · isplitl [Hsd]; · iexact Hsd
      iexact Hsp
    iexact Hw

/-- During the second stage the stretch takes the state from one point to the next. -/
theorem st5_peer (fc : Fin 2) {κ : Prog (TpuEff nD τ sig (Elt F) Λ₀ .tc) PUnit} {Q : PUnit → sProp 𝕄} :
    iprop(levAts L lv ∗ hb I c (tm 1 rc e fc) ∗ wts I c (tm 1 rc e fc + 1) ∗ acc I c (tm 1 rc e fc) ∗ tokS I c (tm 1 rc e fc)
        ∗ (peerS I c (tm 1 rc e fc) 0 ∗ peerS I c (tm 1 rc e fc) 1) ∗ ow c (owN (tm 1 rc e fc)))
      ⊢ iprop((hb I c (tm 1 rc e fc + 1) ∗ wts I c (tm 1 rc e fc + 1) ∗ acc I c (tm 1 rc e fc + 1) ∗ tokS I c (tm 1 rc e fc + 1)
        ∗ (peerS I c (tm 1 rc e fc + 1) 0 ∗ peerS I c (tm 1 rc e fc + 1) 1) ∗ ow c (owN (tm 1 rc e fc + 1)) -∗ run c κ Q)
        -∗ run c (st5 (pt 1 rc e fc) xbfM h9 xgM h10 abfM h11 agM h12 accM obfM h14 yrecvM h17 drecvM h18 w2M hM h21 cc0_scratch13 cc0_scratch14
          (BitVec.ofNat 32 rc.val) (BitVec.ofNat 32 e.val) (BitVec.ofNat 32 fc.val) c (eid c e) (w1b I c e fc) κ) Q) := by
  have hr := rc.isLt
  have he := e.isLt
  unfold hb wts acc
  rcases fin2_cases fc with rfl | rfl
  · rw [peerS_step (by simp only [tm, Fin.isValue, Fin.val_zero, Fin.val_one]; omega), peerS_step (by simp only [tm, Fin.isValue, Fin.val_zero, Fin.val_one]; omega),
      owN_step (by simp only [tm, Fin.isValue, Fin.val_zero, Fin.val_one]; omega), tokS_after (n := tm 1 rc e 0 + 1) (by simp only [tm, Fin.isValue, Fin.val_zero, Fin.val_one]; omega), over_tok]
    iintro ⟨#Hl, ⟨%H, HH, %hH⟩, Hw, ⟨%A, HA, %hA⟩, HT, Hs, Hp⟩ Hk
    iapply (st5_first I c rc e) $$ [HT Hp HH]
    · isplitr [HH]
      · isplitl [HT]; · iexact HT
        isplitl [Hp]; · iexact Hp
        iexact Hl
      iexact HH
    iintro ⟨HT, Hp, -⟩ HH
    iapply Hk
    isplitl [HH]
    · iexists _
      isplitl [HH]; · iexact HH
      ipureintro; exact HFact.put1
    isplitl [Hw]; · iexact Hw
    isplitl [HA]
    · iexists A
      isplitl [HA]; · iexact HA
      ipureintro; exact hA.step (.inl (by simp only [tm, Fin.isValue, Fin.val_zero, Fin.val_one]; omega))
    isplitl [HT]; · iexact HT
    isplitl [Hs]; · iexact Hs
    iexact Hp
  rw [tokS_step (by simp only [tm, Fin.isValue, Fin.val_zero, Fin.val_one]; omega), tokS_after (n := tm 1 rc e 1) (by simp only [tm, Fin.isValue, Fin.val_zero, Fin.val_one]; omega), over_tok]
  rcases fin2_cases e with rfl | rfl
  · rw [peerS_step (by simp only [tm, Fin.isValue, Fin.val_zero, Fin.val_one]; omega), peerS_step (by simp only [tm, Fin.isValue, Fin.val_zero, Fin.val_one]; omega),
      owN_step (by simp only [tm, Fin.isValue, Fin.val_zero, Fin.val_one]; omega)]
    iintro ⟨#Hl, ⟨%H, HH, %hH⟩, ⟨%X, %Y, HX, HY, %hW⟩, ⟨%A, HA, %hA⟩, ⟨⟨Ha, Hb, Hc, Hg⟩, Ha', Hb', Hc', Hg'⟩, Hs, Hp⟩ Hk
    iapply (st5_e0 I c rc hH.get1 (w2_part hW 0 (by simp only [tm, Fin.isValue, Fin.val_zero, Fin.val_one]; omega))) $$ [Hg Hg' HH HY HA]
    · isplitl [Hg]; · iexact Hg
      isplitl [Hg']; · iexact Hg'
      isplitl [HH]; · iexact HH
      isplitl [HY]; · iexact HY
      iexact HA
    iintro ⟨Hg, Hg', HH, HY, HA⟩
    iapply Hk
    isplitl [HH]
    · iexists _
      isplitl [HH]; · iexact HH
      ipureintro; exact HFact.even (by simp only [tm, Fin.isValue, Fin.val_zero, Fin.val_one]; omega)
    isplitl [HX HY]
    · iexists X
      iexists Y
      isplitl [HX]; · iexact HX
      isplitl [HY]; · iexact HY
      ipureintro; exact hW
    isplitl [HA]
    · iexists _
      isplitl [HA]; · iexact HA
      ipureintro; exact AFact.put0
    isplitl [Ha Hb Hc Hg Ha' Hb' Hc' Hg']
    · isplitl [Ha Hb Hc Hg]
      · isplitl [Ha]; · iexact Ha
        isplitl [Hb]; · iexact Hb
        isplitl [Hc]; · iexact Hc
        iexact Hg
      · isplitl [Ha']; · iexact Ha'
        isplitl [Hb']; · iexact Hb'
        isplitl [Hc']; · iexact Hc'
        iexact Hg'
    isplitl [Hs]; · iexact Hs
    iexact Hp
  · have hS : iprop((peerS I c (tm 1 rc 1 1) 0 ∗ peerS I c (tm 1 rc 1 1) 1) ∗ ow c (owN (tm 1 rc 1 1)))
        ⊢ iprop(((sender I c (jDiag rc) ∗ ready (dg c) (jDiag rc) ∗ sender I c (jPeer rc) ∗ ready (yp c) (jPeer rc) ∗ ∃ X, owns (c : Thread nD τ) (rows obfM rc) fullShare X)
            ∗ ow c (4 - 2 * rc.val))
          ∗ ((sent c (jDiag rc) ∗ sent c (jPeer rc)) ∗ ow c (2 - 2 * rc.val)
              -∗ (peerS I c (tm 1 rc 1 1 + 1) 0 ∗ peerS I c (tm 1 rc 1 1 + 1) 1) ∗ ow c (owN (tm 1 rc 1 1 + 1)))) := by
      rcases fin2_cases rc with rfl | rfl
      · rw [peerS_step (n := tm 1 0 1 1) (rc := 1) (by decide), peerS_before (n := tm 1 0 1 1) (rc := 0) (by decide),
          peerS_after (n := tm 1 0 1 1 + 1) (rc := 0) (by decide)]
        iintro ⟨⟨H0, H1⟩, Hp⟩
        isplitl [H0 Hp]
        · isplitl [H0]; · iexact H0
          iexact Hp
        iintro ⟨H0, Hp⟩
        isplitl [H0 H1]
        · isplitl [H0]; · iexact H0
          iexact H1
        iexact Hp
      · rw [peerS_step (n := tm 1 1 1 1) (rc := 0) (by decide), peerS_before (n := tm 1 1 1 1) (rc := 1) (by decide),
          peerS_after (n := tm 1 1 1 1 + 1) (rc := 1) (by decide)]
        iintro ⟨⟨H0, H1⟩, Hp⟩
        isplitl [H1 Hp]
        · isplitl [H1]; · iexact H1
          iexact Hp
        iintro ⟨H1, Hp⟩
        isplitl [H0 H1]
        · isplitl [H0]; · iexact H0
          iexact H1
        iexact Hp
    iintro ⟨#Hl, ⟨%H, HH, %hH⟩, ⟨%X, %Y, HX, HY, %hW⟩, ⟨%A, HA, %hA⟩, ⟨⟨Ha, Hb, Hc, Hg⟩, Ha', Hb', Hc', Hg'⟩, Hs⟩ Hk
    ihave Hs := hS $$ Hs
    icases Hs with ⟨⟨Hs, Hp⟩, Hd⟩
    iapply (st5_e1 I c rc hH.get1 (w2_part hW 1 (by simp only [tm, Fin.isValue, Fin.val_zero, Fin.val_one]; omega)) hA.get1) $$ [Hg Hg' HH HY HA Hs Hp]
    · isplitl [Hg]; · iexact Hg
      isplitl [Hg']; · iexact Hg'
      isplitl [HH]; · iexact HH
      isplitl [HY]; · iexact HY
      isplitl [HA]; · iexact HA
      isplitl [Hs]; · iexact Hs
      iexact Hp
    iintro ⟨Hg, Hg', HH, HY, HA, Hs⟩
    iapply Hk
    isplitl [HH]
    · iexists _
      isplitl [HH]; · iexact HH
      ipureintro; exact HFact.even (by simp only [tm, Fin.isValue, Fin.val_zero, Fin.val_one]; omega)
    isplitl [HX HY]
    · iexists X
      iexists Y
      isplitl [HX]; · iexact HX
      isplitl [HY]; · iexact HY
      ipureintro; exact hW
    isplitl [HA]
    · iexists _
      isplitl [HA]; · iexact HA
      ipureintro; exact AFact.put1
    isplitl [Ha Hb Hc Hg Ha' Hb' Hc' Hg']
    · isplitl [Ha Hb Hc Hg]
      · isplitl [Ha]; · iexact Ha
        isplitl [Hb]; · iexact Hb
        isplitl [Hc]; · iexact Hc
        iexact Hg
      · isplitl [Ha']; · iexact Ha'
        isplitl [Hb']; · iexact Hb'
        isplitl [Hc']; · iexact Hc'
        iexact Hg'
    iapply Hd
    iexact Hs

/-- During the first stage it does nothing. -/
theorem st5_idle (fc : Fin 2) {κ : Prog (TpuEff nD τ sig (Elt F) Λ₀ .tc) PUnit} {m9 m10 m11 m12 m13 m14 m17 m18 w2 m21 a22 a23 b1 b2 b3 h9 h10 h11 h12 h14 h17 h18 h21} :
    st5 (F := F) (pt 0 rc e fc) m9 h9 m10 h10 m11 h11 m12 h12 m13 m14 h14 m17 h17 m18 h18 w2 m21 h21 a22 a23 b1 b2 b3 c v30 v39 κ = κ := by
  unfold st5
  exact dif_neg fun h => Nat.zero_ne_one ((cond10_iff _).mp h)

end

end Cert.KernelIdeal.Moe
-- ==== Proof.KI.St6.lean ====
/-
  The last stretch of the body: at the last point a device waits for the six messages of outputs and adds what it received to its own
  half of the output and to what it received for the other half.
-/
module

public import proofs.«01_k».proof.Proof.KI.St5

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-- The rows of one half are not those of the other. -/
theorem rows_apart : Disjoint (rowR 0).set (rowR 1).set := Rect.unit_disjoint (0 : Fin 2) (.inl (by decide))

theorem rows_disjoint : ∀ t t' : Fin 2, t ≠ t' → Disjoint (rowR t).set (rowR t').set := by
  intro t t' h
  rcases fin2_cases t with rfl | rfl <;> rcases fin2_cases t' with rfl | rfl
  · exact absurd rfl h
  · exact rows_apart
  · exact rows_apart.symm
  · exact absurd rfl h
theorem rows_cover : (Finset.univ : Finset (Fin 2)).biUnion (fun t => (rowR t).set) = Finset.univ := by
  ext j
  simp only [Finset.mem_biUnion, Finset.mem_univ, true_and, iff_true]
  rcases row_cov j with h | h
  exacts [⟨0, h⟩, ⟨1, h⟩]

/-- A 512-row buffer is its two halves. -/
theorem owns_two (c : Dev nD) (m : Memref sig .tc .vmem S512x1024 .bf16) (q : PosShare TreeShare) (f : S512x1024.Idx → Elt F .bf16) :
    iprop(owns (c : Thread nD τ) (rows m 0) q (tile (rowR 0) f) ∗ owns (c : Thread nD τ) (rows m 1) q (tile (rowR 1) f)) ⊣⊢ (owns (c : Thread nD τ) m q f : sProp 𝕄) := by
  have e : (BI.bigSep Finset.univ fun t : Fin 2 => (owns (c : Thread nD τ) (m.slice (rowR t) (fun _ => rfl)) q (fun j => f ((rowR t).emb j)) : sProp 𝕄))
      = iprop(owns (c : Thread nD τ) (rows m 0) q (tile (rowR 0) f) ∗ owns (c : Thread nD τ) (rows m 1) q (tile (rowR 1) f)) := by
    rw [Ring.bigSep_fin2]; rfl
  rw [← e]
  exact ⟨owns_of_rects (c : Thread nD τ) m q (fun t => rowR t) (fun _ _ => rfl) rows_disjoint rows_cover f,
    owns_rects (c : Thread nD τ) m q (fun t => rowR t) (fun _ _ => rfl) rows_disjoint rows_cover f⟩

theorem owns_stack (c : Dev nD) (m : Memref sig .tc .vmem S512x1024 .bf16) (q : PosShare TreeShare) (f g : S256x1024.Idx → Elt F .bf16) :
    iprop(owns (c : Thread nD τ) (rows m 0) q f ∗ owns (c : Thread nD τ) (rows m 1) q g) ⊣⊢ (owns (c : Thread nD τ) m q (stack f g) : sProp 𝕄) := by
  have h := owns_two c m q (stack f g)
  rw [show tile (rowR 0) (stack f g) = f from tile_join_left row_cov f g,
    show tile (rowR 1) (stack f g) = g from tile_join_right row_cov rows_apart f g] at h
  exact h

/-- The two halves received of the own tokens' outputs by the neighbour's experts are the buffer, -/
theorem pay_y (I : Inp F) (c : Dev nD) : iprop(recvPay I c 4 ∗ recvPay I c 5)
    ⊣⊢ (owns (c : Thread nD τ) yrecvM fullShare (stack (peerB I (yp c) 0) (peerB I (yp c) 1)) : sProp 𝕄) := owns_stack c yrecvM fullShare _ _
/-- so are those of the other half's outputs by the first-axis neighbour, -/
theorem pay_x (I : Inp F) (c : Dev nD) : iprop(recvPay I c 2 ∗ recvPay I c 3)
    ⊣⊢ (owns (c : Thread nD τ) xrecvM fullShare (stack (ownB I (xp c) 0) (ownB I (xp c) 1)) : sProp 𝕄) := owns_stack c xrecvM fullShare _ _
/-- and those by the device across both axes. -/
theorem pay_d (I : Inp F) (c : Dev nD) : iprop(recvPay I c 6 ∗ recvPay I c 7)
    ⊣⊢ (owns (c : Thread nD τ) drecvM fullShare (stack (peerB I (dg c) 0) (peerB I (dg c) 1)) : sProp 𝕄) := owns_stack c drecvM fullShare _ _

/-- The two waits that end a message. -/
theorem wait_both (I : Inp F) (c : Dev nD) (j : Fin 8) {s : Shape} {e : EltTy} {m1 m2 m3 m4 : Memref sig .tc .vmem s e} {sS rS : DmaSem sig}
    (hsS : sS = sendS j) (hrS : rS = recvS j) (hN : m2.view.dmaCredit = amt j) (hN' : m4.view.dmaCredit = amt j) {p1 p2 p3 p4}
    {α : Type} {Q : α → sProp 𝕄} {κ : Prog (TpuEff nD τ sig (Elt F) Λ₀ .tc) α} :
    iprop(going I c j ∗ sent c j ∗ ow c 0 ∗ levAts L lv)
      ⊢ iprop((over I c j ∗ ow c 0 -∗ run c κ Q)
        -∗ run c (.op (.waitDma2 sS m1 m2 p1 p2) fun _ => .op (.waitDma2 rS m3 m4 p3 p4) fun _ => κ) Q) := by
  unfold going over
  iintro ⟨⟨Hs, Hr⟩, Hc, Ho, #Hl⟩ Hk
  iapply (wait_send_rule I c j hsS hN 0 (by decide)) $$ [Hs Hc Ho]
  · isplitl [Hs]; · iexact Hs
    isplitl [Hc]; · iexact Hc
    isplitl [Ho]; · iexact Ho
    iexact Hl
  iintro ⟨Ho, Hs, Hp⟩
  iapply (wait_recv_rule I c j hrS hN' 0 (.inl rfl)) $$ [Hr Ho]
  · isplitl [Hr]; · iexact Hr
    isplitl [Ho]; · iexact Ho
    iexact Hl
  iintro ⟨Ho, Hr, Hq⟩
  iapply Hk
  isplitr [Ho]
  · isplitl [Hs]; · iexact Hs
    isplitl [Hr]; · iexact Hr
    isplitl [Hp]; · iexact Hp
    iexact Hq
  iexact Ho

/-- The device's half of the output before the last point's stretch. -/
theorem OFact.half {I : Inp F} {c : Dev nD} {X : S1024x1024.Idx → Elt F .f32} (h : OFact I c 15 X) : tile (halfR c) X = stack (own I c 0) (own I c 1) := by
  have hq : ∀ rc : Fin 2, tile (rowR rc) (tile (halfR c) X) = tile (quartR c rc) X := by
    intro rc
    funext i
    refine congrArg X (funext (Fin.forall_fin_two.mpr ⟨Fin.ext ?_, Fin.ext ?_⟩))
    · show 512 * xx c + 1 * (256 * rc.val + 1 * (i 0).val) = 512 * xx c + 256 * rc.val + 1 * (i 0).val
      omega
    · show 0 + 1 * (0 + 1 * (i 1).val) = 0 + 1 * (i 1).val
      omega
  exact eq_join row_cov ((hq 0).trans (h.2.1 0 (by decide) (by decide))) ((hq 1).trans (h.2.1 1 (by decide) (by decide)))

/-- The output after the last point. -/
theorem OFact.last {I : Inp F} {c : Dev nD} {X : S1024x1024.Idx → Elt F .f32} :
    OFact I c 16 ((halfR (xp c)).overlay ((halfR c).overlay X (outMine I c)) (outOther I c)) := by
  have hx := xx_lt c
  refine ⟨fun rc _ h => absurd h (by have := rc.isLt; omega), fun rc _ h => absurd h (by omega), fun _ => ⟨?_, tile_overlay rfl _ _⟩⟩
  rw [tile_overlay_apart (0 : Fin 2) (by
    show 512 * xx (xp c) + 512 ≤ 512 * xx c ∨ 512 * xx c + 512 ≤ 512 * xx (xp c)
    rw [xx_xp]; omega)]
  exact tile_overlay rfl _ _

section
variable (I : Inp F) (c : Dev nD)
  {h9 h10 h11 h12 h13 h14 h15 h16 h17 h18 h19 h20 h21}
  {arg4 : Memref sig .tc .vmem S1024x1024 .f32} {h4 : arg4.IsWhole} {arg5 : Memref sig .tc .vmem S1024x1 .i32} {h5 : arg5.IsWhole}
  {arg6 : Memref sig .tc .vmem S1x1024x1024 .f32} {h6 : arg6.IsWhole} {arg7 : Memref sig .tc .vmem S1x1024x1024 .f32} {h7 : arg7.IsWhole}
  {arg8 : Memref sig .tc .vmem S1024x1024 .f32} {h8 : arg8.IsWhole} {v16 v19 v20 v21 v22 v23 : BitVec 32}

/-- At the last point. -/
theorem st6_last {κ : Prog (TpuEff nD τ sig (Elt F) Λ₀ .tc) PUnit} {Q : PUnit → sProp 𝕄} :
    iprop(levAts L lv ∗ goings I c ∗ (sent c 2 ∗ sent c 3) ∗ ((sent c 6 ∗ sent c 4) ∗ sent c 7 ∗ sent c 5) ∗ out I c 15 arg8 ∗ ow c 0)
      ⊢ iprop(((over I c 2 ∗ over I c 3 ∗ over I c 4 ∗ over I c 5 ∗ over I c 6 ∗ over I c 7) ∗ out I c 16 arg8 ∗ ow c 0 -∗ run c κ Q)
        -∗ run c (st6 (pt 1 1 1 1) arg4 h4 arg5 h5 arg6 h6 arg7 h7 arg8 h8 xbfM h9 xgM h10 abfM h11 agM h12 accM h13 obfM h14 oobfM h15 xrecvM h16 yrecvM h17 drecvM h18
            w1M h19 w2M h20 hM h21 cc0_scratch13 cc0_scratch14 c v16 v19 v20 v21 v22 v23 κ) Q) := by
  unfold st6
  have hc : k0_cond18 (pt 1 1 1 1) = 1#1 := (cond18_iff _).mpr ⟨rfl, rfl, rfl, rfl⟩
  simp only [dif_pos hc, k0_part2_eq_skeleton, k0_part2_skel, k0_part3_eq_skeleton, k0_part3_skel, k0_part4_eq_skeleton, k0_part4_skel, Prog.lift, Prog.bind_op, Prog.bind_ret]
  unfold goings out
  iintro ⟨#Hl, ⟨G2, G3, G4, G5, G6, G7⟩, ⟨S2, S3⟩, ⟨⟨S6, S4⟩, S7, S5⟩, ⟨%X, HX, %hX⟩, Ho⟩ Hk
  iapply (wait_both I c 2 (send_sem 2 _ _) (recv_sem 2 _ _) (credit_eq _ (rows xrecvM 0)) (credit_eq _ (rows xrecvM 0))) $$ [G2 S2 Ho]
  · isplitl [G2]; · iexact G2
    isplitl [S2]; · iexact S2
    isplitl [Ho]; · iexact Ho
    iexact Hl
  iintro ⟨O2, Ho⟩
  iapply (wait_both I c 4 (send_sem 4 _ _) (recv_sem 4 _ _) (credit_eq _ (rows yrecvM 0)) (credit_eq _ (rows yrecvM 0))) $$ [G4 S4 Ho]
  · isplitl [G4]; · iexact G4
    isplitl [S4]; · iexact S4
    isplitl [Ho]; · iexact Ho
    iexact Hl
  iintro ⟨O4, Ho⟩
  iapply (wait_both I c 6 (send_sem 6 _ _) (recv_sem 6 _ _) (credit_eq _ (rows drecvM 0)) (credit_eq _ (rows drecvM 0))) $$ [G6 S6 Ho]
  · isplitl [G6]; · iexact G6
    isplitl [S6]; · iexact S6
    isplitl [Ho]; · iexact Ho
    iexact Hl
  iintro ⟨O6, Ho⟩
  iapply (wait_both I c 3 (send_sem 3 _ _) (recv_sem 3 _ _) (credit_eq _ (rows xrecvM 1)) (credit_eq _ (rows xrecvM 1))) $$ [G3 S3 Ho]
  · isplitl [G3]; · iexact G3
    isplitl [S3]; · iexact S3
    isplitl [Ho]; · iexact Ho
    iexact Hl
  iintro ⟨O3, Ho⟩
  iapply (wait_both I c 5 (send_sem 5 _ _) (recv_sem 5 _ _) (credit_eq _ (rows yrecvM 1)) (credit_eq _ (rows yrecvM 1))) $$ [G5 S5 Ho]
  · isplitl [G5]; · iexact G5
    isplitl [S5]; · iexact S5
    isplitl [Ho]; · iexact Ho
    iexact Hl
  iintro ⟨O5, Ho⟩
  iapply (wait_both I c 7 (send_sem 7 _ _) (recv_sem 7 _ _) (credit_eq _ (rows drecvM 1)) (credit_eq _ (rows drecvM 1))) $$ [G7 S7 Ho]
  · isplitl [G7]; · iexact G7
    isplitl [S7]; · iexact S7
    isplitl [Ho]; · iexact Ho
    iexact Hl
  iintro ⟨O7, Ho⟩
  iapply (load_val (off21_eq c) hX.half) $$ HX; iintro HX
  unfold over
  icases O4 with ⟨A4, B4, C4, D4⟩
  icases O5 with ⟨A5, B5, C5, D5⟩
  ihave HY := (pay_y I c).1 $$ [D4 D5]
  · isplitl [D4]; · iexact D4
    iexact D5
  iapply (load_all (by decide)) $$ HY; iintro HY
  ihave HY := (pay_y I c).2 $$ HY
  icases HY with ⟨D4, D5⟩
  iapply (load_at (off21_eq c)) $$ HX; iintro HX
  iapply (store_as (off21_eq c) (outMine I c) (by rfl)) $$ HX; iintro HX
  icases O2 with ⟨A2, B2, C2, D2⟩
  icases O3 with ⟨A3, B3, C3, D3⟩
  ihave HY := (pay_x I c).1 $$ [D2 D3]
  · isplitl [D2]; · iexact D2
    iexact D3
  iapply (load_all (by decide)) $$ HY; iintro HY
  ihave HY := (pay_x I c).2 $$ HY
  icases HY with ⟨D2, D3⟩
  icases O6 with ⟨A6, B6, C6, D6⟩
  icases O7 with ⟨A7, B7, C7, D7⟩
  ihave HY := (pay_d I c).1 $$ [D6 D7]
  · isplitl [D6]; · iexact D6
    iexact D7
  iapply (load_all (by decide)) $$ HY; iintro HY
  ihave HY := (pay_d I c).2 $$ HY
  icases HY with ⟨D6, D7⟩
  iapply (load_at (off22_eq c)) $$ HX; iintro HX
  iapply (store_as (off22_eq c) (outOther I c) (by rfl)) $$ HX; iintro HX
  iapply Hk
  isplitr [HX Ho]
  · isplitl [A2 B2 C2 D2]
    · isplitl [A2]; · iexact A2
      isplitl [B2]; · iexact B2
      isplitl [C2]; · iexact C2
      iexact D2
    isplitl [A3 B3 C3 D3]
    · isplitl [A3]; · iexact A3
      isplitl [B3]; · iexact B3
      isplitl [C3]; · iexact C3
      iexact D3
    isplitl [A4 B4 C4 D4]
    · isplitl [A4]; · iexact A4
      isplitl [B4]; · iexact B4
      isplitl [C4]; · iexact C4
      iexact D4
    isplitl [A5 B5 C5 D5]
    · isplitl [A5]; · iexact A5
      isplitl [B5]; · iexact B5
      isplitl [C5]; · iexact C5
      iexact D5
    isplitl [A6 B6 C6 D6]
    · isplitl [A6]; · iexact A6
      isplitl [B6]; · iexact B6
      isplitl [C6]; · iexact C6
      iexact D6
    · isplitl [A7]; · iexact A7
      isplitl [B7]; · iexact B7
      isplitl [C7]; · iexact C7
      iexact D7
  isplitl [HX]
  · iexists _
    isplitl [HX]; · iexact HX
    ipureintro; exact OFact.last
  iexact Ho

/-- At every other point it does nothing. -/
theorem st6_idle (s rc e fc : Fin 2) (h : ¬(s.val = 1 ∧ rc.val = 1 ∧ e.val = 1 ∧ fc.val = 1)) {κ : Prog (TpuEff nD τ sig (Elt F) Λ₀ .tc) PUnit} {m9 m10 m11 m12 m13 m14 m15 m16 m17 m18 m19 m20 m21 a22 a23} {g9 g10 g11 g12 g13 g14 g15 g16 g17 g18 g19 g20 g21} :
    st6 (F := F) (pt s rc e fc) arg4 h4 arg5 h5 arg6 h6 arg7 h7 arg8 h8 m9 g9 m10 g10 m11 g11 m12 g12 m13 g13 m14 g14 m15 g15 m16 g16 m17 g17 m18 g18 m19 g19 m20 g20 m21 g21 a22 a23 c v16 v19 v20 v21 v22 v23 κ = κ := by
  unfold st6
  exact dif_neg fun hh => h ((cond18_iff _).mp hh)

end

end Cert.KernelIdeal.Moe
-- ==== Proof.KI.Enter.lean ====
/-
  Entering the kernel and leaving it: a device opens its cells and puts its buffers into the state before the first point, and takes them, with the
  counters at zero, out of the state after the last.
-/
module

public import proofs.«01_k».proof.Proof.KI.Ghost
public import proofs.«01_k».proof.Proof.KI.St6

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F) (c : Dev nD)

/-! ## The messages' cells opened -/

/-- What a device has for message `j` in the kernel. -/
def awake (j : Fin 8) : sProp 𝕄 := iprop(sender I c j ∗ going I c j ∗ reached ER (recvCell c j) 0)

/-- The device opens its two cells of a message. -/
theorem wake (j : Fin 8) :
    iprop((dorm I c j ∗ cred (tallyAt (recvCell c j) () (amt j))) ∗ (semVal (sendCell c j) 0 ∗ semVal (recvCell c j) 0))
      ⊢ (|={Set.univ}=> awake I c j : sProp 𝕄) := by
  have ho (g : GSem nD τ sig) : iprop(ainv I g ∗ openTok ER g ∗ semVal g 0) ⊢ (|={Set.univ}=> (atPos ER g 0 ∅ 0 ∗ reached ER g 0) : sProp 𝕄) := by
    unfold ainv
    iintro ⟨⟨%κ, H⟩, Ho, Hv⟩
    iapply (cell_open ER (Rd I) (Set.mem_univ κ))
    isplitl [H]; · iexact H
    isplitl [Ho] <;> iassumption
  unfold dorm awake sender going sendAt recvAt
  iintro ⟨⟨⟨⟨#H1, #H2, #H3⟩, ⟨Ho1, Ho2⟩, ⟨Ht1, Ht2⟩⟩, Hc⟩, ⟨Hv1, Hv2⟩⟩
  imod (ho (sendCell c j)) $$ [Ho1 Hv1] with ⟨Ha1, #Hr1⟩
  · isplitr; · iexact H1
    isplitl [Ho1] <;> iassumption
  imod (ho (recvCell c j)) $$ [Ho2 Hv2] with ⟨Ha2, #Hr2⟩
  · isplitr; · iexact H2
    isplitl [Ho2] <;> iassumption
  imodintro
  isplitl [Ht1 Ht2]
  · isplitr; · iexact H1
    isplitr; · iexact H3
    isplitl [Ht1]; · iexact Ht1
    isplitr; · iexact Hr1
    iexact Ht2
  isplitl [Ha1 Ha2 Hc]
  · isplitl [Ha1]
    · isplitr; · iexact H1
      iexact Ha1
    isplitr; · iexact H2
    isplitl [Ha2] <;> iassumption
  iexact Hr2

omit [FloatOps F] in
/-- The eight messages one by one. -/
theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
theorem ownSems0_eq : (Pipeline.ownSems0 osem c : sProp 𝕄) = bigSep Finset.univ fun j : Fin 8 => iprop(semVal (sendCell c j) 0 ∗ semVal (recvCell c j) 0) := by
  unfold Pipeline.ownSems0
  rw [bigSep_two]
  rfl

/-- The device opens all its cells. -/
theorem wake_all :
    iprop((bigSep Finset.univ fun j => dorm I c j) ∗ (bigSep Finset.univ fun j => cred (tallyAt (recvCell c j) () (amt j))) ∗ Pipeline.ownSems0 osem c)
      ⊢ (|={Set.univ}=> bigSep Finset.univ fun j => awake I c j : sProp 𝕄) := by
  have h0 : (bigSep Finset.univ fun j => iprop((dorm I c j ∗ cred (tallyAt (recvCell c j) () (amt j))) ∗ (semVal (sendCell c j) 0 ∗ semVal (recvCell c j) 0)))
      ⊢ (|={Set.univ}=> bigSep Finset.univ fun j => awake I c j : sProp 𝕄) := (bigSep_mono fun j _ => wake I c j).trans (bigSep_fupd _ _)
  have h : iprop(((bigSep Finset.univ fun j => dorm I c j) ∗ (bigSep Finset.univ fun j => cred (tallyAt (recvCell c j) () (amt j))))
        ∗ bigSep Finset.univ fun j => iprop(semVal (sendCell c j) 0 ∗ semVal (recvCell c j) 0))
      ⊢ (|={Set.univ}=> bigSep Finset.univ fun j => awake I c j : sProp 𝕄) := by
    rw [← bigSep_sep', ← bigSep_sep']; exact h0
  rw [ownSems0_eq]
  iintro ⟨Hd, Hc, Hv⟩
  iapply h
  isplitr [Hv]
  · isplitl [Hd] <;> iassumption
  iexact Hv

/-! ## The kernel's own buffers -/

/-- A buffer of the device at any contents. -/
abbrev any {s : Shape} {e : EltTy} (m : Memref sig .tc .vmem s e) : sProp 𝕄 := iprop(∃ X, owns (c : Thread nD τ) m fullShare X)

omit [FloatOps F] in
theorem scratch_eq (b : Ref sig .tc) : iprop(∃ f : Buf (Elt F) ((c : Thread nD τ).loc b), ((c : Thread nD τ).loc b) ↦{fullShare} f)
    = (iprop(∃ X, owns (c : Thread nD τ) (Memref.whole b) fullShare X) : sProp 𝕄) := by
  simp only [owns_whole]

/-- The buffers the kernel keeps for itself. -/
theorem scratch_all : (Pipeline.scopedRest (Ix := Unit) (Name := ℕ) (U := UU) (Lvl := ℕ) (Val := Elt F) spec0 c : sProp 𝕄)
    = iprop(any c xbfM ∗ any c xgM ∗ any c abfM ∗ any c agM ∗ any c accM ∗ any c obfM ∗ any c oobfM ∗ any c xrecvM ∗ any c yrecvM ∗ any c drecvM
      ∗ any c w1M ∗ any c w2M ∗ any c hM) := by
  rw [scopedRest0_eq]
  simp only [scratch_eq]
  rfl

/-- A 512-row buffer at any contents is its halves at any. -/
theorem any_two (m : Memref sig .tc .vmem S512x1024 .bf16) : (any c m : sProp 𝕄) ⊢ iprop(any c (rows m 0) ∗ any c (rows m 1)) := by
  iintro ⟨%X, H⟩
  ihave H' := (owns_two c m fullShare X).2 $$ H
  icases H' with ⟨H0, H1⟩
  isplitl [H0]
  · iexists _; iexact H0
  iexists _; iexact H1

theorem two_any (m : Memref sig .tc .vmem S512x1024 .bf16) (X Y : S256x1024.Idx → Elt F .bf16) :
    iprop(owns (c : Thread nD τ) (rows m 0) fullShare X ∗ owns (c : Thread nD τ) (rows m 1) fullShare Y) ⊢ (any c m : sProp 𝕄) := by
  iintro H
  ihave H' := (owns_stack c m fullShare X Y).1 $$ H
  iexists _; iexact H'

/-- What a device enters the kernel with, besides its buffers. -/
def enter : sProp 𝕄 :=
  iprop(levAts L lv ∗ barAt I c ∗ (signaller I (xp c) 0 ∗ signaller I (yp c) 1 ∗ signaller I (dg c) 2) ∗ bigSep Finset.univ fun j => awake I c j)

theorem wts_zero : iprop(any c w1M ∗ any c w2M) ⊢ wts I c 0 := by
  unfold wts
  iintro ⟨⟨%X, H1⟩, ⟨%Y, H2⟩⟩
  iexists X
  iexists Y
  isplitl [H1]; · iexact H1
  isplitl [H2]; · iexact H2
  ipureintro
  exact fun e fc h => absurd h (Nat.not_lt_zero _)
theorem hb_zero : (any c hM : sProp 𝕄) ⊢ hb I c 0 := by
  unfold hb
  iintro ⟨%X, H⟩
  iexists X
  isplitl [H]; · iexact H
  ipureintro
  exact fun h => absurd h (by decide)
theorem acc_zero : (any c accM : sProp 𝕄) ⊢ acc I c 0 := by
  unfold acc
  iintro ⟨%X, H⟩
  iexists X
  isplitl [H]; · iexact H
  ipureintro
  exact fun rc h => absurd h (by omega)

theorem slots_intro : iprop(any c xgM ∗ any c agM ∗ any c xrecvM ∗ any c yrecvM ∗ any c drecvM)
    ⊢ (iprop(slot c 0 ∗ slot c 1 ∗ slot c 2 ∗ slot c 3 ∗ slot c 4 ∗ slot c 5 ∗ slot c 6 ∗ slot c 7) : sProp 𝕄) := by
  have hx : (any c xrecvM : sProp 𝕄) ⊢ iprop(slot c 2 ∗ slot c 3) := any_two c xrecvM
  have hy : (any c yrecvM : sProp 𝕄) ⊢ iprop(slot c 4 ∗ slot c 5) := any_two c yrecvM
  have hd : (any c drecvM : sProp 𝕄) ⊢ iprop(slot c 6 ∗ slot c 7) := any_two c drecvM
  show _ ⊢ iprop(any c xgM ∗ any c agM ∗ slot c 2 ∗ slot c 3 ∗ slot c 4 ∗ slot c 5 ∗ slot c 6 ∗ slot c 7)
  iintro ⟨H0, H1, Hx, Hy, Hd⟩
  ihave Hx' := hx $$ Hx
  ihave Hy' := hy $$ Hy
  ihave Hd' := hd $$ Hd
  icases Hx' with ⟨H2, H3⟩
  icases Hy' with ⟨H4, H5⟩
  icases Hd' with ⟨H6, H7⟩
  isplitl [H0]; · iexact H0
  isplitl [H1]; · iexact H1
  isplitl [H2]; · iexact H2
  isplitl [H3]; · iexact H3
  isplitl [H4]; · iexact H4
  isplitl [H5]; · iexact H5
  isplitl [H6] <;> iassumption

theorem start_intro : iprop(enter I c ∗ Pipeline.scopedRest spec0 c) ⊢ Start I c := by
  have hs := bigSep8 (F := F) fun j => awake I c j
  unfold enter
  rw [scratch_all, hs]
  unfold Start goings awake ready
  iintro ⟨⟨Hl, Hb, Hs, ⟨Hs0, Hg0, Hr0⟩, ⟨Hs1, Hg1, Hr1⟩, ⟨Hs2, Hg2, Hr2⟩, ⟨Hs3, Hg3, Hr3⟩, ⟨Hs4, Hg4, Hr4⟩, ⟨Hs5, Hg5, Hr5⟩, ⟨Hs6, Hg6, Hr6⟩, ⟨Hs7, Hg7, Hr7⟩⟩,
    Hxb, Hxg, Hab, Hag, Hac, Hob, Hoo, Hxr, Hyr, Hdr, Hw1, Hw2, Hh⟩
  ihave HS := (slots_intro (F := F) c) $$ [Hxg Hag Hxr Hyr Hdr]
  · isplitl [Hxg]; · iexact Hxg
    isplitl [Hag]; · iexact Hag
    isplitl [Hxr]; · iexact Hxr
    isplitl [Hyr] <;> iassumption
  icases HS with ⟨S0, S1, S2, S3, S4, S5, S6, S7⟩
  isplitl [Hl]; · iexact Hl
  isplitl [Hb]; · iexact Hb
  isplitl [Hs]; · iexact Hs
  isplitl [S0 S1 S2 S3 S4 S5 S6 S7 Hr0 Hr1 Hr2 Hr3 Hr4 Hr5 Hr6 Hr7]
  · isplitl [S0 Hr0]; · isplitl [S0] <;> iassumption
    isplitl [S1 Hr1]; · isplitl [S1] <;> iassumption
    isplitl [S2 Hr2]; · isplitl [S2] <;> iassumption
    isplitl [S3 Hr3]; · isplitl [S3] <;> iassumption
    isplitl [S4 Hr4]; · isplitl [S4] <;> iassumption
    isplitl [S5 Hr5]; · isplitl [S5] <;> iassumption
    isplitl [S6 Hr6]; · isplitl [S6] <;> iassumption
    isplitl [S7] <;> iassumption
  isplitl [Hs0 Hs1 Hs2 Hs3 Hs4 Hs5 Hs6 Hs7]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6] <;> iassumption
  isplitl [Hg0 Hg1]; · isplitl [Hg0] <;> iassumption
  isplitl [Hg2 Hg3 Hg4 Hg5 Hg6 Hg7]
  · isplitl [Hg2]; · iexact Hg2
    isplitl [Hg3]; · iexact Hg3
    isplitl [Hg4]; · iexact Hg4
    isplitl [Hg5]; · iexact Hg5
    isplitl [Hg6] <;> iassumption
  isplitl [Hxb]; · iexact Hxb
  isplitl [Hab]; · iexact Hab
  isplitl [Hw1 Hw2]
  · iapply (wts_zero I c)
    isplitl [Hw1] <;> iassumption
  isplitl [Hh]; · iapply (hb_zero I c) $$ Hh
  isplitl [Hac]; · iapply (acc_zero I c) $$ Hac
  isplitl [Hoo]; · iapply (any_two c oobfM) $$ Hoo
  iapply (any_two c obfM) $$ Hob

/-! ## The kernel left -/

theorem over_parts (j : Fin 8) : over I c j ⊣⊢ iprop((semVal (sendCell c j) 0 ∗ semVal (recvCell c j) 0) ∗ sendPay I c j ∗ recvPay I c j) := by
  unfold over
  constructor
  · iintro ⟨H1, H2, H⟩
    isplitl [H1 H2]
    · isplitl [H1] <;> iassumption
    iexact H
  · iintro ⟨⟨H1, H2⟩, H⟩
    isplitl [H1]; · iexact H1
    isplitl [H2] <;> iassumption

/-- The two halves of the share of a buffer. -/
theorem share_two {s : Shape} {e : EltTy} (m : Memref sig .tc .vmem s e) (X : s.Idx → Elt F e) :
    iprop(owns (c : Thread nD τ) m fullShare.left X ∗ owns (c : Thread nD τ) m fullShare.right X) ⊢ (owns (c : Thread nD τ) m fullShare X : sProp 𝕄) :=
  (owns_halves (c : Thread nD τ) m fullShare X).2

theorem end_elim : End I c ⊢ iprop(semVal (barCell c) 0 ∗ Pipeline.ownSems0 osem c ∗ Pipeline.scopedRest spec0 c) := by
  have hs := bigSep8 (F := F) fun j => iprop(semVal (sendCell c j) 0 ∗ semVal (recvCell c j) 0)
  rw [scratch_all, ownSems0_eq, hs]
  unfold End xbL wts hb acc
  iintro ⟨Hb, HxL, ⟨%W1, %W2, Hw1, Hw2, -⟩, ⟨%H, Hh, -⟩, ⟨%A, Hac, -⟩, HO0, HO1, HO2, HO3, HO4, HO5, HO6, HO7⟩
  isplitl [Hb]; · iexact Hb
  ihave HO0 := (over_parts I c 0).1 $$ HO0
  ihave HO1 := (over_parts I c 1).1 $$ HO1
  ihave HO2 := (over_parts I c 2).1 $$ HO2
  ihave HO3 := (over_parts I c 3).1 $$ HO3
  ihave HO4 := (over_parts I c 4).1 $$ HO4
  ihave HO5 := (over_parts I c 5).1 $$ HO5
  ihave HO6 := (over_parts I c 6).1 $$ HO6
  ihave HO7 := (over_parts I c 7).1 $$ HO7
  icases HO0 with ⟨V0, P0, R0⟩
  icases HO1 with ⟨V1, P1, R1⟩
  icases HO2 with ⟨V2, P2, R2⟩
  icases HO3 with ⟨V3, P3, R3⟩
  icases HO4 with ⟨V4, P4, R4⟩
  icases HO5 with ⟨V5, P5, R5⟩
  icases HO6 with ⟨V6, P6, R6⟩
  icases HO7 with ⟨V7, P7, R7⟩
  isplitl [V0 V1 V2 V3 V4 V5 V6 V7]
  · isplitl [V0]; · iexact V0
    isplitl [V1]; · iexact V1
    isplitl [V2]; · iexact V2
    isplitl [V3]; · iexact V3
    isplitl [V4]; · iexact V4
    isplitl [V5]; · iexact V5
    isplitl [V6] <;> iassumption
  isplitl [HxL P0]
  · iexists (xrow I c)
    iapply (share_two c xbfM (xrow I c))
    isplitl [HxL]; · iexact HxL
    iapply (show sendPay I c 0 ⊢ owns (c : Thread nD τ) xbfM fullShare.right (xrow I c) from .rfl) $$ P0
  isplitl [R0]; · iapply (show recvPay I c 0 ⊢ (any c xgM : sProp 𝕄) from exists_intro (Φ := fun X => owns (c : Thread nD τ) xgM fullShare X) (xrow I (yp c))) $$ R0
  isplitl [P1]; · iapply (show sendPay I c 1 ⊢ (any c abfM : sProp 𝕄) from exists_intro (Φ := fun X => owns (c : Thread nD τ) abfM fullShare X) (arow I c)) $$ P1
  isplitl [R1]; · iapply (show recvPay I c 1 ⊢ (any c agM : sProp 𝕄) from exists_intro (Φ := fun X => owns (c : Thread nD τ) agM fullShare X) (arow I (yp c))) $$ R1
  isplitl [Hac]; · iexists A; iexact Hac
  isplitl [P4 P5 P6 P7]
  · iapply (two_any c obfM (peerB I c 0) (peerB I c 1))
    isplitl [P4 P6]
    · iapply (share_two c (rows obfM 0) (peerB I c 0))
      isplitl [P6]; · iapply (show sendPay I c 6 ⊢ owns (c : Thread nD τ) (rows obfM 0) fullShare.left (peerB I c 0) from .rfl) $$ P6
      iapply (show sendPay I c 4 ⊢ owns (c : Thread nD τ) (rows obfM 0) fullShare.right (peerB I c 0) from .rfl) $$ P4
    · iapply (share_two c (rows obfM 1) (peerB I c 1))
      isplitl [P7]; · iapply (show sendPay I c 7 ⊢ owns (c : Thread nD τ) (rows obfM 1) fullShare.left (peerB I c 1) from .rfl) $$ P7
      iapply (show sendPay I c 5 ⊢ owns (c : Thread nD τ) (rows obfM 1) fullShare.right (peerB I c 1) from .rfl) $$ P5
  isplitl [P2 P3]
  · iapply (show iprop(sendPay I c 2 ∗ sendPay I c 3) ⊢ (any c oobfM : sProp 𝕄) from two_any c oobfM (ownB I c 0) (ownB I c 1))
    isplitl [P2] <;> iassumption
  isplitl [R2 R3]
  · iapply (show iprop(recvPay I c 2 ∗ recvPay I c 3) ⊢ (any c xrecvM : sProp 𝕄) from two_any c xrecvM (ownB I (xp c) 0) (ownB I (xp c) 1))
    isplitl [R2] <;> iassumption
  isplitl [R4 R5]
  · iapply (show iprop(recvPay I c 4 ∗ recvPay I c 5) ⊢ (any c yrecvM : sProp 𝕄) from two_any c yrecvM (peerB I (yp c) 0) (peerB I (yp c) 1))
    isplitl [R4] <;> iassumption
  isplitl [R6 R7]
  · iapply (show iprop(recvPay I c 6 ∗ recvPay I c 7) ⊢ (any c drecvM : sProp 𝕄) from two_any c drecvM (peerB I (dg c) 0) (peerB I (dg c) 1))
    isplitl [R6] <;> iassumption
  isplitl [Hw1]; · iexists W1; iexact Hw1
  isplitl [Hw2]; · iexists W2; iexact Hw2
  iexists H; iexact Hh

end Cert.KernelIdeal.Moe
-- ==== Proof.KI.St1.lean ====
/-
  The first stretch of the body: at the first point a device meets the others at the barrier, rounds its half of the tokens and sends it,
  with the tokens' experts, to its second-axis neighbour.
-/
module

public import proofs.«01_k».proof.Proof.KI.St6

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-- A device's places on the mesh's axes, as the body computes them, -/
abbrev w16 (c : Dev nD) : BitVec 32 := Scalar.remsi (Scalar.divsi (Dev.word c) 2#32) 2#32
abbrev w19 (c : Dev nD) : BitVec 32 := Scalar.remsi (Scalar.divsi (Dev.word c) 1#32) 2#32
/-- and its neighbours'. -/
abbrev w20 (c : Dev nD) : BitVec 32 := Scalar.subi 1#32 (w16 c)
abbrev w21 (c : Dev nD) : BitVec 32 := Scalar.subi 1#32 (w19 c)

/-- The expert's number as the body computes it. -/
theorem eid_eq (c : Dev nD) (e : Fin 2) : eid c e = Scalar.addi (Scalar.muli (w19 c) 2#32) (BitVec.ofNat 32 e.val) := by
  revert c e; decide

theorem barPay_xp (c : Dev nD) : (barPay (xp c) 0 : sProp 𝕄) = iprop(ready c 2 ∗ ready c 3) := by
  show iprop(ready (xp (xp c)) 2 ∗ ready (xp (xp c)) 3) = _
  rw [xp_xp]
theorem barPay_yp (c : Dev nD) : (barPay (yp c) 1 : sProp 𝕄) = iprop(ready c 0 ∗ ready c 1 ∗ ready c 4 ∗ ready c 5) := by
  show iprop(ready (yp (yp c)) 0 ∗ ready (yp (yp c)) 1 ∗ ready (yp (yp c)) 4 ∗ ready (yp (yp c)) 5) = _
  rw [yp_yp]
theorem barPay_dg (c : Dev nD) : (barPay (dg c) 2 : sProp 𝕄) = iprop(ready c 6 ∗ ready c 7) := by
  show iprop(ready (dg (dg c)) 6 ∗ ready (dg (dg c)) 7) = _
  rw [dg_dg]

/-- The meeting at the barrier: a device hands over its buffers and gets the others' in return. -/
theorem meet (I : Inp F) (c : Dev nD) {n1 n2 n3 : Dev nD} (h1 : n1 = xp c) (h2 : n2 = yp c) (h3 : n3 = dg c) {α : Type} {Q : α → sProp 𝕄} {κ : Prog (TpuEff nD τ sig (Elt F) Λ₀ .tc) α} :
    iprop((signaller I (xp c) 0 ∗ signaller I (yp c) 1 ∗ signaller I (dg c) 2)
        ∗ (ready c 0 ∗ ready c 1 ∗ ready c 2 ∗ ready c 3 ∗ ready c 4 ∗ ready c 5 ∗ ready c 6 ∗ ready c 7) ∗ barAt I c ∗ ow c 11 ∗ levAts L lv)
      ⊢ iprop((ow c 8 ∗ semVal (barCell c) 0 ∗ (ready (xp c) 2 ∗ ready (xp c) 3) ∗ (ready (yp c) 0 ∗ ready (yp c) 1 ∗ ready (yp c) 4 ∗ ready (yp c) 5)
            ∗ (ready (dg c) 6 ∗ ready (dg c) 7) -∗ run c κ Q)
        -∗ run c (.op (.semSignal (Dev.tc n1 : Thread nD τ) barS (1#32 : BitVec 32).toInt) fun _ => .op (.semSignal (Dev.tc n2 : Thread nD τ) barS (1#32 : BitVec 32).toInt) fun _ =>
          .op (.semSignal (Dev.tc n3 : Thread nD τ) barS (1#32 : BitVec 32).toInt) fun _ => .op (.semWait barS (3#32 : BitVec 32).toInt) fun _ => κ) Q) := by
  iintro ⟨⟨S1, S2, S3⟩, ⟨R0, R1, R2, R3, R4, R5, R6, R7⟩, HB, Ho, Hl⟩ Hk
  iapply (signal_rule I c n1 (xp c) h1 0 10 rfl rfl (by decide)) $$ [S1 R2 R3 Ho]
  · isplitl [S1]; · iexact S1
    isplitl [R2 R3]
    · iapply (Entails.of_eq (barPay_xp c).symm)
      isplitl [R2]; · iexact R2
      iexact R3
    iexact Ho
  iintro Ho
  iapply (signal_rule I c n2 (yp c) h2 1 9 rfl rfl (by decide)) $$ [S2 R0 R1 R4 R5 Ho]
  · isplitl [S2]; · iexact S2
    isplitl [R0 R1 R4 R5]
    · iapply (Entails.of_eq (barPay_yp c).symm)
      isplitl [R0]; · iexact R0
      isplitl [R1]; · iexact R1
      isplitl [R4]; · iexact R4
      iexact R5
    iexact Ho
  iintro Ho
  iapply (signal_rule I c n3 (dg c) h3 2 8 rfl rfl (by decide)) $$ [S3 R6 R7 Ho]
  · isplitl [S3]; · iexact S3
    isplitl [R6 R7]
    · iapply (Entails.of_eq (barPay_dg c).symm)
      isplitl [R6]; · iexact R6
      iexact R7
    iexact Ho
  iintro Ho
  iapply (barrier_rule I c (by decide)) $$ [HB Ho Hl]
  · isplitl [HB]; · iexact HB
    isplitl [Ho]; · iexact Ho
    iexact Hl
  iintro ⟨Ho, Hb, P0, P1, P2⟩
  iapply Hk
  isplitl [Ho]; · iexact Ho
  isplitl [Hb]; · iexact Hb
  isplitl [P0]; · iapply (Entails.of_eq (show barPay (F := F) c 0 = iprop(ready (xp c) 2 ∗ ready (xp c) 3) from rfl)) $$ P0
  isplitl [P1]; · iapply (Entails.of_eq (show barPay (F := F) c 1 = iprop(ready (yp c) 0 ∗ ready (yp c) 1 ∗ ready (yp c) 4 ∗ ready (yp c) 5) from rfl)) $$ P1
  iapply (Entails.of_eq (show barPay (F := F) c 2 = iprop(ready (dg c) 6 ∗ ready (dg c) 7) from rfl)) $$ P2

section
variable (I : Inp F) (c : Dev nD)
  {h9 h10 h11 h12 h13 h14 h15 h16 h17 h18 h19 h20 h21}
  {arg4 : Memref sig .tc .vmem S1024x1024 .f32} {h4 : arg4.IsWhole} {arg5 : Memref sig .tc .vmem S1024x1 .i32} {h5 : arg5.IsWhole}
  {arg6 : Memref sig .tc .vmem S1x1024x1024 .f32} {h6 : arg6.IsWhole} {arg7 : Memref sig .tc .vmem S1x1024x1024 .f32} {h7 : arg7.IsWhole}
  {arg8 : Memref sig .tc .vmem S1024x1024 .f32} {h8 : arg8.IsWhole}
  {κ : BitVec 32 → BitVec 32 → BitVec 32 → Dev nD → BitVec 32 → BitVec 32 → BitVec 32 → BitVec 32 → BitVec 32 → BitVec 32 → BitVec 32 → Prog (TpuEff nD τ sig (Elt F) Λ₀ .tc) PUnit}

/-- At the first point. -/
theorem st1_first {Q : PUnit → sProp 𝕄} :
    iprop(Start I c ∗ ow c 11 ∗ owns (c : Thread nD τ) arg4 fullShare (I.x c) ∗ owns (c : Thread nD τ) arg5 fullShare (I.a c))
      ⊢ iprop((Mid I c 0 ∗ ow c 6 ∗ owns (c : Thread nD τ) arg4 fullShare (I.x c) ∗ owns (c : Thread nD τ) arg5 fullShare (I.a c)
            -∗ run c (κ (BitVec.ofNat 32 (0 : Fin 2).val) (BitVec.ofNat 32 (0 : Fin 2).val) (BitVec.ofNat 32 (0 : Fin 2).val) c (w16 c) (w19 c) (w20 c) (w21 c) (w20 c) (w21 c) (eid c 0)) Q)
        -∗ run c (st1 (pt 0 0 0 0) arg4 h4 arg5 h5 arg6 h6 arg7 h7 arg8 h8 xbfM h9 xgM h10 abfM h11 agM h12 accM h13 obfM h14 oobfM h15 xrecvM h16 yrecvM h17 drecvM h18
            w1M h19 w2M h20 hM h21 cc0_scratch13 cc0_scratch14 κ) Q) := by
  unfold st1
  have hc : k0_cond1 (pt 0 0 0 0) = 1#1 := (cond1_iff _).mpr ⟨rfl, rfl, rfl, rfl⟩
  rw [eid_eq, k0_part5_eq_skeleton]
  unfold k0_part5_skel
  simp only [Prog.lift, Prog.bind_op, Prog.bind_ret, wp_deviceId]
  simp only [dif_pos hc, k0_part1_eq_skeleton, k0_part1_skel, semSignalWord, semWaitWord, Prog.lift, Prog.bind_op, Prog.bind_ret, Prog.pure_eq_ret]
  unfold Start Mid xbL
  rw [tokS_before (n := 0) (by decide), ownS_before (n := 0) (rc := 0) (by decide), ownS_before (n := 0) (rc := 1) (by decide),
    peerS_before (n := 0) (rc := 0) (by decide), peerS_before (n := 0) (rc := 1) (by decide)]
  iintro ⟨⟨#Hl, HB, HS, HR, ⟨N0, N1, N2, N3, N4, N5, N6, N7⟩, ⟨G0, G1⟩, Hgs, ⟨%Z, HZ⟩, ⟨%Z', HZ'⟩, Hw, Hh, Ha, ⟨O0, O1⟩, P0, P1⟩, Ho, Hx, Hi⟩ Hk
  iapply (meet I c (dev1_eq c _) (dev2_eq c _) (dev3_eq c _)) $$ [HB HS HR Ho]
  · isplitl [HS]; · iexact HS
    isplitl [HR]; · iexact HR
    isplitl [HB]; · iexact HB
    isplitl [Ho]; · iexact Ho
    iexact Hl
  iintro ⟨Ho, Hb, ⟨X2, X3⟩, ⟨Y0, Y1, Y4, Y5⟩, D6, D7⟩
  iapply (load_at (off1_eq c)) $$ Hx; iintro Hx
  iapply (load_all (by decide)) $$ HZ; iintro HZ
  iapply (store_all_as (by decide) (xrow I c) (by rfl)) $$ HZ; iintro HZ
  iapply (load_at (off2_eq c)) $$ Hi; iintro Hi
  iapply (load_all (by decide)) $$ HZ'; iintro HZ'
  iapply (store_all_as (by decide) (arow I c) (by rfl)) $$ HZ'; iintro HZ'
  ihave HZ := (owns_halves (c : Thread nD τ) xbfM fullShare (xrow I c)).1 $$ HZ
  icases HZ with ⟨HL, HZ⟩
  iapply (send_rule I c _ 0 (dev4_eq c _) (send_sem 0 _ _) (recv_sem 0 _ _) (q := fullShare.right) (X := xrow I c) 7 rfl rfl rfl Entails.refl Entails.refl
    (by show _ ⊢ owns (yp c : Thread nD τ) xgM fullShare (xrow I (yp (yp c))); rw [yp_yp]; exact Entails.refl)) $$ [N0 Y0 HZ Ho]
  · isplitl [N0]; · iexact N0
    isplitl [Y0]; · iexact Y0
    isplitl [HZ]; · iexact HZ
    iexact Ho
  iintro ⟨T0, Ho⟩
  iapply (send_rule I c _ 1 (dev5_eq c _) (send_sem 1 _ _) (recv_sem 1 _ _) (q := fullShare) (X := arow I c) 6 rfl rfl rfl Entails.refl Entails.refl
    (by show _ ⊢ owns (yp c : Thread nD τ) agM fullShare (arow I (yp (yp c))); rw [yp_yp]; exact Entails.refl)) $$ [N1 Y1 HZ' Ho]
  · isplitl [N1]; · iexact N1
    isplitl [Y1]; · iexact Y1
    isplitl [HZ']; · iexact HZ'
    iexact Ho
  iintro ⟨T1, Ho⟩
  iapply Hk
  isplitr [Ho Hx Hi]
  · isplitr; · iexact Hl
    isplitl [Hb]; · iexact Hb
    isplitl [HL]; · iexact HL
    isplitl [Hw]; · iexact Hw
    isplitl [Hh]; · iexact Hh
    isplitl [Ha]; · iexact Ha
    isplitl [T0 G0 T1 G1]
    · isplitl [T0]; · iexact T0
      isplitl [G0]; · iexact G0
      isplitl [T1]; · iexact T1
      iexact G1
    isplitl [N2 X2 O0 N3 X3 O1]
    · isplitl [N2 X2 O0]
      · isplitl [N2]; · iexact N2
        isplitl [X2]; · iexact X2
        iexact O0
      · isplitl [N3]; · iexact N3
        isplitl [X3]; · iexact X3
        iexact O1
    isplitr [Hgs]
    · isplitl [N6 D6 N4 Y4 P0]
      · isplitl [N6]; · iexact N6
        isplitl [D6]; · iexact D6
        isplitl [N4]; · iexact N4
        isplitl [Y4]; · iexact Y4
        iexact P0
      · isplitl [N7]; · iexact N7
        isplitl [D7]; · iexact D7
        isplitl [N5]; · iexact N5
        isplitl [Y5]; · iexact Y5
        iexact P1
    iexact Hgs
  isplitl [Ho]; · iexact Ho
  isplitl [Hx]; · iexact Hx
  iexact Hi

/-- At every other point it computes the expert's number only. -/
theorem st1_idle (s rc e fc : Fin 2) (h : ¬(s.val = 0 ∧ rc.val = 0 ∧ e.val = 0 ∧ fc.val = 0)) {m9 m10 m11 m12 m13 m14 m15 m16 m17 m18 m19 m20 m21 a22 a23} {g9 g10 g11 g12 g13 g14 g15 g16 g17 g18 g19 g20 g21} {Q : PUnit → sProp 𝕄} :
    run c (κ (BitVec.ofNat 32 rc.val) (BitVec.ofNat 32 e.val) (BitVec.ofNat 32 fc.val) c (w16 c) (w19 c) (w20 c) (w21 c) (w20 c) (w21 c) (eid c e)) Q
      ⊢ run c (st1 (pt s rc e fc) arg4 h4 arg5 h5 arg6 h6 arg7 h7 arg8 h8 m9 g9 m10 g10 m11 g11 m12 g12 m13 g13 m14 g14 m15 g15 m16 g16 m17 g17 m18 g18 m19 g19 m20 g20 m21 g21 a22 a23 κ) Q := by
  unfold st1
  have hc : ¬k0_cond1 (pt s rc e fc) = 1#1 := fun hh => h ((cond1_iff _).mp hh)
  rw [eid_eq, k0_part5_eq_skeleton]
  unfold k0_part5_skel
  simp only [Prog.lift, Prog.bind_op, Prog.bind_ret, wp_deviceId]
  simp only [dif_neg hc, Prog.lift, Prog.bind_op, Prog.bind_ret, Prog.pure_eq_ret]
  exact Entails.refl

end

end Cert.KernelIdeal.Moe
-- ==== Proof.KI.Body.lean ====
/-
  The kernel's body at a grid point: its stretches one after the other, from the state before the point to the state after it.
-/
module

public import proofs.«01_k».proof.Proof.KI.St1

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

variable (I : Inp F) (c : Dev nD) (rc e fc : Fin 2)
  {arg4 : Memref sig .tc .vmem S1024x1024 .f32} {h4 : arg4.IsWhole} {arg5 : Memref sig .tc .vmem S1024x1 .i32} {h5 : arg5.IsWhole}
  {arg6 : Memref sig .tc .vmem S1x1024x1024 .f32} {h6 : arg6.IsWhole} {arg7 : Memref sig .tc .vmem S1x1024x1024 .f32} {h7 : arg7.IsWhole}
  {arg8 : Memref sig .tc .vmem S1024x1024 .f32} {h8 : arg8.IsWhole}
  {Y6 Y7 : S1x1024x1024.Idx → Elt F .f32}

/-- The body's end. -/
theorem done {Q : PUnit → sProp 𝕄} : Q ⟨⟩ ⊢ run c (st6.tail (F := F)) Q := by
  show _ ⊢ wp _ _ _ (.ret ⟨⟩) Q
  rw [wp_ret]
  iintro H
  imodintro
  iexact H

/-- The first stretch of the body, at any point: past it the barrier is behind the device. -/
theorem start_spec (s : Fin 2)
    {κ : BitVec 32 → BitVec 32 → BitVec 32 → Dev nD → BitVec 32 → BitVec 32 → BitVec 32 → BitVec 32 → BitVec 32 → BitVec 32 → BitVec 32 → Prog (TpuEff nD τ sig (Elt F) Λ₀ .tc) PUnit}
    {Q : PUnit → sProp 𝕄} :
    iprop(Φst I c (tm s rc e fc) ∗ ow c (owΦ (tm s rc e fc)) ∗ owns (c : Thread nD τ) arg4 fullShare (I.x c) ∗ owns (c : Thread nD τ) arg5 fullShare (I.a c))
      ⊢ iprop((Mid I c (tm s rc e fc) ∗ ow c (owN (tm s rc e fc)) ∗ owns (c : Thread nD τ) arg4 fullShare (I.x c) ∗ owns (c : Thread nD τ) arg5 fullShare (I.a c)
            -∗ run c (κ (BitVec.ofNat 32 rc.val) (BitVec.ofNat 32 e.val) (BitVec.ofNat 32 fc.val) c (w16 c) (w19 c) (w20 c) (w21 c) (w20 c) (w21 c) (eid c e)) Q)
        -∗ run c (st1 (pt s rc e fc) arg4 h4 arg5 h5 arg6 h6 arg7 h7 arg8 h8 xbfM (Memref.isWhole_whole _) xgM (Memref.isWhole_whole _) abfM (Memref.isWhole_whole _) agM (Memref.isWhole_whole _) accM (Memref.isWhole_whole _) obfM (Memref.isWhole_whole _) oobfM (Memref.isWhole_whole _) xrecvM (Memref.isWhole_whole _) yrecvM (Memref.isWhole_whole _) drecvM (Memref.isWhole_whole _) w1M (Memref.isWhole_whole _) w2M (Memref.isWhole_whole _) hM (Memref.isWhole_whole _) cc0_scratch13 cc0_scratch14 κ) Q) := by
  by_cases h : s.val = 0 ∧ rc.val = 0 ∧ e.val = 0 ∧ fc.val = 0
  · obtain ⟨hs, hr, he, hf⟩ := h
    obtain rfl : s = 0 := Fin.ext hs
    obtain rfl : rc = 0 := Fin.ext hr
    obtain rfl : e = 0 := Fin.ext he
    obtain rfl : fc = 0 := Fin.ext hf
    exact st1_first I c
  · have hn : tm s rc e fc ≠ 0 := fun h' => h ⟨by simp only [tm] at h'; omega, by simp only [tm] at h'; omega, by simp only [tm] at h'; omega, by simp only [tm] at h'; omega⟩
    have hn' : tm s rc e fc < 16 := by
      have := s.isLt; have := rc.isLt; have := e.isLt; have := fc.isLt
      simp only [tm]; omega
    have hΦ : Φst I c (tm s rc e fc) = Mid I c (tm s rc e fc) := by unfold Φst; rw [if_neg hn, if_pos hn']
    have hO : owΦ (tm s rc e fc) = owN (tm s rc e fc) := if_neg hn
    rw [hΦ, hO]
    iintro H Hk
    iapply (st1_idle c s rc e fc h)
    iapply Hk $$ H

/-- The rest of a point of the own stage. -/
theorem own_spec (h6' : rc = 0 → Y6 = I.w1 c e fc) (h7' : rc = 0 → Y7 = I.w2 c e fc) {Q : PUnit → sProp 𝕄} :
    iprop(Mid I c (tm 0 rc e fc) ∗ ow c (owN (tm 0 rc e fc)) ∗ owns (c : Thread nD τ) arg5 fullShare (I.a c) ∗ owns (c : Thread nD τ) arg6 fullShare Y6
        ∗ owns (c : Thread nD τ) arg7 fullShare Y7 ∗ out I c (tm 0 rc e fc) arg8)
      ⊢ iprop((Mid I c (tm 0 rc e fc + 1) ∗ ow c (owN (tm 0 rc e fc + 1)) ∗ owns (c : Thread nD τ) arg5 fullShare (I.a c) ∗ owns (c : Thread nD τ) arg6 fullShare Y6
          ∗ owns (c : Thread nD τ) arg7 fullShare Y7 ∗ out I c (tm 0 rc e fc + 1) arg8 -∗ Q ⟨⟩)
        -∗ run c (st1.tail (pt 0 rc e fc) arg4 h4 arg5 h5 arg6 h6 arg7 h7 arg8 h8 xbfM (Memref.isWhole_whole _) xgM (Memref.isWhole_whole _) abfM (Memref.isWhole_whole _) agM (Memref.isWhole_whole _) accM (Memref.isWhole_whole _) obfM (Memref.isWhole_whole _) oobfM (Memref.isWhole_whole _) xrecvM (Memref.isWhole_whole _) yrecvM (Memref.isWhole_whole _) drecvM (Memref.isWhole_whole _) w1M (Memref.isWhole_whole _) w2M (Memref.isWhole_whole _) hM (Memref.isWhole_whole _) cc0_scratch13 cc0_scratch14 (BitVec.ofNat 32 rc.val) (BitVec.ofNat 32 e.val) (BitVec.ofNat 32 fc.val) c (w16 c) (w19 c) (w20 c) (w21 c) (w20 c) (w21 c) (eid c e)) Q) := by
  have hlt : tm 0 rc e fc < 8 := by
    have := rc.isLt; have := e.isLt; have := fc.isLt
    simp only [tm, Fin.isValue, Fin.val_zero]; omega
  have hA : acc I c (tm 0 rc e fc) ⊢ acc I c (tm 0 rc e fc + 1) := by
    unfold acc
    iintro ⟨%A, HA, %h⟩
    iexists A
    isplitl [HA]; · iexact HA
    ipureintro; exact h.step (.inr hlt)
  simp only [st2.eq, st3.eq, st4.eq, st5.eq, st6.eq, st5_idle, st6_idle c 0 rc e fc (fun h => Nat.zero_ne_one h.1)]
  unfold Mid
  rw [tokS_step (by omega), peerS_step (rc := 0) (by omega), peerS_step (rc := 1) (by omega)]
  iintro ⟨⟨Hlv, Hb, Hx, Hw, Hh, Ha, Ht, Ho, Hp, Hg⟩, How, H5, H6, H7, Hout⟩ Hk
  iapply (st2_spec I c 0 rc e fc arg6 arg7 Y6 Y7 (fun _ => h6') (fun _ => h7')) $$ [H6 H7 Hw]
  · isplitl [H6]; · iexact H6
    isplitl [H7]; · iexact H7
    iexact Hw
  iintro ⟨H6, H7, Hw⟩
  iapply (st3_spec I c 0 rc e fc) $$ Hw
  iintro Hw
  iapply (st4_own I c rc e fc) $$ [H5 Hx Hh Hw Hout Ho How]
  · isplitl [H5]; · iexact H5
    isplitl [Hx]; · iexact Hx
    isplitl [Hh]; · iexact Hh
    isplitl [Hw]; · iexact Hw
    isplitl [Hout]; · iexact Hout
    isplitl [Ho]; · iexact Ho
    iexact How
  iintro ⟨H5, Hx, Hh, Hw, Hout, Ho, How⟩
  iapply (done c)
  iapply Hk
  isplitl [Hlv Hb Hx Hw Hh Ha Ht Ho Hp Hg]
  · isplitl [Hlv]; · iexact Hlv
    isplitl [Hb]; · iexact Hb
    isplitl [Hx]; · iexact Hx
    isplitl [Hw]; · iexact Hw
    isplitl [Hh]; · iexact Hh
    isplitl [Ha]; · iapply hA $$ Ha
    isplitl [Ht]; · iexact Ht
    isplitl [Ho]; · iexact Ho
    isplitl [Hp]; · iexact Hp
    iexact Hg
  isplitl [How]; · iexact How
  isplitl [H5]; · iexact H5
  isplitl [H6]; · iexact H6
  isplitl [H7]; · iexact H7
  iexact Hout

/-- A point of the neighbour's stage up to its last stretch. -/
theorem peer_spec {Q : PUnit → sProp 𝕄} :
    iprop(Mid I c (tm 1 rc e fc) ∗ ow c (owN (tm 1 rc e fc)) ∗ owns (c : Thread nD τ) arg6 fullShare Y6 ∗ owns (c : Thread nD τ) arg7 fullShare Y7)
      ⊢ iprop((Mid I c (tm 1 rc e fc + 1) ∗ ow c (owN (tm 1 rc e fc + 1)) ∗ owns (c : Thread nD τ) arg6 fullShare Y6 ∗ owns (c : Thread nD τ) arg7 fullShare Y7
            -∗ run c (st6 (pt 1 rc e fc) arg4 h4 arg5 h5 arg6 h6 arg7 h7 arg8 h8 xbfM (Memref.isWhole_whole _) xgM (Memref.isWhole_whole _) abfM (Memref.isWhole_whole _) agM (Memref.isWhole_whole _) accM (Memref.isWhole_whole _) obfM (Memref.isWhole_whole _) oobfM (Memref.isWhole_whole _) xrecvM (Memref.isWhole_whole _) yrecvM (Memref.isWhole_whole _) drecvM (Memref.isWhole_whole _) w1M (Memref.isWhole_whole _) w2M (Memref.isWhole_whole _) hM (Memref.isWhole_whole _) cc0_scratch13 cc0_scratch14 c (w16 c) (w19 c) (w20 c) (w21 c) (w20 c) (w21 c) st6.tail) Q)
        -∗ run c (st1.tail (pt 1 rc e fc) arg4 h4 arg5 h5 arg6 h6 arg7 h7 arg8 h8 xbfM (Memref.isWhole_whole _) xgM (Memref.isWhole_whole _) abfM (Memref.isWhole_whole _) agM (Memref.isWhole_whole _) accM (Memref.isWhole_whole _) obfM (Memref.isWhole_whole _) oobfM (Memref.isWhole_whole _) xrecvM (Memref.isWhole_whole _) yrecvM (Memref.isWhole_whole _) drecvM (Memref.isWhole_whole _) w1M (Memref.isWhole_whole _) w2M (Memref.isWhole_whole _) hM (Memref.isWhole_whole _) cc0_scratch13 cc0_scratch14 (BitVec.ofNat 32 rc.val) (BitVec.ofNat 32 e.val) (BitVec.ofNat 32 fc.val) c (w16 c) (w19 c) (w20 c) (w21 c) (w20 c) (w21 c) (eid c e)) Q) := by
  have hlt : 8 ≤ tm 1 rc e fc := by simp only [tm, Fin.isValue, Fin.val_one]; omega
  simp only [st2.eq, st3.eq, st4.eq, st5.eq, st6.eq, st4_idle]
  unfold Mid
  rw [ownS_step (rc := 0) (by omega), ownS_step (rc := 1) (by omega)]
  iintro ⟨⟨#Hlv, Hb, Hx, Hw, Hh, Ha, Ht, Ho, Hp, Hg⟩, How, H6, H7⟩ Hk
  iapply (st2_spec I c 1 rc e fc arg6 arg7 Y6 Y7 (fun h => absurd h (by decide)) (fun h => absurd h (by decide))) $$ [H6 H7 Hw]
  · isplitl [H6]; · iexact H6
    isplitl [H7]; · iexact H7
    iexact Hw
  iintro ⟨H6, H7, Hw⟩
  iapply (st3_spec I c 1 rc e fc) $$ Hw
  iintro Hw
  iapply (st5_peer I c rc e fc) $$ [Hh Hw Ha Ht Hp How]
  · isplitr; · iexact Hlv
    isplitl [Hh]; · iexact Hh
    isplitl [Hw]; · iexact Hw
    isplitl [Ha]; · iexact Ha
    isplitl [Ht]; · iexact Ht
    isplitl [Hp]; · iexact Hp
    iexact How
  iintro ⟨Hh, Hw, Ha, Ht, Hp, How⟩
  iapply Hk
  isplitl [Hb Hx Hw Hh Ha Ht Ho Hp Hg]
  · isplitr; · iexact Hlv
    isplitl [Hb]; · iexact Hb
    isplitl [Hx]; · iexact Hx
    isplitl [Hw]; · iexact Hw
    isplitl [Hh]; · iexact Hh
    isplitl [Ha]; · iexact Ha
    isplitl [Ht]; · iexact Ht
    isplitl [Ho]; · iexact Ho
    isplitl [Hp]; · iexact Hp
    iexact Hg
  isplitl [How]; · iexact How
  isplitl [H6]; · iexact H6
  iexact H7

/-- The last stretch at a point before the last. -/
theorem end_idle (s : Fin 2) (h : ¬(s.val = 1 ∧ rc.val = 1 ∧ e.val = 1 ∧ fc.val = 1)) (h8' : 8 ≤ tm s rc e fc) {Q : PUnit → sProp 𝕄} :
    iprop(Mid I c (tm s rc e fc + 1) ∗ ow c (owN (tm s rc e fc + 1)) ∗ out I c (tm s rc e fc) arg8)
      ⊢ iprop((Φst I c (tm s rc e fc + 1) ∗ ow c (owΦ (tm s rc e fc + 1)) ∗ out I c (tm s rc e fc + 1) arg8 -∗ Q ⟨⟩)
        -∗ run c (st6 (pt s rc e fc) arg4 h4 arg5 h5 arg6 h6 arg7 h7 arg8 h8 xbfM (Memref.isWhole_whole _) xgM (Memref.isWhole_whole _) abfM (Memref.isWhole_whole _) agM (Memref.isWhole_whole _) accM (Memref.isWhole_whole _) obfM (Memref.isWhole_whole _) oobfM (Memref.isWhole_whole _) xrecvM (Memref.isWhole_whole _) yrecvM (Memref.isWhole_whole _) drecvM (Memref.isWhole_whole _) w1M (Memref.isWhole_whole _) w2M (Memref.isWhole_whole _) hM (Memref.isWhole_whole _) cc0_scratch13 cc0_scratch14 c (w16 c) (w19 c) (w20 c) (w21 c) (w20 c) (w21 c) st6.tail) Q) := by
  have hlt : tm s rc e fc < 15 := by
    have := s.isLt; have := rc.isLt; have := e.isLt; have := fc.isLt
    simp only [tm]; omega
  have hO : out I c (tm s rc e fc) arg8 ⊢ out I c (tm s rc e fc + 1) arg8 := by
    unfold out
    iintro ⟨%X, HX, %hX⟩
    iexists X
    isplitl [HX]; · iexact HX
    ipureintro; exact hX.step (.inr h8') hlt
  rw [st6_idle c s rc e fc h, show Φst I c (tm s rc e fc + 1) = Mid I c (tm s rc e fc + 1) from by unfold Φst; rw [if_neg (by omega), if_pos (by omega)],
    show owΦ (tm s rc e fc + 1) = owN (tm s rc e fc + 1) from if_neg (by omega)]
  iintro ⟨HM, How, Hout⟩ Hk
  iapply (done c)
  iapply Hk
  isplitl [HM]; · iexact HM
  isplitl [How]; · iexact How
  iapply hO $$ Hout

/-- The last stretch at the last point. -/
theorem end_last {Q : PUnit → sProp 𝕄} :
    iprop(Mid I c 16 ∗ ow c (owN 16) ∗ out I c 15 arg8)
      ⊢ iprop((Φst I c 16 ∗ ow c (owΦ 16) ∗ out I c 16 arg8 -∗ Q ⟨⟩)
        -∗ run c (st6 (pt 1 1 1 1) arg4 h4 arg5 h5 arg6 h6 arg7 h7 arg8 h8 xbfM (Memref.isWhole_whole _) xgM (Memref.isWhole_whole _) abfM (Memref.isWhole_whole _) agM (Memref.isWhole_whole _) accM (Memref.isWhole_whole _) obfM (Memref.isWhole_whole _) oobfM (Memref.isWhole_whole _) xrecvM (Memref.isWhole_whole _) yrecvM (Memref.isWhole_whole _) drecvM (Memref.isWhole_whole _) w1M (Memref.isWhole_whole _) w2M (Memref.isWhole_whole _) hM (Memref.isWhole_whole _) cc0_scratch13 cc0_scratch14 c (w16 c) (w19 c) (w20 c) (w21 c) (w20 c) (w21 c) st6.tail) Q) := by
  rw [show Φst I c 16 = End I c from rfl, show owΦ 16 = 0 from rfl, show owN 16 = 0 from rfl]
  unfold Mid End
  rw [tokS_after (by decide), ownS_after (rc := 0) (by decide), ownS_after (rc := 1) (by decide), peerS_after (rc := 0) (by decide), peerS_after (rc := 1) (by decide)]
  iintro ⟨⟨Hlv, Hb, Hx, Hw, Hh, Ha, ⟨Ht0, Ht1⟩, Ho, Hp, Hg⟩, How, Hout⟩ Hk
  iapply (st6_last I c) $$ [Hlv Hg Ho Hp How Hout]
  · isplitl [Hlv]; · iexact Hlv
    isplitl [Hg]; · iexact Hg
    isplitl [Ho]; · iexact Ho
    isplitl [Hp]
    · icases Hp with ⟨⟨P0, P1⟩, P2, P3⟩
      isplitl [P0 P1]
      · isplitl [P0]; · iexact P0
        iexact P1
      isplitl [P2]; · iexact P2
      iexact P3
    isplitl [Hout]; · iexact Hout
    iexact How
  iintro ⟨Hv, Hout, How⟩
  iapply (done c)
  iapply Hk
  isplitl [Hb Hx Hw Hh Ha Ht0 Ht1 Hv]
  · isplitl [Hb]; · iexact Hb
    isplitl [Hx]; · iexact Hx
    isplitl [Hw]; · iexact Hw
    isplitl [Hh]; · iexact Hh
    isplitl [Ha]; · iexact Ha
    isplitl [Ht0]; · iexact Ht0
    isplitl [Ht1]; · iexact Ht1
    iexact Hv
  isplitl [How]; · iexact How
  iexact Hout

/-- The body at any point. -/
theorem body_spec (s : Fin 2) (h6' : s = 0 → rc = 0 → Y6 = I.w1 c e fc) (h7' : s = 0 → rc = 0 → Y7 = I.w2 c e fc) :
    iprop((Φst I c (tm s rc e fc) ∗ ow c (owΦ (tm s rc e fc))) ∗ owns (c : Thread nD τ) arg4 fullShare (I.x c) ∗ owns (c : Thread nD τ) arg5 fullShare (I.a c)
        ∗ owns (c : Thread nD τ) arg6 fullShare Y6 ∗ owns (c : Thread nD τ) arg7 fullShare Y7 ∗ out I c (tm s rc e fc) arg8)
      ⊢ run c (cc0_body (pt s rc e fc) arg4 h4 arg5 h5 arg6 h6 arg7 h7 arg8 h8 xbfM (Memref.isWhole_whole _) xgM (Memref.isWhole_whole _) abfM (Memref.isWhole_whole _) agM (Memref.isWhole_whole _) accM (Memref.isWhole_whole _) obfM (Memref.isWhole_whole _) oobfM (Memref.isWhole_whole _) xrecvM (Memref.isWhole_whole _) yrecvM (Memref.isWhole_whole _) drecvM (Memref.isWhole_whole _) w1M (Memref.isWhole_whole _) w2M (Memref.isWhole_whole _) hM (Memref.isWhole_whole _) cc0_scratch13 cc0_scratch14) fun _ =>
        iprop((Φst I c (tm s rc e fc + 1) ∗ ow c (owΦ (tm s rc e fc + 1))) ∗ owns (c : Thread nD τ) arg4 fullShare (I.x c) ∗ owns (c : Thread nD τ) arg5 fullShare (I.a c)
          ∗ owns (c : Thread nD τ) arg6 fullShare Y6 ∗ owns (c : Thread nD τ) arg7 fullShare Y7 ∗ out I c (tm s rc e fc + 1) arg8) := by
  rw [cc0_body_eq_skeleton, st1.eq]
  iintro ⟨⟨HΦ, How⟩, H4, H5, H6, H7, Hout⟩
  iapply (start_spec I c rc e fc s) $$ [HΦ How H4 H5]
  · isplitl [HΦ]; · iexact HΦ
    isplitl [How]; · iexact How
    isplitl [H4]; · iexact H4
    iexact H5
  iintro ⟨HM, How, H4, H5⟩
  rcases fin2_cases s with rfl | rfl
  · have e1 : Φst I c (tm 0 rc e fc + 1) = Mid I c (tm 0 rc e fc + 1) := by
      have := rc.isLt; have := e.isLt; have := fc.isLt
      unfold Φst; rw [if_neg (by omega), if_pos (by simp only [tm, Fin.isValue, Fin.val_zero]; omega)]
    have e2 : owΦ (tm 0 rc e fc + 1) = owN (tm 0 rc e fc + 1) := if_neg (by omega)
    iapply (own_spec I c rc e fc (h6' rfl) (h7' rfl)) $$ [HM How H5 H6 H7 Hout]
    · isplitl [HM]; · iexact HM
      isplitl [How]; · iexact How
      isplitl [H5]; · iexact H5
      isplitl [H6]; · iexact H6
      isplitl [H7]; · iexact H7
      iexact Hout
    iintro ⟨HM, How, H5, H6, H7, Hout⟩
    isplitl [HM How]
    · isplitl [HM]; · iapply (Entails.of_eq e1.symm) $$ HM
      iapply (Entails.of_eq (congrArg (ow c) e2.symm)) $$ How
    isplitl [H4]; · iexact H4
    isplitl [H5]; · iexact H5
    isplitl [H6]; · iexact H6
    isplitl [H7]; · iexact H7
    iexact Hout
  · iapply (peer_spec I c rc e fc) $$ [HM How H6 H7]
    · isplitl [HM]; · iexact HM
      isplitl [How]; · iexact How
      isplitl [H6]; · iexact H6
      iexact H7
    iintro ⟨HM, How, H6, H7⟩
    by_cases h : rc.val = 1 ∧ e.val = 1 ∧ fc.val = 1
    · obtain ⟨hr, he, hf⟩ := h
      obtain rfl : rc = 1 := Fin.ext hr
      obtain rfl : e = 1 := Fin.ext he
      obtain rfl : fc = 1 := Fin.ext hf
      iapply (end_last I c) $$ [HM How Hout]
      · isplitl [HM]; · iexact HM
        isplitl [How]; · iexact How
        iexact Hout
      iintro ⟨HΦ, How, Hout⟩
      isplitl [HΦ How]
      · isplitl [HΦ]; · iexact HΦ
        iexact How
      isplitl [H4]; · iexact H4
      isplitl [H5]; · iexact H5
      isplitl [H6]; · iexact H6
      isplitl [H7]; · iexact H7
      iexact Hout
    · iapply (end_idle I c rc e fc 1 (fun h' => h h'.2) (by simp only [tm, Fin.isValue, Fin.val_one]; omega)) $$ [HM How Hout]
      · isplitl [HM]; · iexact HM
        isplitl [How]; · iexact How
        iexact Hout
      iintro ⟨HΦ, How, Hout⟩
      isplitl [HΦ How]
      · isplitl [HΦ]; · iexact HΦ
        iexact How
      isplitl [H4]; · iexact H4
      isplitl [H5]; · iexact H5
      isplitl [H6]; · iexact H6
      isplitl [H7]; · iexact H7
      iexact Hout

end Cert.KernelIdeal.Moe
-- ==== Proof.KI.Data.lean ====
/-
  The proof data of the pipeline: what its windows' buffers hold around the body, and the body's obligation at every point.
-/
module

public import proofs.«01_k».proof.Proof.KI.Body

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

open Idealize.ShloMosaic.Pipeline (RDat)

variable (m : (ℓ : Loc nD τ sig) → Buf (Elt F) ℓ)

/-- The point at which block `(e, fc)` of the weights is staged. -/
def wpt (e fc : Fin 2) : Fin cfg0.N := ⟨2 * e.val + fc.val, by have := e.isLt; have := fc.isLt; show _ < grid0.N; rw [N_0]; omega⟩

/-- What the devices are given: each window's blocks. -/
def inp : Inp F where
  x c := iblk m c 0 t0_0
  a c := iblk m c 1 t0_0
  w1 c e fc := iblk m c 2 (wpt e fc)
  w2 c e fc := iblk m c 3 (wpt e fc)

/-- The body leaves the inputs' buffers as they are and advances what is known of the output block. -/
def rdat (c : Dev nD) : RDat τ (Elt F) Unit ℕ UU ℕ cfg0 c where
  A w := V m c (Pipeline.arrRef spec0 w)
  after w t := match w with
    | 0 => fun Y X => X = Y
    | 1 => fun Y X => X = Y
    | 2 => fun Y X => X = Y
    | 3 => fun Y X => X = Y
    | 4 => fun _ X => OFact (inp m) c (t.val + 1) X
    | ⟨_ + 5, h⟩ => absurd h (Nat.not_lt.2 (Nat.le_add_left _ _))
  Φ t := Φst (inp m) c t.val
  q _ := fullShare
  owed t := owed c (owΦ t.val)

/-! ## What the body finds -/

theorem lt16 (t : Fin cfg0.N) : t.val < 16 := Nat.lt_of_lt_of_eq t.isLt N_0

/-- The tokens' and the experts' buffers keep what the first point staged. -/
theorem finds_x (c : Dev nD) (n : ℕ) : ∀ (h : n < cfg0.N) X, (rdat m c).Finds 0 ⟨n, h⟩ X → X = (inp m).x c := by
  induction n with
  | zero =>
    intro h X hX
    obtain ⟨d, rfl⟩ := ((rdat m c).finds_of_fetch ((fetch0_0 _).mpr rfl) X).mp hX
    rfl
  | succ n ih =>
    intro h X hX
    have hl : n + 1 < 16 := lt16 ⟨n + 1, h⟩
    have hf : (cfg0.win 0).fetch ⟨n + 1, h⟩ = false := by
      rw [Bool.eq_false_iff]; intro h'; have := (fetch0_0 _).mp h'; simp only at this; omega
    rcases ((rdat m c).finds_of_pos hf (Nat.succ_ne_zero n) X).mp hX with h' | ⟨Y, hY, rfl⟩
    · exact absurd h' (by rw [Pipeline.Window.flush_in _ rfl]; decide)
    · exact ih _ _ hY

theorem finds_a (c : Dev nD) (n : ℕ) : ∀ (h : n < cfg0.N) X, (rdat m c).Finds 1 ⟨n, h⟩ X → X = (inp m).a c := by
  induction n with
  | zero =>
    intro h X hX
    obtain ⟨d, rfl⟩ := ((rdat m c).finds_of_fetch ((fetch0_1 _).mpr rfl) X).mp hX
    rfl
  | succ n ih =>
    intro h X hX
    have hl : n + 1 < 16 := lt16 ⟨n + 1, h⟩
    have hf : (cfg0.win 1).fetch ⟨n + 1, h⟩ = false := by
      rw [Bool.eq_false_iff]; intro h'; have := (fetch0_1 _).mp h'; simp only at this; omega
    rcases ((rdat m c).finds_of_pos hf (Nat.succ_ne_zero n) X).mp hX with h' | ⟨Y, hY, rfl⟩
    · exact absurd h' (by rw [Pipeline.Window.flush_in _ rfl]; decide)
    · exact ih _ _ hY

/-- The output block's buffer holds what the points before left. -/
theorem finds_out (c : Dev nD) (n : ℕ) : ∀ (h : n < cfg0.N) X, (rdat m c).Finds 4 ⟨n, h⟩ X → OFact (inp m) c n X := by
  cases n with
  | zero => exact fun _ X _ => ⟨fun rc h1 _ => absurd h1 (by omega), fun rc h1 _ => absurd h1 (by omega), fun h => absurd h (by decide)⟩
  | succ n =>
    intro h X hX
    have hl : n + 1 < 16 := lt16 ⟨n + 1, h⟩
    rcases ((rdat m c).finds_of_pos (Pipeline.Window.fetch_out _ rfl _) (Nat.succ_ne_zero n) X).mp hX with h' | ⟨Y, hY, hX⟩
    · have := (flush0_4 _).mp h'; simp only [Nat.add_sub_cancel] at this; omega
    · exact hX

theorem fetch_w1 : ∀ e fc : Fin 2, (cfg0.win 2).fetch (wpt e fc) = true :=
  (by decide : ∀ e fc : Fin 2, win0_2.fetch ⟨2 * e.val + fc.val, by revert e fc; decide⟩ = true)
theorem fetch_w2 : ∀ e fc : Fin 2, (cfg0.win 3).fetch (wpt e fc) = true :=
  (by decide : ∀ e fc : Fin 2, win0_3.fetch ⟨2 * e.val + fc.val, by revert e fc; decide⟩ = true)

/-- The weights' buffers hold their blocks at the points that stage them. -/
theorem finds_w1 (c : Dev nD) (e fc : Fin 2) (X) (h : (rdat m c).Finds 2 (wpt e fc) X) : X = (inp m).w1 c e fc := by
  obtain ⟨d, rfl⟩ := ((rdat m c).finds_of_fetch (fetch_w1 e fc) X).mp h
  rfl
theorem finds_w2 (c : Dev nD) (e fc : Fin 2) (X) (h : (rdat m c).Finds 3 (wpt e fc) X) : X = (inp m).w2 c e fc := by
  obtain ⟨d, rfl⟩ := ((rdat m c).finds_of_fetch (fetch_w2 e fc) X).mp h
  rfl

/-! ## The body's obligation -/

/-- What the device owes, as the pipeline holds it. -/
theorem owes_intro (c : Dev nD) (t : Fin (cfg0.N + 1)) : ow c (owΦ t.val) ⊢ ((rdat m c).owesAt () t : sProp 𝕄) := by
  unfold RDat.owesAt Pipeline.owesWithin RDat.bound ow
  iintro ⟨%W, HO⟩
  iexists W
  isplitr; · ipureintro; exact fun _ _ => Or.inl trivial
  iexact HO
theorem owes_elim (c : Dev nD) (t : Fin (cfg0.N + 1)) : ((rdat m c).owesAt () t : sProp 𝕄) ⊢ ow c (owΦ t.val) := by
  unfold RDat.owesAt Pipeline.owesWithin ow
  iintro ⟨%W, -, HO⟩
  iexists W
  iexact HO

theorem coords_pt (t : Fin grid0.N) : grid0.coords t = pt (grid0.coords t 0) (grid0.coords t 1) (grid0.coords t 2) (grid0.coords t 3) := by
  funext k
  match k with | 0 => rfl | 1 => rfl | 2 => rfl | 3 => rfl

theorem tm_coords (t : Fin grid0.N) : tm (grid0.coords t 0) (grid0.coords t 1) (grid0.coords t 2) (grid0.coords t 3) = t.val := by
  obtain ⟨h0, h1, h2, h3⟩ := coords_val t
  have := lt16 t
  simp only [tm, h0, h1, h2, h3]
  omega

/-- The body at point `t` of the grid. -/
theorem body_at (c : Dev nD) (t : Fin cfg0.N) (Y6 Y7 : S1x1024x1024.Idx → Elt F .f32) (h6 : (rdat m c).Finds 2 t Y6) (h7 : (rdat m c).Finds 3 t Y7) :
    iprop((Φst (inp m) c t.val ∗ ow c (owΦ t.val)) ∗ owns (c : Thread nD τ) (st0_0 t) fullShare ((inp m).x c) ∗ owns (c : Thread nD τ) (st0_1 t) fullShare ((inp m).a c)
        ∗ owns (c : Thread nD τ) (st0_2 t) fullShare Y6 ∗ owns (c : Thread nD τ) (st0_3 t) fullShare Y7 ∗ out (inp m) c t.val (st0_4 t))
      ⊢ run c (bodyAt0 t) fun _ =>
        iprop((Φst (inp m) c (t.val + 1) ∗ ow c (owΦ (t.val + 1))) ∗ owns (c : Thread nD τ) (st0_0 t) fullShare ((inp m).x c) ∗ owns (c : Thread nD τ) (st0_1 t) fullShare ((inp m).a c)
          ∗ owns (c : Thread nD τ) (st0_2 t) fullShare Y6 ∗ owns (c : Thread nD τ) (st0_3 t) fullShare Y7 ∗ out (inp m) c (t.val + 1) (st0_4 t)) := by
  have ht := tm_coords t
  have key : ∀ e fc : Fin 2, grid0.coords t 0 = (0 : Fin 2) → grid0.coords t 1 = (0 : Fin 2) → e = grid0.coords t 2 → fc = grid0.coords t 3 → t = wpt e fc := by
    intro e fc h0 h1 he hf
    refine Fin.ext ?_
    rw [← ht, h0, h1, ← he, ← hf]
    simp only [tm, wpt, Fin.isValue, Fin.val_zero]; omega
  have h := body_spec (inp m) c (grid0.coords t 1) (grid0.coords t 2) (grid0.coords t 3) (Y6 := Y6) (Y7 := Y7)
    (h4 := hstage0_0 ((cfg0.slots t 0).cast nbuf0_0)) (h5 := hstage0_1 ((cfg0.slots t 1).cast nbuf0_1)) (h6 := hstage0_2 ((cfg0.slots t 2).cast nbuf0_2))
    (h7 := hstage0_3 ((cfg0.slots t 3).cast nbuf0_3)) (h8 := hstage0_4 ((cfg0.slots t 4).cast nbuf0_4)) (grid0.coords t 0)
    (fun h0 h1 => finds_w1 m c _ _ _ (key _ _ h0 h1 rfl rfl ▸ h6)) (fun h0 h1 => finds_w2 m c _ _ _ (key _ _ h0 h1 rfl rfl ▸ h7))
  rw [ht, ← coords_pt t] at h
  exact h

theorem body_obl (c : Dev nD) : (rdat m c).BodyObligation defs₀ 𝒱₀ () Set.univ := by
  intro t Y hY
  obtain ⟨n, hn⟩ := t
  have h0 := finds_x m c n hn _ (hY 0)
  have h1 := finds_a m c n hn _ (hY 1)
  have h4 := finds_out m c n hn _ (hY 4)
  rw [bigSep_W0, bigSep_W0]
  show iprop(Φst (inp m) c n ∗ (rdat m c).owesAt () (Fin.castSucc ⟨n, hn⟩) ∗ owns (c : Thread nD τ) (st0_0 ⟨n, hn⟩) fullShare (Y 0) ∗ owns (c : Thread nD τ) (st0_1 ⟨n, hn⟩) fullShare (Y 1)
      ∗ owns (c : Thread nD τ) (st0_2 ⟨n, hn⟩) fullShare (Y 2) ∗ owns (c : Thread nD τ) (st0_3 ⟨n, hn⟩) fullShare (Y 3) ∗ owns (c : Thread nD τ) (st0_4 ⟨n, hn⟩) fullShare (Y 4))
    ⊢ run c (bodyAt0 ⟨n, hn⟩) fun _ => iprop(Φst (inp m) c (n + 1) ∗ (rdat m c).owesAt () (Fin.succ ⟨n, hn⟩)
      ∗ (∃ X, ⌜X = Y 0⌝ ∗ owns (c : Thread nD τ) (st0_0 ⟨n, hn⟩) fullShare X) ∗ (∃ X, ⌜X = Y 1⌝ ∗ owns (c : Thread nD τ) (st0_1 ⟨n, hn⟩) fullShare X)
      ∗ (∃ X, ⌜X = Y 2⌝ ∗ owns (c : Thread nD τ) (st0_2 ⟨n, hn⟩) fullShare X) ∗ (∃ X, ⌜X = Y 3⌝ ∗ owns (c : Thread nD τ) (st0_3 ⟨n, hn⟩) fullShare X)
      ∗ (∃ X, ⌜OFact (inp m) c (n + 1) X⌝ ∗ owns (c : Thread nD τ) (st0_4 ⟨n, hn⟩) fullShare X))
  rw [h0, h1]
  refine BIBase.Entails.trans ?_ ((body_at m c ⟨n, hn⟩ (Y 2) (Y 3) (hY 2) (hY 3)).trans (wp_mono _ _ _ fun _ => ?_))
  · unfold out
    iintro ⟨HΦ, HO, H0, H1, H2, H3, H4⟩
    isplitl [HΦ HO]
    · isplitl [HΦ]; · iexact HΦ
      iapply (owes_elim m c (Fin.castSucc ⟨n, hn⟩)) $$ HO
    isplitl [H0]; · iexact H0
    isplitl [H1]; · iexact H1
    isplitl [H2]; · iexact H2
    isplitl [H3]; · iexact H3
    iexists _
    isplitl [H4]; · iexact H4
    ipureintro; exact h4
  · have ho : ow c (owΦ (n + 1)) ⊢ ((rdat m c).owesAt () (Fin.succ ⟨n, hn⟩) : sProp 𝕄) := owes_intro m c (Fin.succ ⟨n, hn⟩)
    unfold out
    iintro ⟨⟨HΦ, HO⟩, H0, H1, H2, H3, ⟨%X, H4, %h⟩⟩
    isplitl [HΦ]; · iexact HΦ
    isplitl [HO]; · iapply ho $$ HO
    isplitl [H0]
    · iexists _
      isplitr; · ipureintro; exact rfl
      iexact H0
    isplitl [H1]
    · iexists _
      isplitr; · ipureintro; exact rfl
      iexact H1
    isplitl [H2]
    · iexists _
      isplitr; · ipureintro; exact rfl
      iexact H2
    isplitl [H3]
    · iexists _
      isplitr; · ipureintro; exact rfl
      iexact H3
    iexists X
    isplitr; · ipureintro; exact h
    iexact H4

end Cert.KernelIdeal.Moe
-- ==== Proof.KI.Run.lean ====
/-
  The run: the reshape on the host and the kernel, launched on the four devices.
-/
module

public import Idealize.ShloMosaic.Lib.Pipeline.ArrRel
public import proofs.«01_k».proof.Proof.KI.Enter
public import proofs.«01_k».proof.Proof.KI.Data

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (RDat)

variable (m : (ℓ : Loc nD τ sig) → Buf (Elt F) ℓ) (ρ : Dev nD → PrngReg)

abbrev adm : (p : Fin 1) → (pcfgs (F := F) p).Adm := fun p => (cfgs p).toPCfg_adm

def rdats : (p : Fin 1) → (c : Dev nD) → RDat τ (Elt F) Unit ℕ UU ℕ (Pipeline.pin (pcfgs (F := F)) adm p) c
  | 0 => rdat m

/-- The memory at launch, by device. -/
abbrev V₀ (c : Dev nD) : Valuation τ sig (Elt F) := fun b => m (c, b)

omit [FloatOps F] in
theorem none_held (Φ : Fin 0 → sProp 𝕄) : bigSep Finset.univ Φ = (BI.emp : sProp 𝕄) := bigSep_univ_eq_bigSepL [] (by decide) (by decide) Φ

omit [FloatOps F] in
theorem prefHeld_eq (c : Dev nD) (q) (pf) :
    (Pipeline.prefHeld (Ix := Unit) (Name := ℕ) (U := UU) (Lvl := ℕ) (Val := Elt F) (pcfgs (F := F) 0).pre c q pf : sProp 𝕄) = BI.emp :=
  none_held _

/-! ## The waits of the staging -/

/-- The staging's cells lie below everything else. -/
theorem lv_stage : ∀ (w : Fin cfg0.W) (s : Fin (cfg0.win w).nbuf), ((cfg0.win w).sem s).val < 15 :=
  (by decide : ∀ (w : Fin 5) (s : Fin (spec0 w).nbuf), ((spec0 w).sem s).val < 15)

theorem lv_pay (c : Dev nD) (k : ℕ) : 1 ≤ lv (payCell c k) () := by
  unfold payCell
  split
  all_goals decide +revert

theorem waits (c : Dev nD) : (levAts L lv : sProp 𝕄) ⊢ Pipeline.RDat.cellsWaits (Pipeline.pin (pcfgs (F := F)) adm) (rdats m) () 0 c :=
  RDat.cellsWaits_intro _ (rdats m) () 0 c fun w s t =>
    mayWait c _ (owΦ t.val) 1 (by
      show (if ((cfg0.win w).sem s).val < 15 then 0 else if ((cfg0.win w).sem s).val < 17 then 2 else 3) < 1
      rw [if_pos (lv_stage w s)]; exact Nat.one_pos) fun l _ => lv_pay c l

/-- The exchanges' semaphores are none of the staging's. -/
theorem own_sems : Pipeline.OwnSemFacts spec0 osem := by decide

/-! ## The two segments -/

/-- What a device has beside its arrays. -/
def rest (c : Dev nD) : sProp 𝕄 :=
  iprop(levAts L lv ∗ ghost (inp m) c ∗ (cred (tallyAt (barCell c) () 3) ∗ bigSep Finset.univ fun j => cred (tallyAt (recvCell c j) () (amt j))) ∗ ow c 11)

/-- What the run leaves a device. -/
def left (c : Dev nD) : sProp 𝕄 :=
  iprop((rdat m c).arraysAt cfg0.N ∗ (((c : Thread nD τ).loc main_arg1) ↦{fullShare} V m c main_arg1) ∗ semVal (barCell c) 0)

local notation "ℍ" => Pipeline.HostSeg (Name := ℕ) (U := UU) (pcfgs (F := F)) defs₀ 𝒱₀ L lv
local notation "ℝ𝕊" => Pipeline.RDat.RegionSeg (pcfgs (F := F)) adm (rdats m) () defs₀ 𝒱₀ L lv

/-- The host's reshape of the experts. -/
def seg0 : ℍ := Pipeline.HostSeg.ofOps _ _ _ _ _ (Pipeline.ucRefs τ sig) hostOps0
  (fun op h => Pipeline.sub_ucRefs op ((List.forall_iff_forall_mem.mp hostOps0_sub) op h))
  (fun op h => (List.forall_iff_forall_mem.mp hostOps0_fresh) op h) (V₀ m) (rest m)

/-- The kernel. -/
def reg0 : ℝ𝕊 0 where
  win := winFacts0.to₀
  block_pos := block_pos0
  stage_whole := stage_whole0
  K := Fin 2 × Fin 8
  osem := osem
  ho := own_sems
  hbody := body_obl m
  hwaits := waits m
  pre c := iprop(StableHlo.held (c : Thread nD τ) (Pipeline.ucRefs τ sig) (StableHlo.after hostOps0 (V₀ m c)) ∗ rest m c)
  post c := iprop(left m c ∗ ∃ W, owes (c : Thread nD τ) (0 : CellTallies nD τ sig Unit) W)
  X c := enter (inp m) c
  Y c := semVal (barCell c) 0
  Z c := ((c : Thread nD τ).loc main_arg1) ↦{fullShare} V m c main_arg1
  hentry c := by
    have ha : (StableHlo.held (c : Thread nD τ) (Pipeline.ucRefs τ sig) (StableHlo.after hostOps0 (V₀ m c)) : sProp 𝕄)
        ⊢ iprop((rdats m 0 c).arrays (rdats m 0 c).A ∗ (((c : Thread nD τ).loc main_arg1) ↦{fullShare} V m c main_arg1)) := by
      rw [← Pipeline.unscopedBufs_held]
      have h := RDat.arrays_of_unscopedBufs (pcfgs (F := F)) adm (rdats m) (p := 0) winFacts0 arr_whole0 c ((rdats m 0 c).share_full fun _ => rfl) (V m c) (fun _ => rfl)
      rw [show (Pipeline.unscopedRest (Pipeline.pin (pcfgs (F := F)) adm 0).spec c (V m c) : sProp 𝕄) = _ from unscopedRest0_eq c (V m c)] at h
      exact h
    have ho : (ow c 11 : sProp 𝕄) ⊢ (rdats m 0 c).owesAt () 0 := owes_intro m c 0
    rw [prefHeld_eq]
    unfold rest ghost
    iintro ⟨⟨Hh, Hl, ⟨⟨Hbi, Hba⟩, Hsig, Hd⟩, ⟨Hcb, Hcr⟩, Ho⟩, Hs, -⟩
    imod (wake_all (inp m) c) $$ [Hd Hcr Hs] with Haw
    · isplitl [Hd]; · iexact Hd
      isplitl [Hcr] <;> iassumption
    ihave HA := ha $$ Hh
    icases HA with ⟨HA, HZ⟩
    imodintro
    isplitl [HA]; · iexact HA
    isplitr; · iempintro
    isplitl [Ho]; · iapply ho $$ Ho
    isplitr [HZ]
    · unfold enter barAt
      isplitl [Hl]; · iexact Hl
      isplitl [Hbi Hba Hcb]
      · isplitl [Hbi]; · iexact Hbi
        isplitl [Hba] <;> iassumption
      isplitl [Hsig] <;> iassumption
    iexact HZ
  hin c := by
    rw [show (rdats m 0 c).Φ 0 = Start (inp m) c from rfl, prefHeld_eq]
    iintro ⟨HX, -, HS⟩
    iapply (start_intro (inp m) c)
    isplitl [HX] <;> iassumption
  hout c := by
    rw [show (rdats m 0 c).Φ (Fin.last _) = End (inp m) c from by
      show Φst (inp m) c cfg0.N = _
      rw [show cfg0.N = 16 from N_0]; rfl]
    exact end_elim (inp m) c
  hexit c := by
    have ho : ((rdats m 0 c).owesAt () (Fin.last _) : sProp 𝕄) ⊢ iprop(∃ W, owes (c : Thread nD τ) (0 : CellTallies nD τ sig Unit) W) := by
      have h := owes_elim m c (Fin.last _)
      rw [show owΦ (Fin.last cfg0.N).val = 0 from by rw [Fin.val_last, show cfg0.N = 16 from N_0]; rfl] at h
      exact h
    iintro ⟨HA, HO, HY, HZ⟩
    imodintro
    unfold left
    isplitr [HO]
    · isplitl [HA]; · iexact HA
      isplitl [HZ] <;> iassumption
    iapply ho $$ HO

def segs : List (Pipeline.RDat.Seg (pcfgs (F := F)) adm (rdats m) () defs₀ 𝒱₀ L lv) := [.host (seg0 m), .region (reg0 m)]

theorem main_eq (c : Dev nD) : main (F := F) c = Pipeline.RDat.Seg.run (segs m) := by
  simp only [segs, Pipeline.RDat.Seg.run]
  rw [show (seg0 m).prog = StableHlo.seq hostOps0 from rfl]
  rfl

/-! ## The launch -/

/-- The ghost state at launch: the staging's and the protocol's. -/
def u₀ : UU :=
  (initOf (Pipeline.cells (Pipeline.pin (pcfgs (F := F)) adm) cellOf_inj) (Pipeline.launchToks (Pipeline.pin (pcfgs (F := F)) adm) cellOf_inj), elem)

/-- The protocol's is held for all by the first device. -/
def G (c : Dev nD) : sProp 𝕄 := if c = 0 then BI.own (ER elem) else BI.emp

omit [FloatOps F] in
theorem G_all : (bigSep Finset.univ G : sProp 𝕄) ⊣⊢ BI.own (ER elem) := by
  have h : (bigSep (Finset.univ.erase 0) G : sProp 𝕄) = BI.emp := by
    have e : (bigSep (Finset.univ.erase 0) G : sProp 𝕄) = bigSep (Finset.univ.erase (0 : Dev nD)) fun _ => BI.emp :=
      bigSep_congr fun c hc => if_neg (Finset.mem_erase.mp hc).1
    rw [e]
    exact bigSep_emp_const _
  rw [bigSep_univ_split (0 : Dev nD), h, show (G 0 : sProp 𝕄) = BI.own (ER elem) from if_pos rfl]
  exact sep_emp

/-- What a device starts with. -/
abbrev T₀ (c : Dev nD) : sProp 𝕄 := iprop(StableHlo.held (c : Thread nD τ) (Pipeline.ucRefs τ sig) (V₀ m c) ∗ rest m c)

theorem init :
    iprop((bigSep Finset.univ fun c : Dev nD => iprop(unscopedBufs c (fun b => m ((c : Thread nD τ).loc b)) ∗ unscopedSems0 c
          ∗ owes (c : Thread nD τ) (owed c 11) ∅ ∗ Pipeline.launchCred (fun d => owed d 11) c ∗ prngReg c (ρ c) ∗ G c)) ∗ levAts L lv)
      ⊢ (|={Set.univ}=> bigSep Finset.univ (T₀ m) : sProp 𝕄) := by
  have hT (c : Dev nD) (_ : c ∈ Finset.univ) : iprop(levAts L lv ∗ (unscopedBufs c (fun b => m ((c : Thread nD τ).loc b))
        ∗ owes (c : Thread nD τ) (owed c 11) ∅ ∗ Pipeline.launchCred (fun d => owed d 11) c ∗ prngReg c (ρ c) ∗ ghost (inp m) c)) ⊢ T₀ m c := by
    have hc := creds (F := F) c
    rw [show unscopedBufs c (fun b => m ((c : Thread nD τ).loc b)) = StableHlo.held (c : Thread nD τ) (Pipeline.ucRefs τ sig) (V₀ m c) from Pipeline.unscopedBufs_held c (V₀ m c)]
    show _ ⊢ iprop(StableHlo.held (c : Thread nD τ) (Pipeline.ucRefs τ sig) (V₀ m c) ∗ rest m c)
    unfold rest ow
    iintro ⟨Hl, Hh, HO, Hc, -, Hg⟩
    ihave Hc' := hc $$ Hc
    isplitl [Hh]; · iexact Hh
    isplitl [Hl]; · iexact Hl
    isplitl [Hg]; · iexact Hg
    isplitl [Hc']; · iexact Hc'
    iexists _
    iexact HO
  have hs : (bigSep Finset.univ (unscopedSems0 (τ := τ)) : sProp 𝕄) ⊢ bigSep Finset.univ fun c => semVal (barCell c) 0 :=
    Entails.of_eq (bigSep_congr fun c _ => unscopedSems0_eq c)
  have hA := bigSep_with (R := levAts L lv) hT
  simp only [bigSep_sep'] at hA ⊢
  iintro ⟨⟨Hb, Hs, HO, Hc, Hp, HG⟩, #Hl⟩
  ihave HG' := (G_all (F := F)).1 $$ HG
  ihave Hs := hs $$ Hs
  imod (fund (inp m)) $$ [Hs HG'] with Hg
  · isplitl [Hs] <;> iassumption
  imodintro
  iapply hA
  isplitr; · iexact Hl
  isplitl [Hb]; · iexact Hb
  isplitl [HO]; · iexact HO
  isplitl [Hc]; · iexact Hc
  isplitl [Hp] <;> iassumption

/-! ## What the run leaves -/

/-- What a final memory holds of a device: what the arrays may hold after the last point, the experts, the barrier's counter at zero. -/
def Fin_ (c : Dev nD) (s : MemSt nD τ sig (Elt F)) : Prop :=
  (∀ w, (rdat m c).ArrAt w cfg0.N (s.mem ((spec0 w).arr.view.loc (c : Thread nD τ)))) ∧ s.mem ((c : Thread nD τ).loc main_arg1) = V m c main_arg1 ∧ s.sem (barCell c) = 0

theorem fin_read (c : Dev nD) (s' : Phys nD τ sig (Elt F)) : iprop(left m c ∗ SI s') ⊢ (|={Set.univ}=> iprop(⌜Fin_ m c s'.mem⌝ ∗ SI s') : sProp 𝕄) := by
  have hr : iprop((rdat m c).arraysAt cfg0.N ∗ SI s')
      ⊢ (iprop(⌜∀ w, (rdat m c).ArrAt w cfg0.N (s'.mem.mem ((spec0 w).arr.view.loc (c : Thread nD τ)))⌝ ∗ SI s') : sProp 𝕄) :=
    RDat.arrays_read (pcfgs (F := F)) adm (rdats m) (p := 0) arr_whole0 c cfg0.N s'
  unfold left
  iintro ⟨⟨HA, H1, Hb⟩, HSI⟩
  icombine HSI H1 gives %h1
  icombine HSI Hb gives %hb
  ihave H := hr $$ [HA HSI]
  · isplitl [HA] <;> iassumption
  icases H with ⟨%hA, HSI⟩
  imodintro
  isplitr
  · ipureintro
    exact ⟨hA, Buf.eq_of_forall_mem_univ h1, hb⟩
  iexact HSI

/-- The last point writes the whole output. -/
theorem whole : (cfg0.win 4).WholeAt t0_15 := by decide +kernel

/-- An input array is as it was. -/
theorem in_of {c : Dev nD} {w : Fin cfg0.W} (hw : (cfg0.win w).isOut = false) {G : Buf (Elt F) ((spec0 w).arr.view.loc (c : Thread nD τ))}
    (h : (rdat m c).ArrAt w cfg0.N G) : G = V m c (Pipeline.arrRef spec0 w) := by
  rw [(rdat m c).ArrAt_in w hw] at h
  exact h

/-- The block the run leaves. -/
theorem out_of {c : Dev nD} {G : Buf (Elt F) ((spec0 4).arr.view.loc (c : Thread nD τ))} (h : (rdat m c).ArrAt 4 cfg0.N G) :
    OFact (inp m) c 16 (G : S1024x1024.Idx → Elt F .f32) := by
  obtain ⟨X, ⟨Y, -, hX⟩, hG⟩ := RDat.ArrAt.emb_eq_of_wholeAt h (t₀ := t0_15) whole
  have e : (G : S1024x1024.Idx → Elt F .f32) = X := funext fun j => hG j
  rw [e]
  exact hX

set_option backward.isDefEq.respectTransparency.types false in
/-- Every execution terminates with the arguments as they were, the counters at zero, and each device's block of the output as the last point leaves it. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
        ∧ OFact (inp m) c 16 (r.2.mem ((c : Thread nD τ).loc main_v2))) ∧ r.2.sem = fun _ => 0) :=
  Pipeline.RDat.θ_run_regions_kit_sems (pcfgs (F := F)) adm (rdats m) () cellOf_inj EP defs₀ 𝒱₀ L lv m ρ main (segs m)
    (fun c Q => by rw [main_eq m c])
    (by simp only [segs, Pipeline.RDat.Seg.pipes_host, Pipeline.RDat.Seg.pipes_region, Pipeline.RDat.Seg.pipes_nil]; decide)
    (O₀ := fun d => owed d 11) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      iapply (G_all (F := F)).2 $$ HX)
    (T₀ := T₀ m) (Tₙ := left m)
    (hch := ⟨fun c => .rfl, fun c => .rfl, fun c => .rfl⟩)
    (hinit := init m ρ)
    (QY := Fin_ m)
    (hfin := fin_read m)
    (hQ := fun s h hs => ⟨fun c => ⟨⟨
        (in_of m (w := 0) rfl ((h c).1 0)).trans (V_main_arg0 m c),
        (h c).2.1.trans (V_main_arg1 m c),
        (in_of m (w := 2) rfl ((h c).1 2)).trans (V_main_arg2 m c),
        (in_of m (w := 3) rfl ((h c).1 3)).trans (V_main_arg3 m c)⟩, out_of m ((h c).1 4)⟩,
      sem_eq_zero hs fun c sm hsm => by
        obtain rfl : sm = .reg barS := by revert sm; decide
        exact (h c).2.2⟩)

end Cert.KernelIdeal.Moe
-- ==== Proof.Spec.lean ====
/-
  The mathematics: a mixture of experts, each a product, a positive part and a product, of which every token goes through its own.
-/
module

public import Idealize.ShloMosaic.Lib.Pointwise

@[expose] public section

noncomputable section

namespace Cert.Spec

open Idealize.ShloMosaic

variable (X : Vec Ideal ⟨2, ![2048, 1024]⟩ .f32) (A : Vec Ideal ⟨1, ![2048]⟩ .i32) (W1 : Vec Ideal ⟨3, ![4, 1024, 2048]⟩ .f32) (W2 : Vec Ideal ⟨3, ![4, 2048, 1024]⟩ .f32)

/-- A token's hidden feature at an expert. -/
def feat (e : Fin 4) (r : Fin 2048) (h : Fin 2048) : EReal := max (∑ k : Fin 1024, X (ix2 r k) * W1 (ix3 e k h)) 0

/-- A token's output at an expert. -/
def expert (e : Fin 4) (r : Fin 2048) (j : Fin 1024) : EReal := ∑ h : Fin 2048, feat X W1 e r h * W2 (ix3 e h j)

/-- The same, of a token that is the expert's own, and else nothing. -/
def part (e : Fin 4) (r : Fin 2048) (j : Fin 1024) : EReal := if A (ix1 r) = BitVec.ofNat 32 e.val then expert X W1 W2 e r j else 0

/-- A token's output: the sum of the experts' parts. -/
def total (r : Fin 2048) (j : Fin 1024) : EReal :=
  part X A W1 W2 0 r j + part X A W1 W2 1 r j + part X A W1 W2 2 r j + part X A W1 W2 3 r j

/-- A selection on the equality of two words. -/
theorem select_eq {α : Type} (a b : BitVec 32) (x y : α) : Scalar.select (IntOp.cmpi .eq a b) x y = if a = b then x else y := by
  by_cases h : a = b
  · simp [Scalar.select, IntOp.cmpi, h]
  · have hb : (a == b) = false := by simp [h]
    simp [Scalar.select, IntOp.cmpi, h, hb]

/-- The experts' parts added are the part of the one expert the token has, if it has one. -/
theorem total_eq (r : Fin 2048) (j : Fin 1024) : total X A W1 W2 r j =
    if A (ix1 r) = 3#32 then expert X W1 W2 3 r j else if A (ix1 r) = 2#32 then expert X W1 W2 2 r j
      else if A (ix1 r) = 1#32 then expert X W1 W2 1 r j else if A (ix1 r) = 0#32 then expert X W1 W2 0 r j else 0 := by
  have e0 : BitVec.ofNat 32 (0 : Fin 4).val = 0#32 := rfl
  have e1 : BitVec.ofNat 32 (1 : Fin 4).val = 1#32 := rfl
  have e2 : BitVec.ofNat 32 (2 : Fin 4).val = 2#32 := rfl
  have e3 : BitVec.ofNat 32 (3 : Fin 4).val = 3#32 := rfl
  unfold total part
  rw [e0, e1, e2, e3]
  generalize A (ix1 r) = a
  by_cases h3 : a = 3#32
  · subst h3; simp
  by_cases h2 : a = 2#32
  · subst h2; simp
  by_cases h1 : a = 1#32
  · subst h1; simp
  by_cases h0 : a = 0#32
  · subst h0; simp
  simp [h0, h1, h2, h3]

end Cert.Spec

end
-- ==== Proof.KVal.lean ====
/-
  What the kernel computes over the ideal numbers, when the devices hold their blocks of whole arrays: a device's output rows of a
  group of tokens are the parts of its two experts added, and each row of its output is the sum of all the experts' parts.
-/
module

public import proofs.«01_k».proof.Proof.Spec
public import proofs.«01_k».proof.Proof.KI.Vals

@[expose] public section

noncomputable section

namespace Cert.KernelIdeal.Moe

open Idealize.ShloMosaic Idealize.ShloMosaic.TcCoe Cert.Spec
open Cert.KernelIdeal Cert.KernelIdeal.Gen

/-! ## The operations, at an index -/

theorem pay1_apply (w : FVec Ideal S1x1024x1024 .f32) (i : S1x1024x1024.Idx) : k0_pay1 (F := Ideal) w i = w i := by
  pointwise [k0_pay1]

theorem pay2_apply (w : FVec Ideal S1x1024x1024 .f32) (i : S1x1024x1024.Idx) : k0_pay2 (F := Ideal) w i = w i := by
  pointwise [k0_pay2]

theorem pay4_apply (w : FVec Ideal S1x1024x1024 .bf16) (t : FVec Ideal S256x1024 .bf16) (i : S256x1024.Idx) :
    k0_pay4 (F := Ideal) w t i = max (∑ k : Fin 1024, t (ix2 (i 0) k) * w (ix3 0 k (i 1))) 0 := by
  pointwise [k0_pay4, k0_pay3]

theorem pay8_apply (w : FVec Ideal S1x1024x1024 .bf16) (t : FVec Ideal S256x1024 .bf16) (i : S256x1024.Idx) :
    k0_pay8 (F := Ideal) w t i = max (∑ k : Fin 1024, t (ix2 (i 0) k) * w (ix3 0 k (i 1))) 0 := by
  pointwise [k0_pay8, k0_pay3]

theorem pay5_apply (v : BitVec 32) (a : Vec Ideal S256x1 .i32) (h : FVec Ideal S256x2048 .bf16) (w : FVec Ideal S1x2048x1024 .bf16) (i : S256x1024.Idx) :
    k0_pay5 (F := Ideal) v a h w i = if a (ix2 (i 0) 0) = v then ∑ k : Fin 2048, h (ix2 (i 0) k) * w (ix3 0 k (i 1)) else 0 := by
  pointwise [k0_pay5]
  exact select_eq _ _ _ _

theorem pay9_apply (v : BitVec 32) (a : Vec Ideal S256x1 .i32) (h : FVec Ideal S256x2048 .bf16) (w : FVec Ideal S1x2048x1024 .bf16) (i : S256x1024.Idx) :
    k0_pay9 (F := Ideal) v a h w i = if a (ix2 (i 0) 0) = v then ∑ k : Fin 2048, h (ix2 (i 0) k) * w (ix3 0 k (i 1)) else 0 := by
  pointwise [k0_pay9]
  exact select_eq _ _ _ _

theorem pay6_apply (v : BitVec 32) (a : Vec Ideal S256x1 .i32) (h : FVec Ideal S256x2048 .bf16) (w : FVec Ideal S1x2048x1024 .bf16)
    (o : FVec Ideal S256x1024 .f32) (i : S256x1024.Idx) : k0_pay6 (F := Ideal) v a h w o i = o i + k0_pay5 (F := Ideal) v a h w i := by
  pointwise [k0_pay6]

theorem pay10_apply (v : BitVec 32) (a : Vec Ideal S256x1 .i32) (h : FVec Ideal S256x2048 .bf16) (w : FVec Ideal S1x2048x1024 .bf16) (i : S256x1024.Idx) :
    k0_pay10 (F := Ideal) v a h w i = k0_pay9 (F := Ideal) v a h w i := by
  pointwise [k0_pay10]

theorem pay11_apply (v : BitVec 32) (a : Vec Ideal S256x1 .i32) (h : FVec Ideal S256x2048 .bf16) (w : FVec Ideal S1x2048x1024 .bf16)
    (o : FVec Ideal S256x1024 .f32) (i : S256x1024.Idx) : k0_pay11 (F := Ideal) v a h w o i = o i + k0_pay9 (F := Ideal) v a h w i := by
  pointwise [k0_pay11]

theorem pay7_apply (o : FVec Ideal S256x1024 .f32) (i : S256x1024.Idx) : k0_pay7 (F := Ideal) o i = o i := by
  pointwise [k0_pay7]

theorem pay12_apply (o : FVec Ideal S256x1024 .f32) (i : S256x1024.Idx) : k0_pay12 (F := Ideal) o i = o i := by
  pointwise [k0_pay12]

theorem pay13_apply (o : FVec Ideal S512x1024 .f32) (p : FVec Ideal S512x1024 .bf16) (i : S512x1024.Idx) : k0_pay13 (F := Ideal) o p i = o i + p i := by
  pointwise [k0_pay13]

theorem pay14_apply (o p : FVec Ideal S512x1024 .bf16) (i : S512x1024.Idx) : k0_pay14 (F := Ideal) o p i = o i + p i := by
  pointwise [k0_pay14]

theorem pay15_apply (x : FVec Ideal S512x1024 .f32) (i : S512x1024.Idx) : k0_pay15 (F := Ideal) x i = x i := by
  pointwise [k0_pay15]

theorem pay16_apply (a : Vec Ideal S512x1 .i32) (i : S512x1.Idx) : k0_pay16 (F := Ideal) a i = a i := by
  pointwise [k0_pay16]

/-! ## The whole arrays the devices hold blocks of -/

/-- Expert `e` of the two device `c` holds, among all four. -/
def ex (c : Dev nD) (e : Fin 2) : Fin 4 := ⟨2 * yy c + e.val, by have := yy_lt c; have := e.isLt; omega⟩
/-- Hidden feature `h` of half `fc`. -/
def ft (fc : Fin 2) (h : Fin 1024) : Fin 2048 := ⟨1024 * fc.val + h.val, by have := fc.isLt; have := h.isLt; omega⟩
/-- Token `r` of device `c`, among all. -/
def wtok (c : Dev nD) (r : Fin 1024) : Fin 2048 := ⟨1024 * yy c + r.val, by have := yy_lt c; have := r.isLt; omega⟩
/-- Token `r` of the half of its tokens device `c` works on. -/
def htok (c : Dev nD) (r : Fin 512) : Fin 2048 := ⟨1024 * yy c + 512 * xx c + r.val, by have := yy_lt c; have := xx_lt c; have := r.isLt; omega⟩
/-- Token `r` of group `rc` of that half. -/
def qtok (c : Dev nD) (rc : Fin 2) (r : Fin 256) : Fin 2048 :=
  ⟨1024 * yy c + 512 * xx c + 256 * rc.val + r.val, by have := yy_lt c; have := xx_lt c; have := rc.isLt; have := r.isLt; omega⟩

variable {X : FVec Ideal ⟨2, ![2048, 1024]⟩ .f32} {A : Vec Ideal ⟨1, ![2048]⟩ .i32} {W1 : FVec Ideal ⟨3, ![4, 1024, 2048]⟩ .f32}
  {W2 : FVec Ideal ⟨3, ![4, 2048, 1024]⟩ .f32} {I : Inp Ideal}

/-- The devices hold their blocks of whole arrays. -/
structure Holds (I : Inp Ideal) (X : FVec Ideal ⟨2, ![2048, 1024]⟩ .f32) (A : Vec Ideal ⟨1, ![2048]⟩ .i32)
    (W1 : FVec Ideal ⟨3, ![4, 1024, 2048]⟩ .f32) (W2 : FVec Ideal ⟨3, ![4, 2048, 1024]⟩ .f32) : Prop where
  x : ∀ c (i : S1024x1024.Idx), I.x c i = X (ix2 (wtok c (i 0)) (i 1))
  a : ∀ c (i : S1024x1.Idx), I.a c i = A (ix1 (wtok c (i 0)))
  w1 : ∀ c e fc (i : S1x1024x1024.Idx), I.w1 c e fc i = W1 (ix3 (ex c e) (i 1) (ft fc (i 2)))
  w2 : ∀ c e fc (i : S1x1024x1024.Idx), I.w2 c e fc i = W2 (ix3 (ex c e) (ft fc (i 1)) (i 2))

variable (H : Holds I X A W1 W2) (c : Dev nD) (rc e : Fin 2)

include H

/-! ## What one group of tokens reads -/

theorem xrow_apply (i : S512x1024.Idx) : xrow I c i = X (ix2 (htok c (i 0)) (i 1)) := by
  unfold xrow
  rw [pay15_apply]
  exact (H.x c _).trans (congrArg X (congrArg₂ ix2
    (Fin.ext (by show 1024 * yy c + (512 * xx c + 1 * (i 0).val) = 1024 * yy c + 512 * xx c + (i 0).val; omega))
    (Fin.ext (by show 0 + 1 * (i 1).val = (i 1).val; omega))))

theorem arow_apply (i : S512x1.Idx) : arow I c i = A (ix1 (htok c (i 0))) := by
  unfold arow
  rw [pay16_apply]
  exact (H.a c _).trans (congrArg A (congrArg ix1
    (Fin.ext (by show 1024 * yy c + (512 * xx c + 1 * (i 0).val) = 1024 * yy c + 512 * xx c + (i 0).val; omega))))

theorem rows_apply (i : S256x1024.Idx) : tile (rowR rc) (xrow I c) i = X (ix2 (qtok c rc (i 0)) (i 1)) :=
  (xrow_apply H c _).trans (congrArg X (congrArg₂ ix2
    (Fin.ext (by show 1024 * yy c + 512 * xx c + (256 * rc.val + 1 * (i 0).val) = 1024 * yy c + 512 * xx c + 256 * rc.val + (i 0).val; omega))
    (Fin.ext (by show 0 + 1 * (i 1).val = (i 1).val; omega))))

theorem col_apply (i : S256x1.Idx) : tile (colR rc) (arow I c) i = A (ix1 (qtok c rc (i 0))) :=
  (arow_apply H c _).trans (congrArg A (congrArg ix1
    (Fin.ext (by show 1024 * yy c + 512 * xx c + (256 * rc.val + 1 * (i 0).val) = 1024 * yy c + 512 * xx c + 256 * rc.val + (i 0).val; omega))))

theorem quart_apply (i : S256x1.Idx) : tile (quartC c rc) (I.a c) i = A (ix1 (qtok c rc (i 0))) :=
  (H.a c _).trans (congrArg A (congrArg ix1
    (Fin.ext (by show 1024 * yy c + (512 * xx c + 256 * rc.val + 1 * (i 0).val) = 1024 * yy c + 512 * xx c + 256 * rc.val + (i 0).val; omega))))

/-- An expert's second matrix, joined of its halves. -/
theorem w2full_eq : w2full (w2b I c e 0) (w2b I c e 1) = fun i => W2 (ix3 (ex c e) (i 1) (i 2)) := by
  have h (fc : Fin 2) : tile (w2H fc) (fun i => W2 (ix3 (ex c e) (i 1) (i 2))) = w2b I c e fc := by
    funext i
    unfold w2b
    rw [pay2_apply]
    refine Eq.trans (congrArg W2 ?_) (H.w2 c e fc i).symm
    exact congrArg₂ (ix3 (ex c e)) (Fin.ext (by show 1024 * fc.val + 1 * (i 1).val = 1024 * fc.val + (i 1).val; omega))
      (Fin.ext (by show 0 + 1 * (i 2).val = (i 2).val; omega))
  exact (eq_join w2_cov (h 0) (h 1)).symm

/-! ## The hidden features -/

theorem feat_of (fc : Fin 2) (d : Dev nD) (i : S256x1024.Idx) :
    max (∑ k : Fin 1024, tile (rowR rc) (xrow I d) (ix2 (i 0) k) * w1b I c e fc (ix3 0 k (i 1))) 0 = feat X W1 (ex c e) (qtok d rc (i 0)) (ft fc (i 1)) := by
  unfold feat
  refine congrArg (max · 0) (Finset.sum_congr rfl fun k _ => congrArg₂ (· * ·) (rows_apply H d rc _) ?_)
  unfold w1b
  rw [pay1_apply]
  exact H.w1 c e fc _

theorem hid_of (d : Dev nD) (f : Fin 2 → S256x1024.Idx → EReal)
    (hf : ∀ fc i, f fc i = max (∑ k : Fin 1024, tile (rowR rc) (xrow I d) (ix2 (i 0) k) * w1b I c e fc (ix3 0 k (i 1))) 0) :
    hid (f 0) (f 1) = fun i => feat X W1 (ex c e) (qtok d rc (i 0)) (i 1) := by
  have h (fc : Fin 2) : tile (hidR fc) (fun i => feat X W1 (ex c e) (qtok d rc (i 0)) (i 1)) = f fc := by
    funext i
    refine Eq.trans ?_ ((hf fc i).trans (feat_of H c rc e fc d i)).symm
    exact congrArg₂ (feat X W1 (ex c e)) (congrArg (qtok d rc) (Fin.ext (by show 0 + 1 * (i 0).val = (i 0).val; omega)))
      (Fin.ext (by show 1024 * fc.val + 1 * (i 1).val = 1024 * fc.val + (i 1).val; omega))
  exact (eq_join hid_cov (h 0) (h 1)).symm

theorem ownHid : hid (ownH I c rc e 0) (ownH I c rc e 1) = fun i => feat X W1 (ex c e) (qtok c rc (i 0)) (i 1) :=
  hid_of H c rc e c (ownH I c rc e) fun _ _ => pay4_apply _ _ _

theorem peerHid : hid (peerH I c rc e 0) (peerH I c rc e 1) = fun i => feat X W1 (ex c e) (qtok (yp c) rc (i 0)) (i 1) :=
  hid_of H c rc e (yp c) (peerH I c rc e) fun _ _ => pay8_apply _ _ _

/-! ## The output rows of a group -/

/-- The parts of the two experts device `c` holds, of a token. -/
def two (X : FVec Ideal ⟨2, ![2048, 1024]⟩ .f32) (A : Vec Ideal ⟨1, ![2048]⟩ .i32) (W1 : FVec Ideal ⟨3, ![4, 1024, 2048]⟩ .f32)
    (W2 : FVec Ideal ⟨3, ![4, 2048, 1024]⟩ .f32) (c : Dev nD) (r : Fin 2048) (j : Fin 1024) : EReal :=
  part X A W1 W2 (ex c 0) r j + part X A W1 W2 (ex c 1) r j

theorem own_part (i : S256x1024.Idx) :
    k0_pay5 (F := Ideal) (eid c e) (tile (quartC c rc) (I.a c)) (hid (ownH I c rc e 0) (ownH I c rc e 1)) (w2full (w2b I c e 0) (w2b I c e 1)) i
      = part X A W1 W2 (ex c e) (qtok c rc (i 0)) (i 1) := by
  rw [ownHid H, w2full_eq H, pay5_apply]
  exact if_congr (by rw [quart_apply H]; rfl) rfl rfl

theorem peer_part (i : S256x1024.Idx) :
    k0_pay9 (F := Ideal) (eid c e) (tile (colR rc) (arow I (yp c))) (hid (peerH I c rc e 0) (peerH I c rc e 1)) (w2full (w2b I c e 0) (w2b I c e 1)) i
      = part X A W1 W2 (ex c e) (qtok (yp c) rc (i 0)) (i 1) := by
  rw [peerHid H, w2full_eq H, pay9_apply]
  exact if_congr (by rw [col_apply H]; rfl) rfl rfl

theorem own_apply (i : S256x1024.Idx) : own I c rc i = two X A W1 W2 c (qtok c rc (i 0)) (i 1) := by
  unfold own two
  rw [pay6_apply, own_part H]
  exact congrArg (· + _) (own_part H c rc 0 i)

theorem peer_apply (i : S256x1024.Idx) : peer I c rc i = two X A W1 W2 c (qtok (yp c) rc (i 0)) (i 1) := by
  unfold peer two
  rw [pay11_apply, peer_part H]
  exact congrArg (· + _) ((pay10_apply _ _ _ _ _).trans (peer_part H c rc 0 i))

/-! ## The output's halves -/

omit H in
theorem stack_of (d : Dev nD) (G : Fin 2048 → Fin 1024 → EReal) (f : Fin 2 → S256x1024.Idx → EReal) (hf : ∀ rc i, f rc i = G (qtok d rc (i 0)) (i 1)) :
    stack (f 0) (f 1) = fun i => G (htok d (i 0)) (i 1) := by
  have h (rc : Fin 2) : tile (rowR rc) (fun i => G (htok d (i 0)) (i 1)) = f rc := by
    funext i
    refine Eq.trans ?_ (hf rc i).symm
    exact congrArg₂ G
      (Fin.ext (by show 1024 * yy d + 512 * xx d + (256 * rc.val + 1 * (i 0).val) = 1024 * yy d + 512 * xx d + 256 * rc.val + (i 0).val; omega))
      (Fin.ext (by show 0 + 1 * (i 1).val = (i 1).val; omega))
  exact (eq_join row_cov (h 0) (h 1)).symm

theorem ownRows : stack (own I c 0) (own I c 1) = fun i => two X A W1 W2 c (htok c (i 0)) (i 1) :=
  stack_of c (two X A W1 W2 c) (own I c) fun rc i => own_apply H c rc i

theorem ownRowsB : stack (ownB I c 0) (ownB I c 1) = fun i => two X A W1 W2 c (htok c (i 0)) (i 1) :=
  stack_of c (two X A W1 W2 c) (ownB I c) fun rc i => (pay7_apply _ _).trans (own_apply H c rc i)

theorem peerRows : stack (peerB I c 0) (peerB I c 1) = fun i => two X A W1 W2 c (htok (yp c) (i 0)) (i 1) :=
  stack_of (yp c) (two X A W1 W2 c) (peerB I c) fun rc i => (pay12_apply _ _).trans (peer_apply H c rc i)

omit H in
/-- The experts of a device and of its second-axis neighbour are all the experts. -/
theorem two_add (r : Fin 2048) (j : Fin 1024) : two X A W1 W2 c r j + two X A W1 W2 (yp c) r j = total X A W1 W2 r j := by
  have h : ∀ c : Dev nD, (ex c 0 = 0 ∧ ex c 1 = 1 ∧ ex (yp c) 0 = 2 ∧ ex (yp c) 1 = 3) ∨ (ex c 0 = 2 ∧ ex c 1 = 3 ∧ ex (yp c) 0 = 0 ∧ ex (yp c) 1 = 1) := by
    decide
  unfold two total
  rcases h c with ⟨h0, h1, h2, h3⟩ | ⟨h0, h1, h2, h3⟩ <;> rw [h0, h1, h2, h3]
  · rw [add_assoc, add_assoc, add_assoc]
  · rw [add_comm, add_assoc, add_assoc, add_assoc]

theorem outMine_eq : outMine I c = fun i => total X A W1 W2 (htok c (i 0)) (i 1) := by
  have hy : yp (yp c) = c := by revert c; decide
  funext i
  unfold outMine
  rw [pay13_apply, ownRows H, peerRows H, hy]
  exact two_add c _ _

theorem outOther_eq : outOther I c = fun i => total X A W1 W2 (htok (xp c) (i 0)) (i 1) := by
  have hd : dg c = yp (xp c) := by revert c; decide
  have hy : yp (yp (xp c)) = xp c := by revert c; decide
  funext i
  unfold outOther
  rw [pay14_apply, ownRowsB H, hd, peerRows H, hy]
  exact two_add (xp c) _ _

omit H in
theorem half_cov (j : S1024x1024.Idx) : j ∈ (halfR c).set ∨ j ∈ (halfR (xp c)).set := by
  have h0 : (j (0 : Fin 2)).val < 1024 := (j (0 : Fin 2)).isLt
  have h1 : (j (1 : Fin 2)).val < 1024 := (j (1 : Fin 2)).isLt
  have hx := xx_lt c
  have hp := xx_xp c
  by_cases h : 512 * xx c ≤ (j (0 : Fin 2)).val ∧ (j (0 : Fin 2)).val < 512 * xx c + 512
  · exact .inl (Rect.mem_set_unit.mpr (Fin.forall_fin_two.mpr ⟨h, ⟨Nat.zero_le _, by show _ < 0 + 1024; omega⟩⟩))
  · exact .inr (Rect.mem_set_unit.mpr (Fin.forall_fin_two.mpr ⟨⟨by show 512 * xx (xp c) ≤ _; omega, by show _ < 512 * xx (xp c) + 512; omega⟩,
      ⟨Nat.zero_le _, by show _ < 0 + 1024; omega⟩⟩))

/-- The output a device holds at the end is its rows of the sum of all the experts' parts. -/
theorem out_eq (Y : S1024x1024.Idx → EReal) (h : tile (halfR c) Y = outMine I c) (h' : tile (halfR (xp c)) Y = outOther I c) :
    Y = fun i => total X A W1 W2 (wtok c (i 0)) (i 1) := by
  have g (d : Dev nD) (hd : yy d = yy c) : tile (halfR d) (fun i => total X A W1 W2 (wtok c (i 0)) (i 1)) = fun i => total X A W1 W2 (htok d (i 0)) (i 1) := by
    funext i
    exact congrArg₂ (total X A W1 W2)
      (Fin.ext (by show 1024 * yy c + (512 * xx d + 1 * (i 0).val) = 1024 * yy d + 512 * xx d + (i 0).val; rw [hd]; omega))
      (Fin.ext (by show 0 + 1 * (i 1).val = (i 1).val; omega))
  exact (eq_join (half_cov c) (h.trans (outMine_eq H c)) (h'.trans (outOther_eq H c))).trans
    (eq_join (half_cov c) (g c rfl) (g (xp c) (yy_xp c))).symm

end Cert.KernelIdeal.Moe
-- ==== Proof.KIn.lean ====
/-
  What the kernel's windows hold of the arguments: each staged block, read at an index of the device's argument array.
-/
module

public import proofs.«01_k».proof.Proof.KVal
public import proofs.«01_k».proof.Proof.KI.Data
public import Idealize.ShloMosaic.Lib.Pipeline.ValueKit
public import Idealize.ShloMosaic.Lib.LayoutAt

@[expose] public section

noncomputable section

namespace Cert.KernelIdeal.Moe

open Idealize.ShloMosaic Idealize.ShloMosaic.TcCoe Cert.Spec
open Cert.KernelIdeal Cert.KernelIdeal.Gen

variable (m : (ℓ : Loc nD τ sig) → Buf (Elt Ideal) ℓ)

theorem idx_x : win0_0.index t0_0 = ![0, 0] := by decide +kernel
theorem idx_a : win0_1.index t0_0 = ![0, 0] := by decide +kernel
theorem idx_w1 : ∀ e fc : Fin 2, win0_2.index (wpt e fc) = ![e.val, 0, fc.val] := by decide +kernel
theorem idx_w2 : ∀ e fc : Fin 2, win0_3.index (wpt e fc) = ![e.val, fc.val, 0] := by decide +kernel

theorem x_at (c : Dev nD) (i : S1024x1024.Idx) : (inp m).x c i = (m ((c : Thread nD τ).loc main_arg0) : S1024x1024.Idx → EReal) i := by
  show iblk m c 0 t0_0 i = _
  blk_ext [iblk, V_main_arg0, idx_x]

theorem a_at (c : Dev nD) (i : S1024x1.Idx) : (inp m).a c i = (m ((c : Thread nD τ).loc main_arg1) : S1024.Idx → BitVec 32) (ix1 (i 0)) := by
  show iblk m c 1 t0_0 i = _
  blk_simp [iblk]
  entry_read
  pointwise
  blk_ext [idx_a]

theorem w1_at (c : Dev nD) (e fc : Fin 2) (i : S1x1024x1024.Idx) :
    (inp m).w1 c e fc i = (m ((c : Thread nD τ).loc main_arg2) : S2x1024x2048.Idx → EReal) (ix3 e (i 1) (ft fc (i 2))) := by
  show iblk m c 2 (wpt e fc) i = _
  blk_ext [iblk, V_main_arg2, idx_w1, ft]

theorem w2_at (c : Dev nD) (e fc : Fin 2) (i : S1x1024x1024.Idx) :
    (inp m).w2 c e fc i = (m ((c : Thread nD τ).loc main_arg3) : S2x2048x1024.Idx → EReal) (ix3 e (ft fc (i 1)) (i 2)) := by
  show iblk m c 3 (wpt e fc) i = _
  blk_ext [iblk, V_main_arg3, idx_w2, ft]

variable {X : FVec Ideal ⟨2, ![2048, 1024]⟩ .f32} {A : Vec Ideal ⟨1, ![2048]⟩ .i32} {W1 : FVec Ideal ⟨3, ![4, 1024, 2048]⟩ .f32}
  {W2 : FVec Ideal ⟨3, ![4, 2048, 1024]⟩ .f32}

theorem mesh_y (c : Dev nD) : Layout.meshLin [2, 2] c.val [1] = yy c := by revert c; decide

/-- Where every device's arguments are its blocks of whole arrays, so is what the windows hold. -/
theorem holds (hm : ∀ c : Dev nD,
      m ((c : Thread nD τ).loc main_arg0) = Layout.blockN ⟨2, ![1024, 1024]⟩ ⟨2, ![2048, 1024]⟩ (Layout.meshBlock [2, 2] ![[1], []] c) X
      ∧ m ((c : Thread nD τ).loc main_arg1) = Layout.blockN ⟨1, ![1024]⟩ ⟨1, ![2048]⟩ (Layout.meshBlock [2, 2] ![[1]] c) A
      ∧ m ((c : Thread nD τ).loc main_arg2) = Layout.blockN ⟨3, ![2, 1024, 2048]⟩ ⟨3, ![4, 1024, 2048]⟩ (Layout.meshBlock [2, 2] ![[1], [], []] c) W1
      ∧ m ((c : Thread nD τ).loc main_arg3) = Layout.blockN ⟨3, ![2, 2048, 1024]⟩ ⟨3, ![4, 2048, 1024]⟩ (Layout.meshBlock [2, 2] ![[1], [], []] c) W2) :
    Holds (inp m) X A W1 W2 where
  x c i := by
    rw [x_at, (hm c).1]
    have h := mesh_y c
    refine congrArg X (Layout.idx_ext (Fin.forall_fin_two.mpr ⟨?_, ?_⟩))
    · show Layout.meshLin [2, 2] c.val [1] * 1024 + (i 0).val = 1024 * yy c + (i 0).val
      omega
    · show 0 * 1024 + (i 1).val = (i 1).val
      omega
  a c i := by
    rw [a_at, (hm c).2.1]
    have h := mesh_y c
    refine congrArg A (Layout.idx_ext (Fin.forall_fin_one.mpr ?_))
    show Layout.meshLin [2, 2] c.val [1] * 1024 + (i 0).val = 1024 * yy c + (i 0).val
    omega
  w1 c e fc i := by
    rw [w1_at, (hm c).2.2.1]
    have h := mesh_y c
    refine congrArg W1 (Layout.idx_ext (Fin.forall_fin_succ.mpr ⟨?_, Fin.forall_fin_two.mpr ⟨?_, ?_⟩⟩))
    · show Layout.meshLin [2, 2] c.val [1] * 2 + e.val = 2 * yy c + e.val
      omega
    · show 0 * 1024 + (i 1).val = (i 1).val
      omega
    · show 0 * 2048 + (1024 * fc.val + (i 2).val) = 1024 * fc.val + (i 2).val
      omega
  w2 c e fc i := by
    rw [w2_at, (hm c).2.2.2]
    have h := mesh_y c
    refine congrArg W2 (Layout.idx_ext (Fin.forall_fin_succ.mpr ⟨?_, Fin.forall_fin_two.mpr ⟨?_, ?_⟩⟩))
    · show Layout.meshLin [2, 2] c.val [1] * 2 + e.val = 2 * yy c + e.val
      omega
    · show 0 * 2048 + (1024 * fc.val + (i 1).val) = 1024 * fc.val + (i 1).val
      omega
    · show 0 * 1024 + (i 2).val = (i 2).val
      omega

/-- A device's rows of an array given by token and column are its block of the array. -/
theorem block_eq (c : Dev nD) (G : Fin 2048 → Fin 1024 → EReal) :
    (fun i : S1024x1024.Idx => G (wtok c (i 0)) (i 1))
      = Layout.blockN ⟨2, ![1024, 1024]⟩ ⟨2, ![2048, 1024]⟩ (Layout.meshBlock [2, 2] ![[1], []] c) (fun i : (⟨2, ![2048, 1024]⟩ : Shape).Idx => G (i 0) (i 1)) := by
  funext i
  have h := mesh_y c
  refine congrArg₂ G (Fin.ext ?_) (Fin.ext ?_)
  · show 1024 * yy c + (i 0).val = Layout.meshLin [2, 2] c.val [1] * 1024 + (i 0).val
    omega
  · show (i 1).val = 0 * 1024 + (i 1).val
    omega

end Cert.KernelIdeal.Moe
-- ==== Proof.RefVal.lean ====
/-
  The reference's value: each of its four selections keeps the outputs of one expert's tokens and leaves the others' as they were.
-/
module

public import proofs.«01_k».proof.Proof.Spec
public import proofs.«01_k».proof.Proof.Gen.ReferenceIdeal.Run

@[expose] public section

noncomputable section

namespace Cert.ReferenceIdeal.Moe

open Idealize.ShloMosaic Idealize.SL.Sem Cert.Spec
open Cert.ReferenceIdeal Cert.ReferenceIdeal.Gen

variable (X : FVec Ideal S2048x1024 .f32) (A : Vec Ideal S2048 .i32) (W1 : FVec Ideal S4x1024x2048 .f32) (W2 : FVec Ideal S4x2048x1024 .f32)

/-- One of the reference's rounds: the outputs of expert `e`'s tokens written over the others. -/
def round (e : Fin 4) (h1 : S4x1024x2048.Slices ![e.val, 0, 0] S1x1024x2048) (h2 : S4x2048x1024.Slices ![e.val, 0, 0] S1x2048x1024)
    (prev : FVec Ideal S2048x1024 .f32) : FVec Ideal S2048x1024 .f32 :=
  select (broadcastInDim S2048x1024 ![0, 1] bcast_S2048x1_S2048x1024_0_1 (broadcastInDim S2048x1 ![0] bcast_S2048_S2048x1_0
      (cmpi .eq A (broadcastInDim S2048 ![] bcast_S_S2048 (constantI S_ 32 (BitVec.ofNat 32 e.val))))))
    (Host.dotGeneral (F := Ideal) (φ₁ := .f32) (φ₂ := .f32) dot_S2048x2048_S2048x1024_S2048x1024_1_0_0_1_n_n none
      (maximumf (F := Ideal) (φ := .f32) (Host.dotGeneral (F := Ideal) (φ₁ := .f32) (φ₂ := .f32) dot_S2048x1024_S1024x2048_S2048x2048_1_0_0_1_n_n none X
          (shapeCast _ (extractStridedSlice S1x1024x2048 ![e.val, 0, 0] W1 h1) shapeCasts_S1x1024x2048_S1024x2048))
        (broadcastInDim S2048x2048 ![] bcast_S_S2048x2048 (constant S_ .f32 0x00000000#32)))
      (shapeCast _ (extractStridedSlice S1x2048x1024 ![e.val, 0, 0] W2 h2) shapeCasts_S1x2048x1024_S2048x1024)) prev

theorem round_apply (e : Fin 4) (h1) (h2) (prev : FVec Ideal S2048x1024 .f32) (i : S2048x1024.Idx) :
    round X A W1 W2 e h1 h2 prev i = if A (ix1 (i 0)) = BitVec.ofNat 32 e.val then expert X W1 W2 e (i 0) (i 1) else prev i := by
  pointwise [round, expert, feat]
  exact select_eq _ _ _ _

/-- The reference's four rounds, from nothing. -/
def rounds : FVec Ideal S2048x1024 .f32 :=
  round X A W1 W2 3 slices_S4x1024x2048_S1x1024x2048_3_0_0 slices_S4x2048x1024_S1x2048x1024_3_0_0
    (round X A W1 W2 2 slices_S4x1024x2048_S1x1024x2048_2_0_0 slices_S4x2048x1024_S1x2048x1024_2_0_0
      (round X A W1 W2 1 slices_S4x1024x2048_S1x1024x2048_1_0_0 slices_S4x2048x1024_S1x2048x1024_1_0_0
        (round X A W1 W2 0 slices_S4x1024x2048_S1x1024x2048_0_0_0 slices_S4x2048x1024_S1x2048x1024_0_0_0
          (broadcastInDim S2048x1024 ![] bcast_S_S2048x1024 (constant (F := Ideal) S_ .f32 0x00000000#32)))))

theorem rounds_eq : rounds X A W1 W2 = fun i => total X A W1 W2 (i 0) (i 1) := by
  funext i
  refine Eq.trans ?_ (total_eq X A W1 W2 (i 0) (i 1)).symm
  unfold rounds
  simp only [round_apply]
  pointwise []

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun r =>
      (r.2.mem (((0 : Dev nD).tc : Thread nD τ).loc main_v48) = fun i : S2048x1024.Idx => total (m (((0 : Dev nD).tc : Thread nD τ).loc main_arg0))
          (m (((0 : Dev nD).tc : Thread nD τ).loc main_arg1)) (m (((0 : Dev nD).tc : Thread nD τ).loc main_arg2)) (m (((0 : Dev nD).tc : Thread nD τ).loc main_arg3)) (i 0) (i 1))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3) :=
  (θ_run _ _ _).mono (fun r h => ⟨((h 0).1.trans (show _ = rounds _ _ _ _ from rfl)).trans (rounds_eq _ _ _ _), (h 0).2⟩) (Value.run m ρ)

end Cert.ReferenceIdeal.Moe

end
-- ==== Proof.lean ====
/-
  The claims about the kernel and its reference.
-/
module

public import proofs.«01_k».proof.Defs
public import proofs.«01_k».proof.Proof.K.Run
public import proofs.«01_k».proof.Proof.KI.Run
public import proofs.«01_k».proof.Proof.KIn
public import proofs.«01_k».proof.Proof.RefVal

@[expose] public section

noncomputable section

namespace Cert.Proof

open Idealize.ShloMosaic Idealize.SL.Sem

/-- The kernel ends on every device with its arguments as they were and every counter at zero. -/
theorem frame_kernel : quiescent_Kernel (hKernel := Cert.Kernel.Gen.facts) := fun m g _ =>
  (θ_run _ _ _).mono (fun _ h => ⟨fun c => (h.1 c).1, h.2⟩) (Cert.Kernel.Moe.run_main m g)

/-- So does its ideal reading. -/
theorem frame_ideal : quiescent_KernelIdeal (hKernelIdeal := Cert.KernelIdeal.Gen.facts) := fun m g _ =>
  (θ_run _ _ _).mono (fun _ h => ⟨fun c => (h.1 c).1, h.2⟩) (Cert.KernelIdeal.Moe.run_main m g)

/-- So does the reference, which has no counters. -/
theorem frame_reference : quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- Over the ideal numbers each device's output is its block of the reference's: both are the sum of the experts' parts. -/
theorem algebraic : algebraic_KernelIdeal_ReferenceIdeal (hKernelIdeal := Cert.KernelIdeal.Gen.facts) (hReferenceIdeal := Cert.ReferenceIdeal.Gen.facts) :=
  fun m g m' g' _ hm => ⟨_,
    (θ_run _ _ _).mono (fun _ h c => ⟨
        (Cert.KernelIdeal.Moe.out_eq (Cert.KernelIdeal.Moe.holds m hm) c _ ((h.1 c).2.2.2 (le_refl _)).1 ((h.1 c).2.2.2 (le_refl _)).2).trans
          (Cert.KernelIdeal.Moe.block_eq c _),
        (h.1 c).1⟩) (Cert.KernelIdeal.Moe.run_main m g),
    Cert.ReferenceIdeal.Moe.run m' g'⟩

theorem claim : Cert.Claim := ⟨Cert.Kernel.Gen.facts, Cert.KernelIdeal.Gen.facts, Cert.ReferenceIdeal.Gen.facts,
  frame_kernel, frame_ideal, frame_reference, trivial, algebraic⟩

end Cert.Proof

end
